-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReference (m : (ℓ : Loc Cert.ProjectReference.nD Cert.ProjectReference.τ Cert.ProjectReference.sig) → Buf (Elt Bits) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReference [hProjectReference : Cert.ProjectReference.Facts] : Prop :=
  ∀ (m : (ℓ : Loc Cert.ProjectReference.nD Cert.ProjectReference.τ Cert.ProjectReference.sig) → Buf (Elt Bits) ℓ) (g : Dev Cert.ProjectReference.nD → PrngReg), Pre_ProjectReference m →
    θ_run (Cert.ProjectReference.defs (F := Bits)) (onTc (τ := Cert.ProjectReference.τ) (Cert.ProjectReference.main (F := Bits))) ⟨m, fun _ => 0, g⟩ (fun r => (∀ c : Dev Cert.ProjectReference.nD,
      r.2.mem ((c.tc : Thread Cert.ProjectReference.nD Cert.ProjectReference.τ).loc Cert.ProjectReference.main_arg0) = m ((c.tc : Thread Cert.ProjectReference.nD Cert.ProjectReference.τ).loc Cert.ProjectReference.main_arg0)
      ∧ r.2.mem ((c.tc : Thread Cert.ProjectReference.nD Cert.ProjectReference.τ).loc Cert.ProjectReference.main_arg1) = m ((c.tc : Thread Cert.ProjectReference.nD Cert.ProjectReference.τ).loc Cert.ProjectReference.main_arg1)
      ∧ r.2.mem ((c.tc : Thread Cert.ProjectReference.nD Cert.ProjectReference.τ).loc Cert.ProjectReference.main_arg2) = m ((c.tc : Thread Cert.ProjectReference.nD Cert.ProjectReference.τ).loc Cert.ProjectReference.main_arg2)
      ∧ r.2.mem ((c.tc : Thread Cert.ProjectReference.nD Cert.ProjectReference.τ).loc Cert.ProjectReference.main_arg3) = m ((c.tc : Thread Cert.ProjectReference.nD Cert.ProjectReference.τ).loc Cert.ProjectReference.main_arg3)
      ∧ r.2.mem ((c.tc : Thread Cert.ProjectReference.nD Cert.ProjectReference.τ).loc Cert.ProjectReference.main_arg4) = m ((c.tc : Thread Cert.ProjectReference.nD Cert.ProjectReference.τ).loc Cert.ProjectReference.main_arg4)
      ∧ r.2.mem ((c.tc : Thread Cert.ProjectReference.nD Cert.ProjectReference.τ).loc Cert.ProjectReference.main_arg5) = m ((c.tc : Thread Cert.ProjectReference.nD Cert.ProjectReference.τ).loc Cert.ProjectReference.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def preserves_Kernel_KernelIdeal : Prop :=
  IdealRules.named_const.Statement Cert.KernelIdeal.κ "inv_max" .f32 0x3B124925#32 ((1 / 448 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Project_ProjectIdeal : Prop :=
  IdealRules.named_const.Statement Cert.ProjectIdeal.κ "inv_max" .f32 0x3B124925#32 ((1 / 448 : ℝ) : EReal)

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v16_0)) (v1 : (c : Dev Cert.ProjectIdeal.nD) → Buf (Elt Ideal) ((c.tc : Thread Cert.ProjectIdeal.nD Cert.ProjectIdeal.τ).loc Cert.ProjectIdeal.main_v16_1)) (v2 : (c : Dev Cert.ProjectIdeal.nD) → Buf (Elt Ideal) ((c.tc : Thread Cert.ProjectIdeal.nD Cert.ProjectIdeal.τ).loc Cert.ProjectIdeal.main_v16_2)) (v3 : (c : Dev Cert.ProjectIdeal.nD) → Buf (Elt Ideal) ((c.tc : Thread Cert.ProjectIdeal.nD Cert.ProjectIdeal.τ).loc Cert.ProjectIdeal.main_v16_3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16_0) = v0 c
          ∧ r.2.mem ((c.tc : Thread Cert.ProjectIdeal.nD Cert.ProjectIdeal.τ).loc Cert.ProjectIdeal.main_v16_1) = v1 c
          ∧ r.2.mem ((c.tc : Thread Cert.ProjectIdeal.nD Cert.ProjectIdeal.τ).loc Cert.ProjectIdeal.main_v16_2) = v2 c
          ∧ r.2.mem ((c.tc : Thread Cert.ProjectIdeal.nD Cert.ProjectIdeal.τ).loc Cert.ProjectIdeal.main_v16_3) = v3 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v0_0) = v0 c
          ∧ r.2.mem ((c.tc : Thread Cert.ProjectReferenceIdeal.nD Cert.ProjectReferenceIdeal.τ).loc Cert.ProjectReferenceIdeal.main_v0_1) = v1 c
          ∧ r.2.mem ((c.tc : Thread Cert.ProjectReferenceIdeal.nD Cert.ProjectReferenceIdeal.τ).loc Cert.ProjectReferenceIdeal.main_v0_2) = v2 c
          ∧ r.2.mem ((c.tc : Thread Cert.ProjectReferenceIdeal.nD Cert.ProjectReferenceIdeal.τ).loc Cert.ProjectReferenceIdeal.main_v0_3) = v3 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def Claim : Prop :=
  ∃ (hKernel : Cert.Kernel.Facts) (hKernelIdeal : Cert.KernelIdeal.Facts) (hReference : Cert.Reference.Facts) (hReferenceIdeal : Cert.ReferenceIdeal.Facts) (hProject : Cert.Project.Facts) (hProjectIdeal : Cert.ProjectIdeal.Facts) (hProjectReference : Cert.ProjectReference.Facts) (hProjectReferenceIdeal : Cert.ProjectReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Project (hProject := hProject)
    ∧ quiescent_ProjectIdeal (hProjectIdeal := hProjectIdeal)
    ∧ quiescent_ProjectReference (hProjectReference := hProjectReference)
    ∧ quiescent_ProjectReferenceIdeal (hProjectReferenceIdeal := hProjectReferenceIdeal)
    ∧ preserves_Kernel_KernelIdeal
    ∧ algebraic_KernelIdeal_ReferenceIdeal (hKernelIdeal := hKernelIdeal) (hReferenceIdeal := hReferenceIdeal)
    ∧ preserves_Project_ProjectIdeal
    ∧ algebraic_ProjectIdeal_ProjectReferenceIdeal (hProjectIdeal := hProjectIdeal) (hProjectReferenceIdeal := hProjectReferenceIdeal)
-- ==== Kernel.lean ====
abbrev S2x384x384x128 : Shape := ⟨4, ![2, 384, 384, 128]⟩
abbrev S2x384x384 : Shape := ⟨3, ![2, 384, 384]⟩
abbrev S2x384x384x96 : Shape := ⟨4, ![2, 384, 384, 96]⟩
abbrev S2x384x96 : Shape := ⟨3, ![2, 384, 96]⟩
abbrev S96 : Shape := ⟨1, ![96]⟩
abbrev S128x512 : Shape := ⟨2, ![128, 512]⟩
abbrev S512 : Shape := ⟨1, ![512]⟩
abbrev S96x128 : Shape := ⟨2, ![96, 128]⟩
abbrev S128 : Shape := ⟨1, ![128]⟩
abbrev S512x128 : Shape := ⟨2, ![512, 128]⟩
abbrev S_ : Shape := ⟨0, ![]⟩
abbrev S2x384 : Shape := ⟨2, ![2, 384]⟩
abbrev S2x1x384 : Shape := ⟨3, ![2, 1, 384]⟩
abbrev S2x12x8x4x3x128x24x4 : Shape := ⟨8, ![2, 12, 8, 4, 3, 128, 24, 4]⟩
abbrev S2x12x8x1x3x128x24x4 : Shape := ⟨8, ![2, 12, 8, 1, 3, 128, 24, 4]⟩
abbrev S2x12x8x3x128x24x4 : Shape := ⟨7, ![2, 12, 8, 3, 128, 24, 4]⟩
abbrev S2x12x3x4x24x8x128 : Shape := ⟨7, ![2, 12, 3, 4, 24, 8, 128]⟩
abbrev S2x12x3x768x128 : Shape := ⟨5, ![2, 12, 3, 768, 128]⟩
abbrev S2x96x384 : Shape := ⟨3, ![2, 96, 384]⟩
abbrev S96x1 : Shape := ⟨2, ![96, 1]⟩
abbrev S128x96 : Shape := ⟨2, ![128, 96]⟩
abbrev S128x128 : Shape := ⟨2, ![128, 128]⟩
abbrev S128x1 : Shape := ⟨2, ![128, 1]⟩
abbrev S2x384x96x384 : Shape := ⟨4, ![2, 384, 96, 384]⟩
abbrev S1x8x128x128 : Shape := ⟨4, ![1, 8, 128, 128]⟩
abbrev S1x8x128 : Shape := ⟨3, ![1, 8, 128]⟩
abbrev S1x96x384 : Shape := ⟨3, ![1, 96, 384]⟩
abbrev S1x8x96x128 : Shape := ⟨4, ![1, 8, 96, 128]⟩
abbrev S12x3x768x128 : Shape := ⟨4, ![12, 3, 768, 128]⟩
abbrev S19200x128 : Shape := ⟨2, ![19200, 128]⟩
abbrev S2 : Shape := ⟨1, ![2]⟩
abbrev S1 : Shape := ⟨1, ![1]⟩
abbrev S1x12x3x768x128 : Shape := ⟨5, ![1, 12, 3, 768, 128]⟩
abbrev S6x1x8x128 : Shape := ⟨4, ![6, 1, 8, 128]⟩
abbrev S6x8x128 : Shape := ⟨3, ![6, 8, 128]⟩
abbrev S48x128 : Shape := ⟨2, ![48, 128]⟩
abbrev S48x384 : Shape := ⟨2, ![48, 384]⟩
abbrev S192x384 : Shape := ⟨2, ![192, 384]⟩
abbrev S4x1x8x128 : Shape := ⟨4, ![4, 1, 8, 128]⟩
abbrev S4x8x128 : Shape := ⟨3, ![4, 8, 128]⟩
abbrev S32x128 : Shape := ⟨2, ![32, 128]⟩
abbrev S32x384 : Shape := ⟨2, ![32, 384]⟩
abbrev S128x384 : Shape := ⟨2, ![128, 384]⟩
abbrev S192x128 : Shape := ⟨2, ![192, 128]⟩
abbrev S1x96x128 : Shape := ⟨3, ![1, 96, 128]⟩
abbrev S96x128x1 : Shape := ⟨3, ![96, 128, 1]⟩
abbrev S1x128 : Shape := ⟨2, ![1, 128]⟩
abbrev S1x1x128 : Shape := ⟨3, ![1, 1, 128]⟩
abbrev S1x1x96x128 : Shape := ⟨4, ![1, 1, 96, 128]⟩
abbrev S1x1x128x128 : Shape := ⟨4, ![1, 1, 128, 128]⟩

abbrev nBuf : Space → Nat
  | .hbm => 83
  | .vmem => 27
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384, .f32⟩
  | .hbm, ⟨2, _⟩ => ⟨S2x384x384x128, .fp8e4m3⟩
  | .hbm, ⟨3, _⟩ => ⟨S2x384x384, .f32⟩
  | .hbm, ⟨4, _⟩ => ⟨S2x384x384x96, .i8⟩
  | .hbm, ⟨5, _⟩ => ⟨S2x384x96, .f32⟩
  | .hbm, ⟨6, _⟩ => ⟨S2x384x384x96, .i8⟩
  | .hbm, ⟨7, _⟩ => ⟨S2x384x96, .f32⟩
  | .hbm, ⟨8, _⟩ => ⟨S96, .f32⟩
  | .hbm, ⟨9, _⟩ => ⟨S96, .f32⟩
  | .hbm, ⟨10, _⟩ => ⟨S128x512, .fp8e4m3⟩
  | .hbm, ⟨11, _⟩ => ⟨S512, .f32⟩
  | .hbm, ⟨12, _⟩ => ⟨S96x128, .fp8e4m3⟩
  | .hbm, ⟨13, _⟩ => ⟨S128, .f32⟩
  | .hbm, ⟨14, _⟩ => ⟨S512x128, .fp8e4m3⟩
  | .hbm, ⟨15, _⟩ => ⟨S_, .f32⟩
  | .hbm, ⟨16, _⟩ => ⟨S2x384, .f32⟩
  | .hbm, ⟨17, _⟩ => ⟨S2x1x384, .f32⟩
  | .hbm, ⟨18, _⟩ => ⟨S2x384x384x96, .i32⟩
  | .hbm, ⟨19, _⟩ => ⟨S2x12x8x4x3x128x24x4, .i32⟩
  | .hbm, ⟨20, _⟩ => ⟨S2x12x8x1x3x128x24x4, .i32⟩
  | .hbm, ⟨21, _⟩ => ⟨S2x12x8x3x128x24x4, .i32⟩
  | .hbm, ⟨22, _⟩ => ⟨S2x12x8x1x3x128x24x4, .i32⟩
  | .hbm, ⟨23, _⟩ => ⟨S2x12x8x3x128x24x4, .i32⟩
  | .hbm, ⟨24, _⟩ => ⟨S_, .i32⟩
  | .hbm, ⟨25, _⟩ => ⟨S2x12x8x3x128x24x4, .i32⟩
  | .hbm, ⟨26, _⟩ => ⟨S2x12x8x3x128x24x4, .i32⟩
  | .hbm, ⟨27, _⟩ => ⟨S2x12x8x3x128x24x4, .i32⟩
  | .hbm, ⟨28, _⟩ => ⟨S2x12x8x1x3x128x24x4, .i32⟩
  | .hbm, ⟨29, _⟩ => ⟨S2x12x8x3x128x24x4, .i32⟩
  | .hbm, ⟨30, _⟩ => ⟨S_, .i32⟩
  | .hbm, ⟨31, _⟩ => ⟨S2x12x8x3x128x24x4, .i32⟩
  | .hbm, ⟨32, _⟩ => ⟨S2x12x8x3x128x24x4, .i32⟩
  | .hbm, ⟨33, _⟩ => ⟨S2x12x8x3x128x24x4, .i32⟩
  | .hbm, ⟨34, _⟩ => ⟨S2x12x8x1x3x128x24x4, .i32⟩
  | .hbm, ⟨35, _⟩ => ⟨S2x12x8x3x128x24x4, .i32⟩
  | .hbm, ⟨36, _⟩ => ⟨S_, .i32⟩
  | .hbm, ⟨37, _⟩ => ⟨S2x12x8x3x128x24x4, .i32⟩
  | .hbm, ⟨38, _⟩ => ⟨S2x12x8x3x128x24x4, .i32⟩
  | .hbm, ⟨39, _⟩ => ⟨S2x12x8x3x128x24x4, .i32⟩
  | .hbm, ⟨40, _⟩ => ⟨S2x12x3x4x24x8x128, .i32⟩
  | .hbm, ⟨41, _⟩ => ⟨S2x12x3x768x128, .i32⟩
  | .hbm, ⟨42, _⟩ => ⟨S2x384x384x96, .i32⟩
  | .hbm, ⟨43, _⟩ => ⟨S2x12x8x4x3x128x24x4, .i32⟩
  | .hbm, ⟨44, _⟩ => ⟨S2x12x8x1x3x128x24x4, .i32⟩
  | .hbm, ⟨45, _⟩ => ⟨S2x12x8x3x128x24x4, .i32⟩
  | .hbm, ⟨46, _⟩ => ⟨S2x12x8x1x3x128x24x4, .i32⟩
  | .hbm, ⟨47, _⟩ => ⟨S2x12x8x3x128x24x4, .i32⟩
  | .hbm, ⟨48, _⟩ => ⟨S_, .i32⟩
  | .hbm, ⟨49, _⟩ => ⟨S2x12x8x3x128x24x4, .i32⟩
  | .hbm, ⟨50, _⟩ => ⟨S2x12x8x3x128x24x4, .i32⟩
  | .hbm, ⟨51, _⟩ => ⟨S2x12x8x3x128x24x4, .i32⟩
  | .hbm, ⟨52, _⟩ => ⟨S2x12x8x1x3x128x24x4, .i32⟩
  | .hbm, ⟨53, _⟩ => ⟨S2x12x8x3x128x24x4, .i32⟩
  | .hbm, ⟨54, _⟩ => ⟨S_, .i32⟩
  | .hbm, ⟨55, _⟩ => ⟨S2x12x8x3x128x24x4, .i32⟩
  | .hbm, ⟨56, _⟩ => ⟨S2x12x8x3x128x24x4, .i32⟩
  | .hbm, ⟨57, _⟩ => ⟨S2x12x8x3x128x24x4, .i32⟩
  | .hbm, ⟨58, _⟩ => ⟨S2x12x8x1x3x128x24x4, .i32⟩
  | .hbm, ⟨59, _⟩ => ⟨S2x12x8x3x128x24x4, .i32⟩
  | .hbm, ⟨60, _⟩ => ⟨S_, .i32⟩
  | .hbm, ⟨61, _⟩ => ⟨S2x12x8x3x128x24x4, .i32⟩
  | .hbm, ⟨62, _⟩ => ⟨S2x12x8x3x128x24x4, .i32⟩
  | .hbm, ⟨63, _⟩ => ⟨S2x12x8x3x128x24x4, .i32⟩
  | .hbm, ⟨64, _⟩ => ⟨S2x12x3x4x24x8x128, .i32⟩
  | .hbm, ⟨65, _⟩ => ⟨S2x12x3x768x128, .i32⟩
  | .hbm, ⟨66, _⟩ => ⟨S2x96x384, .f32⟩
  | .hbm, ⟨67, _⟩ => ⟨S2x96x384, .f32⟩
  | .hbm, ⟨68, _⟩ => ⟨S2x96x384, .f32⟩
  | .hbm, ⟨69, _⟩ => ⟨S2x96x384, .f32⟩
  | .hbm, ⟨70, _⟩ => ⟨S2x96x384, .f32⟩
  | .hbm, ⟨71, _⟩ => ⟨S2x96x384, .f32⟩
  | .hbm, ⟨72, _⟩ => ⟨S96x1, .f32⟩
  | .hbm, ⟨73, _⟩ => ⟨S96x1, .f32⟩
  | .hbm, ⟨74, _⟩ => ⟨S128x96, .fp8e4m3⟩
  | .hbm, ⟨75, _⟩ => ⟨S128x128, .fp8e4m3⟩
  | .hbm, ⟨76, _⟩ => ⟨S128x1, .f32⟩
  | .hbm, ⟨77, _⟩ => ⟨S128, .f32⟩
  | .hbm, ⟨78, _⟩ => ⟨S128x1, .f32⟩
  | .hbm, ⟨79, _⟩ => ⟨S2x384x384x128, .bf16⟩
  | .hbm, ⟨80, _⟩ => ⟨S2x384x384, .f32⟩
  | .hbm, ⟨81, _⟩ => ⟨S2x384x96x384, .fp8e4m3⟩
  | .hbm, ⟨82, _⟩ => ⟨S2x384x384, .f32⟩
  | .local _ .vmem, ⟨0, _⟩ => ⟨S1x8x128x128, .bf16⟩
  | .local _ .vmem, ⟨1, _⟩ => ⟨S1x8x128x128, .bf16⟩
  | .local _ .vmem, ⟨2, _⟩ => ⟨S1x8x128x128, .fp8e4m3⟩
  | .local _ .vmem, ⟨3, _⟩ => ⟨S1x8x128x128, .fp8e4m3⟩
  | .local _ .vmem, ⟨4, _⟩ => ⟨S1x8x128, .f32⟩
  | .local _ .vmem, ⟨5, _⟩ => ⟨S1x8x128, .f32⟩
  | .local _ .vmem, ⟨6, _⟩ => ⟨S1x96x384, .f32⟩
  | .local _ .vmem, ⟨7, _⟩ => ⟨S1x96x384, .f32⟩
  | .local _ .vmem, ⟨8, _⟩ => ⟨S1x96x384, .f32⟩
  | .local _ .vmem, ⟨9, _⟩ => ⟨S1x96x384, .f32⟩
  | .local _ .vmem, ⟨10, _⟩ => ⟨S96x1, .f32⟩
  | .local _ .vmem, ⟨11, _⟩ => ⟨S96x1, .f32⟩
  | .local _ .vmem, ⟨12, _⟩ => ⟨S128x96, .fp8e4m3⟩
  | .local _ .vmem, ⟨13, _⟩ => ⟨S128x128, .fp8e4m3⟩
  | .local _ .vmem, ⟨14, _⟩ => ⟨S128x1, .f32⟩
  | .local _ .vmem, ⟨15, _⟩ => ⟨S128x1, .f32⟩
  | .local _ .vmem, ⟨16, _⟩ => ⟨S1x8x128x128, .bf16⟩
  | .local _ .vmem, ⟨17, _⟩ => ⟨S1x8x128x128, .bf16⟩
  | .local _ .vmem, ⟨18, _⟩ => ⟨S1x8x128, .f32⟩
  | .local _ .vmem, ⟨19, _⟩ => ⟨S1x8x128, .f32⟩
  | .local _ .vmem, ⟨20, _⟩ => ⟨S1x8x96x128, .fp8e4m3⟩
  | .local _ .vmem, ⟨21, _⟩ => ⟨S1x8x96x128, .fp8e4m3⟩
  | .local _ .vmem, ⟨22, _⟩ => ⟨S1x8x128, .f32⟩
  | .local _ .vmem, ⟨23, _⟩ => ⟨S1x8x128, .f32⟩
  | .local _ .vmem, ⟨24, _⟩ => ⟨S12x3x768x128, .i32⟩
  | .local _ .vmem, ⟨25, _⟩ => ⟨S12x3x768x128, .i32⟩
  | .local _ .vmem, ⟨26, _⟩ => ⟨S19200x128, .f32⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58_0 : Ref sig .tc := ⟨.hbm, 79, rfl⟩
abbrev main_v58_1 : Ref sig .tc := ⟨.hbm, 80, rfl⟩
abbrev main_v58_2 : Ref sig .tc := ⟨.hbm, 81, rfl⟩
abbrev main_v58_3 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨4, ![2, 3, 2, 24], ![false, false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let arg3 : BitVec 32 := BitVec.ofNat 32 (i 3).val
  let c0_i32_1 : BitVec 32 := 0#32
  let v3 : BitVec 1 := Scalar.cmpi .eq arg3 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k0_off1 (i : grid0.Coords) : Fin 5 → Nat :=
  let arg0 : BitVec 32 := BitVec.ofNat 32 (i 0).val
  let c0_i32_17 : BitVec 32 := 0#32
  let c0_i32_18 : BitVec 32 := 0#32
  let c0_i32_19 : BitVec 32 := 0#32
  let c0_i32_20 : BitVec 32 := 0#32
  ![arg0.toNat, 0, 0, 0, 0]
def k0_cond2 (i : grid0.Coords) : BitVec 1 :=
  let arg3 : BitVec 32 := BitVec.ofNat 32 (i 3).val
  let c0_i32_3 : BitVec 32 := 0#32
  let v7 : BitVec 1 := Scalar.cmpi .eq arg3 c0_i32_3
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_16 : BitVec 32 := 0#32
  let c96_i32 : BitVec 32 := 96#32
  let v35 : BitVec 32 := Scalar.addi c0_i32_16 c96_i32
  let c1_i32_17 : BitVec 32 := 1#32
  ⟨c0_i32_16, v35, c1_i32_17⟩
def k0_mult1 (k0_t1 : Fin k0_t1_loop.trips) : BitVec 32 :=
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  v36
def k0_off2 (i : grid0.Coords) (k0_t1 : Fin k0_t1_loop.trips) : Fin 4 → Nat :=
  let arg2 : BitVec 32 := BitVec.ofNat 32 (i 2).val
  let c6_i32 : BitVec 32 := 6#32
  let v67 : BitVec 32 := Scalar.muli arg2 c6_i32
  let v68 : Index := Scalar.indexCast v67
  let c0 : Index := 0#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v69 : Index := Scalar.indexCast v37
  let c0_32 : Index := 0#32
  ![v68.toNat, 0, v69.toNat, 0]
def k0_off3 (i : grid0.Coords) (k0_t1 : Fin k0_t1_loop.trips) : Fin 4 → Nat :=
  let arg2 : BitVec 32 := BitVec.ofNat 32 (i 2).val
  let c6_i32 : BitVec 32 := 6#32
  let v67 : BitVec 32 := Scalar.muli arg2 c6_i32
  let v73 : Index := Scalar.indexCast v67
  let c1 : Index := 1#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v74 : Index := Scalar.indexCast v37
  let c0_33 : Index := 0#32
  ![v73.toNat, 1, v74.toNat, 0]
def k0_off4 (i : grid0.Coords) (k0_t1 : Fin k0_t1_loop.trips) : Fin 4 → Nat :=
  let arg2 : BitVec 32 := BitVec.ofNat 32 (i 2).val
  let c6_i32 : BitVec 32 := 6#32
  let v67 : BitVec 32 := Scalar.muli arg2 c6_i32
  let v78 : Index := Scalar.indexCast v67
  let c2 : Index := 2#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v79 : Index := Scalar.indexCast v37
  let c0_34 : Index := 0#32
  ![v78.toNat, 2, v79.toNat, 0]
def k0_off5 (i : grid0.Coords) (k0_t1 : Fin k0_t1_loop.trips) : Fin 4 → Nat :=
  let arg1 : BitVec 32 := BitVec.ofNat 32 (i 1).val
  let c4_i32_35 : BitVec 32 := 4#32
  let v85 : BitVec 32 := Scalar.muli arg1 c4_i32_35
  let v86 : Index := Scalar.indexCast v85
  let c0_36 : Index := 0#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v87 : Index := Scalar.indexCast v37
  let c0_37 : Index := 0#32
  ![v86.toNat, 0, v87.toNat, 0]
def k0_off6 (i : grid0.Coords) (k0_t1 : Fin k0_t1_loop.trips) : Fin 4 → Nat :=
  let arg1 : BitVec 32 := BitVec.ofNat 32 (i 1).val
  let c4_i32_35 : BitVec 32 := 4#32
  let v85 : BitVec 32 := Scalar.muli arg1 c4_i32_35
  let v91 : Index := Scalar.indexCast v85
  let c1_38 : Index := 1#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v92 : Index := Scalar.indexCast v37
  let c0_39 : Index := 0#32
  ![v91.toNat, 1, v92.toNat, 0]
def k0_off7 (i : grid0.Coords) (k0_t1 : Fin k0_t1_loop.trips) : Fin 4 → Nat :=
  let arg1 : BitVec 32 := BitVec.ofNat 32 (i 1).val
  let c4_i32_35 : BitVec 32 := 4#32
  let v85 : BitVec 32 := Scalar.muli arg1 c4_i32_35
  let v96 : Index := Scalar.indexCast v85
  let c2_40 : Index := 2#32
  let c0_i32_16 : BitVec 32 := 0#32
  let c1_i32_17 : BitVec 32 := 1#32
  let arg25 : BitVec 32 := Scf.iv c0_i32_16 c1_i32_17 k0_t1
  let c8_i32_19 : BitVec 32 := 8#32
  let v36 : BitVec 32 := Scalar.muli arg25 c8_i32_19
  let v37 : BitVec 32 := v36
  let v97 : Index := Scalar.indexCast v37
  let c0_41 : Index := 0#32
  ![v96.toNat, 2, v97.toNat, 0]
def k0_off8 (k0_t1 : Fin k0_t1_loop.trips) : Fin 2 → Nat :=
  let c4_i32 : BitVec 32 := 4#32
  let c0_i32_16 : BitVec 32 := 0#32
  let c1_i32_17 : BitVec 32 := 1#32
  let arg25 : BitVec 32 := Scf.iv c0_i32_16 c1_i32_17 k0_t1
  let c24_i32 : BitVec 32 := 24#32
  let c0_i32_20 : BitVec 32 := 0#32
  let v38 : BitVec 1 := Scalar.cmpi .eq c24_i32 c0_i32_20
  let c1_i32_21 : BitVec 32 := 1#32
  let v39 : BitVec 32 := Scalar.select v38 c1_i32_21 c24_i32
  let v40 : BitVec 32 := Scalar.remsi arg25 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let v48 : BitVec 32 := Scalar.muli c4_i32 v47
  let c0_i32_26 : BitVec 32 := 0#32
  let v50 : BitVec 1 := Scalar.cmpi .sgt arg25 c0_i32_26
  let v51 : BitVec 32 := Scalar.extui v50
  let c0_i32_27 : BitVec 32 := 0#32
  let v52 : BitVec 1 := Scalar.cmpi .slt arg25 c0_i32_27
  let v53 : BitVec 32 := Scalar.extui v52
  let v54 : BitVec 32 := Scalar.subi v51 v53
  let c24_i32_25 : BitVec 32 := 24#32
  let c0_i32_28 : BitVec 32 := 0#32
  let v55 : BitVec 1 := Scalar.cmpi .sgt c24_i32_25 c0_i32_28
  let v56 : BitVec 32 := Scalar.extui v55
  let c0_i32_29 : BitVec 32 := 0#32
  let v57 : BitVec 1 := Scalar.cmpi .slt c24_i32_25 c0_i32_29
  let v58 : BitVec 32 := Scalar.extui v57
  let v59 : BitVec 32 := Scalar.subi v56 v58
  let v60 : BitVec 1 := Scalar.cmpi .ne v54 v59
  let v61 : BitVec 32 := Scalar.remsi arg25 c24_i32_25
  let c0_i32_30 : BitVec 32 := 0#32
  let v62 : BitVec 1 := Scalar.cmpi .ne v61 c0_i32_30
  let v63 : BitVec 1 := Scalar.andi v60 v62
  let v49 : BitVec 32 := Scalar.divsi arg25 c24_i32_25
  let c1_i32_31 : BitVec 32 := 1#32
  let v64 : BitVec 32 := Scalar.subi v49 c1_i32_31
  let v65 : BitVec 32 := Scalar.select v63 v64 v49
  let v66 : BitVec 32 := Scalar.addi v48 v65
  let v104 : Index := Scalar.indexCast v66
  let c0_42 : Index := 0#32
  ![v104.toNat, 0]
def k0_mult2 (i : grid0.Coords) : BitVec 32 :=
  let arg2 : BitVec 32 := BitVec.ofNat 32 (i 2).val
  let c192_i32 : BitVec 32 := 192#32
  let v10 : BitVec 32 := Scalar.muli arg2 c192_i32
  let arg3 : BitVec 32 := BitVec.ofNat 32 (i 3).val
  let c8_i32 : BitVec 32 := 8#32
  let v11 : BitVec 32 := Scalar.muli arg3 c8_i32
  let v12 : BitVec 32 := Scalar.addi v10 v11
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c128_i32 : BitVec 32 := 128#32
  let c0_i32_7 : BitVec 32 := 0#32
  let v19 : BitVec 1 := Scalar.cmpi .sgt c128_i32 c0_i32_7
  let v20 : BitVec 32 := Scalar.extui v19
  let c0_i32_8 : BitVec 32 := 0#32
  let v21 : BitVec 1 := Scalar.cmpi .slt c128_i32 c0_i32_8
  let v22 : BitVec 32 := Scalar.extui v21
  let v23 : BitVec 32 := Scalar.subi v20 v22
  let v24 : BitVec 1 := Scalar.cmpi .ne v18 v23
  let v25 : BitVec 32 := Scalar.remsi v12 c128_i32
  let c0_i32_9 : BitVec 32 := 0#32
  let v26 : BitVec 1 := Scalar.cmpi .ne v25 c0_i32_9
  let v27 : BitVec 1 := Scalar.andi v24 v26
  let v13 : BitVec 32 := Scalar.divsi v12 c128_i32
  let c1_i32 : BitVec 32 := 1#32
  let v28 : BitVec 32 := Scalar.subi v13 c1_i32
  let v29 : BitVec 32 := Scalar.select v27 v28 v13
  let c128_i32_10 : BitVec 32 := 128#32
  let v30 : BitVec 32 := Scalar.muli v29 c128_i32_10
  v30
def k0_mult3 (i : grid0.Coords) : BitVec 32 :=
  let arg1 : BitVec 32 := BitVec.ofNat 32 (i 1).val
  let c128_i32_11 : BitVec 32 := 128#32
  let v32 : BitVec 32 := Scalar.muli arg1 c128_i32_11
  v32
@[reducible] def k0_t2_loop : Scf.Loop 32 :=
  let c0_i32_12 : BitVec 32 := 0#32
  let c8_i32_13 : BitVec 32 := 8#32
  let v34 : BitVec 32 := Scalar.addi c0_i32_12 c8_i32_13
  let c1_i32_14 : BitVec 32 := 1#32
  ⟨c0_i32_12, v34, c1_i32_14⟩
def k0_off9 (i : grid0.Coords) : Fin 3 → Nat :=
  let c0 : Index := 0#32
  let c0_16 : Index := 0#32
  let arg2 : BitVec 32 := BitVec.ofNat 32 (i 2).val
  let c192_i32 : BitVec 32 := 192#32
  let v10 : BitVec 32 := Scalar.muli arg2 c192_i32
  let arg3 : BitVec 32 := BitVec.ofNat 32 (i 3).val
  let c8_i32 : BitVec 32 := 8#32
  let v11 : BitVec 32 := Scalar.muli arg3 c8_i32
  let v12 : BitVec 32 := Scalar.addi v10 v11
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c128_i32 : BitVec 32 := 128#32
  let c0_i32_7 : BitVec 32 := 0#32
  let v19 : BitVec 1 := Scalar.cmpi .sgt c128_i32 c0_i32_7
  let v20 : BitVec 32 := Scalar.extui v19
  let c0_i32_8 : BitVec 32 := 0#32
  let v21 : BitVec 1 := Scalar.cmpi .slt c128_i32 c0_i32_8
  let v22 : BitVec 32 := Scalar.extui v21
  let v23 : BitVec 32 := Scalar.subi v20 v22
  let v24 : BitVec 1 := Scalar.cmpi .ne v18 v23
  let v25 : BitVec 32 := Scalar.remsi v12 c128_i32
  let c0_i32_9 : BitVec 32 := 0#32
  let v26 : BitVec 1 := Scalar.cmpi .ne v25 c0_i32_9
  let v27 : BitVec 1 := Scalar.andi v24 v26
  let v13 : BitVec 32 := Scalar.divsi v12 c128_i32
  let c1_i32 : BitVec 32 := 1#32
  let v28 : BitVec 32 := Scalar.subi v13 c1_i32
  let v29 : BitVec 32 := Scalar.select v27 v28 v13
  let c128_i32_10 : BitVec 32 := 128#32
  let v30 : BitVec 32 := Scalar.muli v29 c128_i32_10
  let v31 : BitVec 32 := v30
  let v35 : Index := Scalar.indexCast v31
  ![0, 0, v35.toNat]
def k0_off10 (i : grid0.Coords) (k0_t2 : Fin k0_t2_loop.trips) : Fin 2 → Nat :=
  let arg3 : BitVec 32 := BitVec.ofNat 32 (i 3).val
  let c8_i32_19 : BitVec 32 := 8#32
  let v49 : BitVec 32 := Scalar.muli arg3 c8_i32_19
  let c0_i32_12 : BitVec 32 := 0#32
  let c1_i32_14 : BitVec 32 := 1#32
  let arg25 : BitVec 32 := Scf.iv c0_i32_12 c1_i32_14 k0_t2
  let v50 : BitVec 32 := Scalar.addi v49 arg25
  let c100_i32 : BitVec 32 := 100#32
  let v51 : BitVec 32 := Scalar.muli v50 c100_i32
  let v52 : Index := Scalar.indexCast v51
  let c0_20 : Index := 0#32
  ![v52.toNat, 0]
def k0_off11 (i : grid0.Coords) : Fin 3 → Nat :=
  let c0_21 : Index := 0#32
  let c0_22 : Index := 0#32
  let arg1 : BitVec 32 := BitVec.ofNat 32 (i 1).val
  let c128_i32_11 : BitVec 32 := 128#32
  let v32 : BitVec 32 := Scalar.muli arg1 c128_i32_11
  let v33 : BitVec 32 := v32
  let v55 : Index := Scalar.indexCast v33
  ![0, 0, v55.toNat]
def k0_off12 (k0_t2 : Fin k0_t2_loop.trips) : Fin 3 → Nat :=
  let c0_39 : Index := 0#32
  let c0_i32_12 : BitVec 32 := 0#32
  let c1_i32_14 : BitVec 32 := 1#32
  let arg25 : BitVec 32 := Scf.iv c0_i32_12 c1_i32_14 k0_t2
  let v103 : Index := Scalar.indexCast arg25
  let c0_40 : Index := 0#32
  ![0, v103.toNat, 0]
def k0_off13 (k0_t2 : Fin k0_t2_loop.trips) : Fin 4 → Nat :=
  let c0_43 : Index := 0#32
  let c0_i32_12 : BitVec 32 := 0#32
  let c1_i32_14 : BitVec 32 := 1#32
  let arg25 : BitVec 32 := Scf.iv c0_i32_12 c1_i32_14 k0_t2
  let v111 : Index := Scalar.indexCast arg25
  let c0_44 : Index := 0#32
  let c0_45 : Index := 0#32
  ![0, v111.toNat, 0, 0]
def k0_off14 (k0_t2 : Fin k0_t2_loop.trips) : Fin 4 → Nat :=
  let c0_53 : Index := 0#32
  let c0_i32_12 : BitVec 32 := 0#32
  let c1_i32_14 : BitVec 32 := 1#32
  let arg25 : BitVec 32 := Scf.iv c0_i32_12 c1_i32_14 k0_t2
  let v126 : Index := Scalar.indexCast arg25
  let c0_54 : Index := 0#32
  let c0_55 : Index := 0#32
  ![0, v126.toNat, 0, 0]
def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  let c0_i32_0 : BitVec 32 := 0#32
  ![arg0.toNat, v1.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  let c0_i32_0 : BitVec 32 := 0#32
  ![arg0.toNat, v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  ![arg0.toNat, v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  let c0_i32_0 : BitVec 32 := 0#32
  ![arg0.toNat, v1.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  ![arg0.toNat, v1.toNat, arg1.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  let c0_i32_0 : BitVec 32 := 0#32
  ![arg0.toNat, v1.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c24_i32 : BitVec 32 := 24#32
  let v0 : BitVec 32 := Scalar.muli arg2 c24_i32
  let v1 : BitVec 32 := Scalar.addi v0 arg3
  let c0_i32 : BitVec 32 := 0#32
  ![arg0.toNat, v1.toNat, arg1.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x8x128x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x96x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 1 → Memref sig .tc .vmem S128x96 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false, false]

abbrev stage0_8 : Fin 1 → Memref sig .tc .vmem S128x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false, false]

abbrev stage0_11 : Fin 2 → Memref sig .tc .vmem S1x8x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true, true]

abbrev stage0_13 : Fin 2 → Memref sig .tc .vmem S1x8x96x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true, true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true, true]
-- ==== KernelIdeal.lean ====
variable {F : FTy → Type} [FloatOps F] [Named F]
def κ : String → Option EReal := fun
  | "inv_max" => some ((1 / 448 : ℝ) : EReal)
  | _ => none
-- ==== Reference.lean ====
abbrev S2x384x384x128 : Shape := ⟨4, ![2, 384, 384, 128]⟩
abbrev S2x384x384 : Shape := ⟨3, ![2, 384, 384]⟩
abbrev S2x384x384x96 : Shape := ⟨4, ![2, 384, 384, 96]⟩
abbrev S2x384x96 : Shape := ⟨3, ![2, 384, 96]⟩
abbrev S96 : Shape := ⟨1, ![96]⟩
abbrev S128x512 : Shape := ⟨2, ![128, 512]⟩
abbrev S512 : Shape := ⟨1, ![512]⟩
abbrev S96x128 : Shape := ⟨2, ![96, 128]⟩
abbrev S128 : Shape := ⟨1, ![128]⟩
abbrev S2x384x96x384 : Shape := ⟨4, ![2, 384, 96, 384]⟩
abbrev S128x128 : Shape := ⟨2, ![128, 128]⟩
abbrev S2x384x384x1 : Shape := ⟨4, ![2, 384, 384, 1]⟩
abbrev S1x1x1x128 : Shape := ⟨4, ![1, 1, 1, 128]⟩
abbrev S2x96x384x384 : Shape := ⟨4, ![2, 96, 384, 384]⟩
abbrev S2x384 : Shape := ⟨2, ![2, 384]⟩
abbrev S2x384x1 : Shape := ⟨3, ![2, 384, 1]⟩
abbrev S2x384x1x96 : Shape := ⟨4, ![2, 384, 1, 96]⟩
abbrev S2x1x384x96 : Shape := ⟨4, ![2, 1, 384, 96]⟩
abbrev S1x1x1x96 : Shape := ⟨4, ![1, 1, 1, 96]⟩

abbrev nBuf : Space → Nat
  | .hbm => 18
  | .vmem => 18
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384, .f32⟩
  | .hbm, ⟨2, _⟩ => ⟨S2x384x384x128, .fp8e4m3⟩
  | .hbm, ⟨3, _⟩ => ⟨S2x384x384, .f32⟩
  | .hbm, ⟨4, _⟩ => ⟨S2x384x384x96, .i8⟩
  | .hbm, ⟨5, _⟩ => ⟨S2x384x96, .f32⟩
  | .hbm, ⟨6, _⟩ => ⟨S2x384x384x96, .i8⟩
  | .hbm, ⟨7, _⟩ => ⟨S2x384x96, .f32⟩
  | .hbm, ⟨8, _⟩ => ⟨S96, .f32⟩
  | .hbm, ⟨9, _⟩ => ⟨S96, .f32⟩
  | .hbm, ⟨10, _⟩ => ⟨S128x512, .fp8e4m3⟩
  | .hbm, ⟨11, _⟩ => ⟨S512, .f32⟩
  | .hbm, ⟨12, _⟩ => ⟨S96x128, .fp8e4m3⟩
  | .hbm, ⟨13, _⟩ => ⟨S128, .f32⟩
  | .hbm, ⟨14, _⟩ => ⟨S2x384x384x128, .bf16⟩
  | .hbm, ⟨15, _⟩ => ⟨S2x384x384, .f32⟩
  | .hbm, ⟨16, _⟩ => ⟨S2x384x96x384, .fp8e4m3⟩
  | .hbm, ⟨17, _⟩ => ⟨S2x384x384, .f32⟩
  | .local _ .vmem, ⟨0, _⟩ => ⟨S2x384x384x128, .bf16⟩
  | .local _ .vmem, ⟨1, _⟩ => ⟨S2x384x384, .f32⟩
  | .local _ .vmem, ⟨2, _⟩ => ⟨S2x384x384x128, .fp8e4m3⟩
  | .local _ .vmem, ⟨3, _⟩ => ⟨S2x384x384, .f32⟩
  | .local _ .vmem, ⟨4, _⟩ => ⟨S2x384x384x96, .i8⟩
  | .local _ .vmem, ⟨5, _⟩ => ⟨S2x384x96, .f32⟩
  | .local _ .vmem, ⟨6, _⟩ => ⟨S2x384x384x96, .i8⟩
  | .local _ .vmem, ⟨7, _⟩ => ⟨S2x384x96, .f32⟩
  | .local _ .vmem, ⟨8, _⟩ => ⟨S96, .f32⟩
  | .local _ .vmem, ⟨9, _⟩ => ⟨S96, .f32⟩
  | .local _ .vmem, ⟨10, _⟩ => ⟨S128x512, .fp8e4m3⟩
  | .local _ .vmem, ⟨11, _⟩ => ⟨S512, .f32⟩
  | .local _ .vmem, ⟨12, _⟩ => ⟨S96x128, .fp8e4m3⟩
  | .local _ .vmem, ⟨13, _⟩ => ⟨S128, .f32⟩
  | .local _ .vmem, ⟨14, _⟩ => ⟨S2x384x384x128, .bf16⟩
  | .local _ .vmem, ⟨15, _⟩ => ⟨S2x384x384, .f32⟩
  | .local _ .vmem, ⟨16, _⟩ => ⟨S2x384x96x384, .fp8e4m3⟩
  | .local _ .vmem, ⟨17, _⟩ => ⟨S2x384x384, .f32⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S2x384x384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x384x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x384x384x96 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x384x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384x384x96 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S96x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x384x384x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x384x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x384x96x384 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x384x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Project.lean ====
abbrev S2x384x384x128 : Shape := ⟨4, ![2, 384, 384, 128]⟩
abbrev S2x384x384 : Shape := ⟨3, ![2, 384, 384]⟩
abbrev S128 : Shape := ⟨1, ![128]⟩
abbrev S128x512 : Shape := ⟨2, ![128, 512]⟩
abbrev S512 : Shape := ⟨1, ![512]⟩
abbrev S128x128 : Shape := ⟨2, ![128, 128]⟩
abbrev S_ : Shape := ⟨0, ![]⟩
abbrev S512x128 : Shape := ⟨2, ![512, 128]⟩
abbrev S384 : Shape := ⟨1, ![384]⟩
abbrev S384x1 : Shape := ⟨2, ![384, 1]⟩
abbrev S384x128 : Shape := ⟨2, ![384, 128]⟩
abbrev S128x1 : Shape := ⟨2, ![128, 1]⟩
abbrev S2x384x96x384 : Shape := ⟨4, ![2, 384, 96, 384]⟩
abbrev S2x96x384 : Shape := ⟨3, ![2, 96, 384]⟩
abbrev S2x12x3x768x128 : Shape := ⟨5, ![2, 12, 3, 768, 128]⟩
abbrev S1x32x384x128 : Shape := ⟨4, ![1, 32, 384, 128]⟩
abbrev S1x32x384 : Shape := ⟨3, ![1, 32, 384]⟩
abbrev S1x32x96x384 : Shape := ⟨4, ![1, 32, 96, 384]⟩
abbrev S1x96x384 : Shape := ⟨3, ![1, 96, 384]⟩
abbrev S1x1x3x768x128 : Shape := ⟨5, ![1, 1, 3, 768, 128]⟩
abbrev S96x128 : Shape := ⟨2, ![96, 128]⟩
abbrev S1x1x384x128 : Shape := ⟨4, ![1, 1, 384, 128]⟩
abbrev S128x384 : Shape := ⟨2, ![128, 384]⟩
abbrev S1x384 : Shape := ⟨2, ![1, 384]⟩
abbrev S1x1x384 : Shape := ⟨3, ![1, 1, 384]⟩
abbrev S384x384 : Shape := ⟨2, ![384, 384]⟩
abbrev S96x1 : Shape := ⟨2, ![96, 1]⟩
abbrev S96x384 : Shape := ⟨2, ![96, 384]⟩
abbrev S96 : Shape := ⟨1, ![96]⟩
abbrev S1x1x96x384 : Shape := ⟨4, ![1, 1, 96, 384]⟩
abbrev S1x96x128 : Shape := ⟨3, ![1, 96, 128]⟩
abbrev S24x4x384 : Shape := ⟨3, ![24, 4, 384]⟩
abbrev S24x1x384 : Shape := ⟨3, ![24, 1, 384]⟩
abbrev S24x384 : Shape := ⟨2, ![24, 384]⟩
abbrev S24x128 : Shape := ⟨2, ![24, 128]⟩
abbrev S1x1x1x24x128 : Shape := ⟨5, ![1, 1, 1, 24, 128]⟩

abbrev nBuf : Space → Nat
  | .hbm => 32
  | .vmem => 25
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384, .f32⟩
  | .hbm, ⟨2, _⟩ => ⟨S128, .f32⟩
  | .hbm, ⟨3, _⟩ => ⟨S128, .f32⟩
  | .hbm, ⟨4, _⟩ => ⟨S128x512, .fp8e4m3⟩
  | .hbm, ⟨5, _⟩ => ⟨S512, .f32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S512x128, .fp8e4m3⟩
  | .hbm, ⟨18, _⟩ => ⟨S384, .f32⟩
  | .hbm, ⟨19, _⟩ => ⟨S384x1, .f32⟩
  | .hbm, ⟨20, _⟩ => ⟨S384x128, .f32⟩
  | .hbm, ⟨21, _⟩ => ⟨S128x1, .f32⟩
  | .hbm, ⟨22, _⟩ => ⟨S128x1, .f32⟩
  | .hbm, ⟨23, _⟩ => ⟨S384x128, .fp8e4m3⟩
  | .hbm, ⟨24, _⟩ => ⟨S2x384x384x128, .fp8e4m3⟩
  | .hbm, ⟨25, _⟩ => ⟨S2x384x384, .f32⟩
  | .hbm, ⟨26, _⟩ => ⟨S2x384x96x384, .fp8e4m3⟩
  | .hbm, ⟨27, _⟩ => ⟨S2x384x96x384, .fp8e4m3⟩
  | .hbm, ⟨28, _⟩ => ⟨S2x96x384, .f32⟩
  | .hbm, ⟨29, _⟩ => ⟨S2x96x384, .f32⟩
  | .hbm, ⟨30, _⟩ => ⟨S2x12x3x768x128, .i32⟩
  | .hbm, ⟨31, _⟩ => ⟨S2x12x3x768x128, .i32⟩
  | .local _ .vmem, ⟨0, _⟩ => ⟨S1x32x384x128, .bf16⟩
  | .local _ .vmem, ⟨1, _⟩ => ⟨S1x32x384x128, .bf16⟩
  | .local _ .vmem, ⟨2, _⟩ => ⟨S1x32x384, .f32⟩
  | .local _ .vmem, ⟨3, _⟩ => ⟨S1x32x384, .f32⟩
  | .local _ .vmem, ⟨4, _⟩ => ⟨S128x128, .bf16⟩
  | .local _ .vmem, ⟨5, _⟩ => ⟨S128x1, .f32⟩
  | .local _ .vmem, ⟨6, _⟩ => ⟨S128x1, .f32⟩
  | .local _ .vmem, ⟨7, _⟩ => ⟨S384x128, .fp8e4m3⟩
  | .local _ .vmem, ⟨8, _⟩ => ⟨S384x128, .f32⟩
  | .local _ .vmem, ⟨9, _⟩ => ⟨S1x32x384x128, .fp8e4m3⟩
  | .local _ .vmem, ⟨10, _⟩ => ⟨S1x32x384x128, .fp8e4m3⟩
  | .local _ .vmem, ⟨11, _⟩ => ⟨S1x32x384, .f32⟩
  | .local _ .vmem, ⟨12, _⟩ => ⟨S1x32x384, .f32⟩
  | .local _ .vmem, ⟨13, _⟩ => ⟨S1x32x96x384, .fp8e4m3⟩
  | .local _ .vmem, ⟨14, _⟩ => ⟨S1x32x96x384, .fp8e4m3⟩
  | .local _ .vmem, ⟨15, _⟩ => ⟨S1x32x96x384, .fp8e4m3⟩
  | .local _ .vmem, ⟨16, _⟩ => ⟨S1x32x96x384, .fp8e4m3⟩
  | .local _ .vmem, ⟨17, _⟩ => ⟨S1x96x384, .f32⟩
  | .local _ .vmem, ⟨18, _⟩ => ⟨S1x96x384, .f32⟩
  | .local _ .vmem, ⟨19, _⟩ => ⟨S1x96x384, .f32⟩
  | .local _ .vmem, ⟨20, _⟩ => ⟨S1x96x384, .f32⟩
  | .local _ .vmem, ⟨21, _⟩ => ⟨S1x1x3x768x128, .i32⟩
  | .local _ .vmem, ⟨22, _⟩ => ⟨S1x1x3x768x128, .i32⟩
  | .local _ .vmem, ⟨23, _⟩ => ⟨S1x1x3x768x128, .i32⟩
  | .local _ .vmem, ⟨24, _⟩ => ⟨S1x1x3x768x128, .i32⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 12], ![false, false]⟩

def k0_mult1 (i : grid0.Coords) : BitVec 32 :=
  let arg1 : BitVec 32 := BitVec.ofNat 32 (i 1).val
  let c32_i32 : BitVec 32 := 32#32
  let v1 : BitVec 32 := Scalar.muli arg1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  v19
@[reducible] def k0_t1_loop : Scf.Loop 32 :=
  let c0_i32_5 : BitVec 32 := 0#32
  let c32_i32_6 : BitVec 32 := 32#32
  let v21 : BitVec 32 := Scalar.addi c0_i32_5 c32_i32_6
  let c1_i32_7 : BitVec 32 := 1#32
  ⟨c0_i32_5, v21, c1_i32_7⟩
def k0_off1 (k0_t1 : Fin k0_t1_loop.trips) : Fin 4 → Nat :=
  let c0 : Index := 0#32
  let c0_i32_5 : BitVec 32 := 0#32
  let c1_i32_7 : BitVec 32 := 1#32
  let arg17 : BitVec 32 := Scf.iv c0_i32_5 c1_i32_7 k0_t1
  let v23 : Index := Scalar.indexCast arg17
  let c0_12 : Index := 0#32
  let c0_13 : Index := 0#32
  ![0, v23.toNat, 0, 0]
def k0_off2 (k0_t1 : Fin k0_t1_loop.trips) : Fin 3 → Nat :=
  let c0_31 : Index := 0#32
  let c0_i32_5 : BitVec 32 := 0#32
  let c1_i32_7 : BitVec 32 := 1#32
  let arg17 : BitVec 32 := Scf.iv c0_i32_5 c1_i32_7 k0_t1
  let v67 : Index := Scalar.indexCast arg17
  let c0_32 : Index := 0#32
  ![0, v67.toNat, 0]
def k0_off3 (k0_t1 : Fin k0_t1_loop.trips) : Fin 4 → Nat :=
  let c0_51 : Index := 0#32
  let c0_i32_5 : BitVec 32 := 0#32
  let c1_i32_7 : BitVec 32 := 1#32
  let arg17 : BitVec 32 := Scf.iv c0_i32_5 c1_i32_7 k0_t1
  let v119 : Index := Scalar.indexCast arg17
  let c0_52 : Index := 0#32
  let c0_53 : Index := 0#32
  ![0, v119.toNat, 0, 0]
def k0_off4 (i : grid0.Coords) : Fin 3 → Nat :=
  let c0_54 : Index := 0#32
  let c0_55 : Index := 0#32
  let arg1 : BitVec 32 := BitVec.ofNat 32 (i 1).val
  let c32_i32 : BitVec 32 := 32#32
  let v1 : BitVec 32 := Scalar.muli arg1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let v20 : BitVec 32 := v19
  let v123 : Index := Scalar.indexCast v20
  ![0, 0, v123.toNat]
@[reducible] def k0_t2_loop : Scf.Loop 32 :=
  let c0_i32_9 : BitVec 32 := 0#32
  let c8_i32 : BitVec 32 := 8#32
  let v22 : BitVec 32 := Scalar.addi c0_i32_9 c8_i32
  let c1_i32_10 : BitVec 32 := 1#32
  ⟨c0_i32_9, v22, c1_i32_10⟩
def k0_off5 (k0_t2 : Fin k0_t2_loop.trips) (c0_i32_12 : BitVec 32) : Fin 4 → Nat :=
  let c0 : Index := 0#32
  let c4_i32 : BitVec 32 := 4#32
  let c0_i32_9 : BitVec 32 := 0#32
  let c1_i32_10 : BitVec 32 := 1#32
  let arg17 : BitVec 32 := Scf.iv c0_i32_9 c1_i32_10 k0_t2
  let v23 : BitVec 32 := Scalar.muli c4_i32 arg17
  let v24 : BitVec 32 := Scalar.addi v23 c0_i32_12
  let v25 : Index := Scalar.indexCast v24
  let c0_13 : Index := 0#32
  let c0_14 : Index := 0#32
  ![0, v25.toNat, 0, 0]
def k0_off6 (k0_t2 : Fin k0_t2_loop.trips) (c0_i32_91 : BitVec 32) : Fin 5 → Nat :=
  let c0_92 : Index := 0#32
  let c0_93 : Index := 0#32
  let c0_94 : Index := 0#32
  let c0_i32_9 : BitVec 32 := 0#32
  let c1_i32_10 : BitVec 32 := 1#32
  let arg17 : BitVec 32 := Scf.iv c0_i32_9 c1_i32_10 k0_t2
  let v275 : BitVec 32 := Scalar.addi c0_i32_91 arg17
  let v277 : Index := Scalar.indexCast v275
  let c0_95 : Index := 0#32
  ![0, 0, 0, v277.toNat, 0]
def k0_off7 (k0_t2 : Fin k0_t2_loop.trips) (c0_i32_91 : BitVec 32) : Fin 5 → Nat :=
  let c0_96 : Index := 0#32
  let c0_97 : Index := 0#32
  let c1 : Index := 1#32
  let c0_i32_9 : BitVec 32 := 0#32
  let c1_i32_10 : BitVec 32 := 1#32
  let arg17 : BitVec 32 := Scf.iv c0_i32_9 c1_i32_10 k0_t2
  let v275 : BitVec 32 := Scalar.addi c0_i32_91 arg17
  let v282 : Index := Scalar.indexCast v275
  let c0_98 : Index := 0#32
  ![0, 0, 1, v282.toNat, 0]
def k0_off8 (k0_t2 : Fin k0_t2_loop.trips) (c0_i32_91 : BitVec 32) : Fin 5 → Nat :=
  let c0_99 : Index := 0#32
  let c0_100 : Index := 0#32
  let c2 : Index := 2#32
  let c0_i32_9 : BitVec 32 := 0#32
  let c1_i32_10 : BitVec 32 := 1#32
  let arg17 : BitVec 32 := Scf.iv c0_i32_9 c1_i32_10 k0_t2
  let v275 : BitVec 32 := Scalar.addi c0_i32_91 arg17
  let v287 : Index := Scalar.indexCast v275
  let c0_101 : Index := 0#32
  ![0, 0, 2, v287.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x384x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x96x384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x96x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x96x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x96x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x3x768x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x3x768x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjectIdeal.lean ====
variable {F : FTy → Type} [FloatOps F] [Named F]
def κ : String → Option EReal := fun
  | "inv_max" => some ((1 / 448 : ℝ) : EReal)
  | _ => none
-- ==== ProjectReference.lean ====
abbrev S2x384x384x128 : Shape := ⟨4, ![2, 384, 384, 128]⟩
abbrev S2x384x384 : Shape := ⟨3, ![2, 384, 384]⟩
abbrev S128 : Shape := ⟨1, ![128]⟩
abbrev S128x512 : Shape := ⟨2, ![128, 512]⟩
abbrev S512 : Shape := ⟨1, ![512]⟩
abbrev S2x384x96x384 : Shape := ⟨4, ![2, 384, 96, 384]⟩
abbrev S2x384x384x1 : Shape := ⟨4, ![2, 384, 384, 1]⟩
abbrev S1x1x1x128 : Shape := ⟨4, ![1, 1, 1, 128]⟩
abbrev S128x384 : Shape := ⟨2, ![128, 384]⟩
abbrev S2x384x384x384 : Shape := ⟨4, ![2, 384, 384, 384]⟩
abbrev S384 : Shape := ⟨1, ![384]⟩
abbrev S1x1x1x384 : Shape := ⟨4, ![1, 1, 1, 384]⟩
abbrev S2x384x384x96 : Shape := ⟨4, ![2, 384, 384, 96]⟩
abbrev S2x384x96 : Shape := ⟨3, ![2, 384, 96]⟩
abbrev S2x384x1x96 : Shape := ⟨4, ![2, 384, 1, 96]⟩

abbrev nBuf : Space → Nat
  | .hbm => 10
  | .vmem => 10
  | .smem => 0
  | _ => 0

abbrev bufTy : (tb : Table) → Fin (tcTables nBuf tb) → BufTy
  | .hbm, ⟨0, _⟩ => ⟨S2x384x384x128, .bf16⟩
  | .hbm, ⟨1, _⟩ => ⟨S2x384x384, .f32⟩
  | .hbm, ⟨2, _⟩ => ⟨S128, .f32⟩
  | .hbm, ⟨3, _⟩ => ⟨S128, .f32⟩
  | .hbm, ⟨4, _⟩ => ⟨S128x512, .fp8e4m3⟩
  | .hbm, ⟨5, _⟩ => ⟨S512, .f32⟩
  | .hbm, ⟨6, _⟩ => ⟨S2x384x384x128, .fp8e4m3⟩
  | .hbm, ⟨7, _⟩ => ⟨S2x384x384, .f32⟩
  | .hbm, ⟨8, _⟩ => ⟨S2x384x96x384, .fp8e4m3⟩
  | .hbm, ⟨9, _⟩ => ⟨S2x384x96x384, .fp8e4m3⟩
  | .local _ .vmem, ⟨0, _⟩ => ⟨S2x384x384x128, .bf16⟩
  | .local _ .vmem, ⟨1, _⟩ => ⟨S2x384x384, .f32⟩
  | .local _ .vmem, ⟨2, _⟩ => ⟨S128, .f32⟩
  | .local _ .vmem, ⟨3, _⟩ => ⟨S128, .f32⟩
  | .local _ .vmem, ⟨4, _⟩ => ⟨S128x512, .fp8e4m3⟩
  | .local _ .vmem, ⟨5, _⟩ => ⟨S512, .f32⟩
  | .local _ .vmem, ⟨6, _⟩ => ⟨S2x384x384x128, .fp8e4m3⟩
  | .local _ .vmem, ⟨7, _⟩ => ⟨S2x384x384, .f32⟩
  | .local _ .vmem, ⟨8, _⟩ => ⟨S2x384x96x384, .fp8e4m3⟩
  | .local _ .vmem, ⟨9, _⟩ => ⟨S2x384x96x384, .fp8e4m3⟩
  | _, _ => ⟨S2x384x384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x384x384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x384x384x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384x96x384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x384x96x384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Body.lean ====
/- What one grid point of the second call computes: its two loops, as functions of what the operands hold. -/
module

public import proofs.«01_k».proof.Proof.Gen.Kernel.Skeleton
public import proofs.«01_k».proof.Proof.Gen.Kernel.Loops
public import proofs.«01_k».proof.Proof.Gen.Kernel.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The values a trip stores -/

section Values

variable (i : grid0.Coords) (v12 v31 c0 : BitVec 32)

/-- The 96 rows of the product buffer that trip `k` of the second loop reads. -/
abbrev rd53 (x23 : Vec F S19200x128 .f32) (k : Fin k0_t2_loop.trips) : Vec F S96x128 .f32 :=
  View.ld x23 (Rect.unit (s := S19200x128) (k0_off10 i k) S96x128.size (k0_off10_inb i k))

variable (x9 : Vec F S1x96x384 .f32) (x10 : Vec F S1x96x384 .f32) (x53 : Fin k0_t2_loop.trips → Vec F S96x128 .f32)

/-- The deviation of one row, as trip `k` computes it. -/
def Pstd (k : Fin k0_t2_loop.trips) : FVec F S1x128 .f32 :=
  k0_pay4 v12 v31 c0 1#32 k (View.ld x9 (Rect.unit (s := S1x96x384) (k0_off9 i) S1x96x128.size (k0_off9_inb i))) (x53 k)
    (View.ld x10 (Rect.unit (s := S1x96x384) (k0_off11 i) S1x96x128.size (k0_off11_inb i)))

/-- The centred row over its deviation. -/
def Pnorm (k : Fin k0_t2_loop.trips) : FVec F S96x128 .f32 :=
  k0_pay5 v12 v31 c0 1#32 k (View.ld x9 (Rect.unit (s := S1x96x384) (k0_off9 i) S1x96x128.size (k0_off9_inb i))) (x53 k)
    (View.ld x10 (Rect.unit (s := S1x96x384) (k0_off11 i) S1x96x128.size (k0_off11_inb i)))

/-- The row of deviations stored by trip `k`. -/
def P18 (k : Fin k0_t2_loop.trips) : FVec F S1x1x128 .f32 := k0_pay9 (Pstd i v12 v31 c0 x9 x10 x53 k)

variable (x11 : Vec F S96x1 .f32) (x12 : Vec F S96x1 .f32)

/-- The codes of the normalised row stored by trip `k`. -/
def P19 (k : Fin k0_t2_loop.trips) : FVec F S1x1x96x128 .fp8e4m3 :=
  k0_pay11 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0))

/-- Their scales. -/
def P20 (k : Fin k0_t2_loop.trips) : FVec F S1x1x128 .f32 :=
  k0_pay10 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0))

variable (x13 : Vec F S128x96 .fp8e4m3) (x15 : Vec F S128x1 .f32) (x14 : Vec F S128x128 .fp8e4m3) (x7 : Vec F S1x8x128x128 .fp8e4m3) (x8 : Vec F S1x8x128 .f32) (x16 : Vec F S128x1 .f32) (x6 : Vec F S1x8x128x128 .bf16)

/-- The row of the result stored by trip `k`. -/
def P17 (k : Fin k0_t2_loop.trips) : FVec F S1x1x128x128 .bf16 :=
  k0_pay1 (k0_pay7 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0)))
    (k0_pay8 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0)))
    (View.ld x13 (Rect.unit (s := S128x96) ![0, 0] S128x96.size inb_S128x96_S128x96_0_0)) (View.ld x15 (Rect.unit (s := S128x1) ![0, 0] S128x1.size inb_S128x1_S128x1_0_0)) (View.ld x14 (Rect.unit (s := S128x128) ![0, 0] S128x128.size inb_S128x128_S128x128_0_0))
    (View.ld x7 (Rect.unit (s := S1x8x128x128) (k0_off14 k) S1x1x128x128.size (k0_off14_inb k)))
    (View.ld x8 (Rect.unit (s := S1x8x128) (k0_off12 k) S1x1x128.size (k0_off12_inb k)))
    (View.ld x16 (Rect.unit (s := S128x1) ![0, 0] S128x1.size inb_S128x1_S128x1_0_0))
    (View.ld x6 (Rect.unit (s := S1x8x128x128) (k0_off14 k) S1x1x128x128.size (k0_off14_inb k)))

end Values

/-- The product of one channel's codes, as trip `k` of the first loop computes it. -/
def P12 (i : grid0.Coords) (hi : k0_cond2 i = 1#1) (x21 : Vec F S12x3x768x128 .i32) (x22 : Vec F S12x3x768x128 .i32) (k : Fin k0_t1_loop.trips) : FVec F S192x128 .f32 :=
  k0_pay12 (k0_pay2 (View.ld x21 (Rect.unit (s := S12x3x768x128) (k0_off2 i k) S6x1x8x128.size (k0_off2_inb i k hi))))
    (View.ld x21 (Rect.unit (s := S12x3x768x128) (k0_off3 i k) S6x1x8x128.size (k0_off3_inb i k hi)))
    (View.ld x21 (Rect.unit (s := S12x3x768x128) (k0_off4 i k) S6x1x8x128.size (k0_off4_inb i k hi)))
    (View.ld x22 (Rect.unit (s := S12x3x768x128) (k0_off5 i k) S4x1x8x128.size (k0_off5_inb i k hi)))
    (View.ld x22 (Rect.unit (s := S12x3x768x128) (k0_off6 i k) S4x1x8x128.size (k0_off6_inb i k hi)))
    (View.ld x22 (Rect.unit (s := S12x3x768x128) (k0_off7 i k) S4x1x8x128.size (k0_off7_inb i k hi)))

/-- The rows that trip `k` of the first loop writes: one of every hundred. -/
abbrev R8 (i : grid0.Coords) (hi : k0_cond2 i = 1#1) (k : Fin k0_t1_loop.trips) : Rect S19200x128 :=
  ⟨(⟨k0_off8 k, S192x128.size, ![100, 1], k0_off8_inb i k hi⟩ : LoadRect S19200x128), spos_100_1⟩
/-- The part of result window 0 that trip `k` of the second loop writes. -/
abbrev R17 (k : Fin k0_t2_loop.trips) : Rect S1x8x128x128 := Rect.unit (s := S1x8x128x128) (k0_off14 k) S1x1x128x128.size (k0_off14_inb k)
/-- The part of result window 1 that trip `k` of the second loop writes. -/
abbrev R18 (k : Fin k0_t2_loop.trips) : Rect S1x8x128 := Rect.unit (s := S1x8x128) (k0_off12 k) S1x1x128.size (k0_off12_inb k)
/-- The part of result window 2 that trip `k` of the second loop writes. -/
abbrev R19 (k : Fin k0_t2_loop.trips) : Rect S1x8x96x128 := Rect.unit (s := S1x8x96x128) (k0_off13 k) S1x1x96x128.size (k0_off13_inb k)
/-- The part of result window 3 that trip `k` of the second loop writes. -/
abbrev R20 (k : Fin k0_t2_loop.trips) : Rect S1x8x128 := Rect.unit (s := S1x8x128) (k0_off12 k) S1x1x128.size (k0_off12_inb k)

theorem trips1_le (k : Fin k0_t1_loop.trips) : k.val < 96 := Nat.lt_of_lt_of_le k.isLt k0_t1_abs.2.1
theorem trips2_le (k : Fin k0_t2_loop.trips) : k.val < 8 := Nat.lt_of_lt_of_le k.isLt k0_t2_abs.2.1

theorem off8_at : ∀ k : Fin k0_t1_loop.trips, k0_off8 k = ![4 * (k.val % 24) + k.val / 24, 0] := by decide +kernel
theorem off12_at : ∀ k : Fin k0_t2_loop.trips, k0_off12 k = ![0, k.val, 0] := by decide +kernel
theorem off13_at : ∀ k : Fin k0_t2_loop.trips, k0_off13 k = ![0, k.val, 0, 0] := by decide +kernel
theorem off14_at : ∀ k : Fin k0_t2_loop.trips, k0_off14 k = ![0, k.val, 0, 0] := by decide +kernel

/-- Two trips of the first loop write different rows. -/
theorem R8_ne (i : grid0.Coords) (hi : k0_cond2 i = 1#1) (j k : Fin k0_t1_loop.trips) (h : j.val < k.val) (y : S192x128.Idx) :
    (R8 i hi j).emb y ∉ (R8 i hi k).set := by
  intro hm
  obtain ⟨z, hz, he⟩ := (R8 i hi k).mem_set.mp hm 0
  have e1 : ((R8 i hi j).emb y 0).val = k0_off8 j 0 + 100 * (y 0).val := rfl
  have e2 : (R8 i hi k).off 0 + (R8 i hi k).stride 0 * z = k0_off8 k 0 + 100 * z := rfl
  rw [e2] at he; rw [e1, off8_at, off8_at] at he
  have hj := trips1_le j
  have hk := trips1_le k
  simp only [Matrix.cons_val_zero] at he
  omega
/-- Two trips of the second loop write different parts of window 0. -/
theorem R17_ne (j k : Fin k0_t2_loop.trips) (h : j.val < k.val) (y : S1x1x128x128.Idx) : (R17 j).emb y ∉ (R17 k).set := by
  intro hm
  obtain ⟨z, hz, he⟩ := (R17 k).mem_set.mp hm 1
  have e1 : ((R17 j).emb y 1).val = k0_off14 j 1 + 1 * (y 1).val := rfl
  have e2 : (R17 k).off 1 + (R17 k).stride 1 * z = k0_off14 k 1 + 1 * z := rfl
  rw [e2] at he; rw [e1, off14_at, off14_at] at he
  have h1 : (y 1).val < 1 := (y 1).isLt
  have h2 : z < 1 := hz
  simp only [Matrix.cons_val_one, Matrix.cons_val_zero] at he
  omega
/-- Two trips of the second loop write different parts of window 1. -/
theorem R18_ne (j k : Fin k0_t2_loop.trips) (h : j.val < k.val) (y : S1x1x128.Idx) : (R18 j).emb y ∉ (R18 k).set := by
  intro hm
  obtain ⟨z, hz, he⟩ := (R18 k).mem_set.mp hm 1
  have e1 : ((R18 j).emb y 1).val = k0_off12 j 1 + 1 * (y 1).val := rfl
  have e2 : (R18 k).off 1 + (R18 k).stride 1 * z = k0_off12 k 1 + 1 * z := rfl
  rw [e2] at he; rw [e1, off12_at, off12_at] at he
  have h1 : (y 1).val < 1 := (y 1).isLt
  have h2 : z < 1 := hz
  simp only [Matrix.cons_val_one, Matrix.cons_val_zero] at he
  omega
/-- Two trips of the second loop write different parts of window 2. -/
theorem R19_ne (j k : Fin k0_t2_loop.trips) (h : j.val < k.val) (y : S1x1x96x128.Idx) : (R19 j).emb y ∉ (R19 k).set := by
  intro hm
  obtain ⟨z, hz, he⟩ := (R19 k).mem_set.mp hm 1
  have e1 : ((R19 j).emb y 1).val = k0_off13 j 1 + 1 * (y 1).val := rfl
  have e2 : (R19 k).off 1 + (R19 k).stride 1 * z = k0_off13 k 1 + 1 * z := rfl
  rw [e2] at he; rw [e1, off13_at, off13_at] at he
  have h1 : (y 1).val < 1 := (y 1).isLt
  have h2 : z < 1 := hz
  simp only [Matrix.cons_val_one, Matrix.cons_val_zero] at he
  omega
/-- Two trips of the second loop write different parts of window 3. -/
theorem R20_ne (j k : Fin k0_t2_loop.trips) (h : j.val < k.val) (y : S1x1x128.Idx) : (R20 j).emb y ∉ (R20 k).set := by
  intro hm
  obtain ⟨z, hz, he⟩ := (R20 k).mem_set.mp hm 1
  have e1 : ((R20 j).emb y 1).val = k0_off12 j 1 + 1 * (y 1).val := rfl
  have e2 : (R20 k).off 1 + (R20 k).stride 1 * z = k0_off12 k 1 + 1 * z := rfl
  rw [e2] at he; rw [e1, off12_at, off12_at] at he
  have h1 : (y 1).val < 1 := (y 1).isLt
  have h2 : z < 1 := hz
  simp only [Matrix.cons_val_one, Matrix.cons_val_zero] at he
  omega

/-! ## The loops -/

section Loops

variable (c : Dev nD) (i : grid0.Coords) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)

/-- What the product buffer holds before trip `k` of the first loop: the products of the channels before. -/
def rows1 (hi : k0_cond2 i = 1#1) (x21 : Vec F S12x3x768x128 .i32) (x22 : Vec F S12x3x768x128 .i32) (x : Vec F S19200x128 .f32) (k : ℕ) : Prop :=
  ∀ (j : Fin k0_t1_loop.trips), j.val < k → ∀ y : S192x128.Idx, x ((R8 i hi j).emb y) = P12 i hi x21 x22 j y

/-- Before trip `k` of the first loop: the codes as they were, the products of the channels before `k`. -/
def invAt1 (hi : k0_cond2 i = 1#1) (X21 : BufTy.Contents (Elt F) arg21.view.ty) (X22 : BufTy.Contents (Elt F) arg22.view.ty) (k : ℕ) : sProp 𝕄 :=
  iprop((arg21.view.loc (c : Thread nD τ) ↦[arg21.view.set]{fullShare} X21) ∗ (arg22.view.loc (c : Thread nD τ) ↦[arg22.view.set]{fullShare} X22) ∗ (∃ f, ⌜∀ (j : Fin k0_t1_loop.trips), j.val < k → ∀ y : S192x128.Idx, arg23.view.read (Elt F) f ((R8 i hi j).emb y) = P12 i hi (arg21.view.read (Elt F) X21) (arg22.view.read (Elt F) X22) j y⌝ ∗ (arg23.view.loc (c : Thread nD τ) ↦[arg23.view.set]{fullShare} f)))

set_option warn.classDefReducibility false in
/-- The first loop's invariant. -/
@[sl_loop] def loopInv1 (arg2 : BitVec 32) (hi : k0_cond2 i = 1#1) (X21 : BufTy.Contents (Elt F) arg21.view.ty) (X22 : BufTy.Contents (Elt F) arg22.view.ty) :
    LoopInvTy_k0_t1 (F := F) Unit ℕ (Pipeline.UD sig nD τ) ℕ Variants.none c none Set.univ i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg2 hi where
  inv k _ := invAt1 c i arg21 arg22 arg23 hi X21 X22 k
  step k acc := by
    unfold invAt1 k0_t1_body
    iintro ⟨H21, H22, ⟨%f, %hf, H23⟩⟩
    sl_exec
    sl_step
    isplitl [H21]; · iexact H21
    isplitl [H22]; · iexact H22
    iexists _
    isplitr; swap; · iexact H23
    ipureintro
    intro j hj y
    rcases Nat.lt_succ_iff_lt_or_eq.mp hj with h | h
    · refine Eq.trans (View.read_writes_cons_miss _ _ _ _ _ ?_) ?_; · exact R8_ne i hi j k h y
      exact hf j h y
    · obtain rfl : j = k := Fin.ext h
      refine Eq.trans (View.read_writes_cons_emb _ _ (R8 i hi j) _ _ y) ?_
      simp only [View.readAt_eq_ld]
      unfold P12 loopInv1.sl.v72 loopInv1.sl.v71
      rfl

/-- Before trip `k` of the second loop: what it reads as it was, the rows before `k` of the four results. -/
def invAt2 (v12 v31 c0 : BitVec 32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X23 : BufTy.Contents (Elt F) arg23.view.ty) (k : ℕ) : sProp 𝕄 :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg23.view.loc (c : Thread nD τ) ↦[arg23.view.set]{fullShare} X23) ∗ (∃ f, ⌜∀ (j : Fin k0_t2_loop.trips), j.val < k → ∀ y : S1x1x128x128.Idx, arg17.view.read (Elt F) f ((R17 j).emb y) = (P17 i v12 v31 c0 (arg9.view.read (Elt F) X9) (arg10.view.read (Elt F) X10) (rd53 i (arg23.view.read (Elt F) X23)) (arg11.view.read (Elt F) X11) (arg12.view.read (Elt F) X12) (arg13.view.read (Elt F) X13) (arg15.view.read (Elt F) X15) (arg14.view.read (Elt F) X14) (arg7.view.read (Elt F) X7) (arg8.view.read (Elt F) X8) (arg16.view.read (Elt F) X16) (arg6.view.read (Elt F) X6)) j y⌝ ∗ (arg17.view.loc (c : Thread nD τ) ↦[arg17.view.set]{fullShare} f)) ∗ (∃ f, ⌜∀ (j : Fin k0_t2_loop.trips), j.val < k → ∀ y : S1x1x128.Idx, arg18.view.read (Elt F) f ((R18 j).emb y) = (P18 i v12 v31 c0 (arg9.view.read (Elt F) X9) (arg10.view.read (Elt F) X10) (rd53 i (arg23.view.read (Elt F) X23))) j y⌝ ∗ (arg18.view.loc (c : Thread nD τ) ↦[arg18.view.set]{fullShare} f)) ∗ (∃ f, ⌜∀ (j : Fin k0_t2_loop.trips), j.val < k → ∀ y : S1x1x96x128.Idx, arg19.view.read (Elt F) f ((R19 j).emb y) = (P19 i v12 v31 c0 (arg9.view.read (Elt F) X9) (arg10.view.read (Elt F) X10) (rd53 i (arg23.view.read (Elt F) X23)) (arg11.view.read (Elt F) X11) (arg12.view.read (Elt F) X12)) j y⌝ ∗ (arg19.view.loc (c : Thread nD τ) ↦[arg19.view.set]{fullShare} f)) ∗ (∃ f, ⌜∀ (j : Fin k0_t2_loop.trips), j.val < k → ∀ y : S1x1x128.Idx, arg20.view.read (Elt F) f ((R20 j).emb y) = (P20 i v12 v31 c0 (arg9.view.read (Elt F) X9) (arg10.view.read (Elt F) X10) (rd53 i (arg23.view.read (Elt F) X23)) (arg11.view.read (Elt F) X11) (arg12.view.read (Elt F) X12)) j y⌝ ∗ (arg20.view.loc (c : Thread nD τ) ↦[arg20.view.set]{fullShare} f)))

set_option warn.classDefReducibility false in
/-- The second loop's invariant. -/
@[sl_loop] def loopInv2 (arg3 v12 v31 v33 c0 : BitVec 32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X23 : BufTy.Contents (Elt F) arg23.view.ty) :
    LoopInvTy_k0_t2 (F := F) Unit ℕ (Pipeline.UD sig nD τ) ℕ Variants.none c none Set.univ i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg3 v12 v31 v33 c0 where
  inv k _ := invAt2 c i arg6 arg7 arg8 arg9 arg10 arg11 arg12 arg13 arg14 arg15 arg16 arg17 arg18 arg19 arg20 arg23 v12 v31 c0 X6 X7 X8 X9 X10 X11 X12 X13 X14 X15 X16 X23 k
  step k acc := by
    unfold invAt2 k0_t2_body
    iintro ⟨H6, H7, H8, H9, H10, H11, H12, H13, H14, H15, H16, H23, ⟨%f17, %hf17, H17⟩, ⟨%f18, %hf18, H18⟩, ⟨%f19, %hf19, H19⟩, ⟨%f20, %hf20, H20⟩⟩
    sl_exec
    sl_step
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H23]; · iexact H23
    isplitl [H17]
    · iexists _
      isplitr; swap; · iexact H17
      ipureintro
      intro j hj y
      rcases Nat.lt_succ_iff_lt_or_eq.mp hj with h | h
      · refine Eq.trans (View.read_writes_cons_miss _ _ _ _ _ ?_) ?_; · exact R17_ne j k h y
        exact hf17 j h y
      · obtain rfl : j = k := Fin.ext h
        refine Eq.trans (View.read_writes_cons_emb _ _ (R17 j) _ _ y) ?_
        simp only [View.readAt_eq_ld]
        unfold P17 Pnorm
        rfl
    isplitl [H18]
    · iexists _
      isplitr; swap; · iexact H18
      ipureintro
      intro j hj y
      rcases Nat.lt_succ_iff_lt_or_eq.mp hj with h | h
      · refine Eq.trans (View.read_writes_cons_miss _ _ _ _ _ ?_) ?_; · exact R18_ne j k h y
        exact hf18 j h y
      · obtain rfl : j = k := Fin.ext h
        refine Eq.trans (View.read_writes_cons_emb _ _ (R18 j) _ _ y) ?_
        skip
        unfold P18 Pstd
        rfl
    isplitl [H19]
    · iexists _
      isplitr; swap; · iexact H19
      ipureintro
      intro j hj y
      rcases Nat.lt_succ_iff_lt_or_eq.mp hj with h | h
      · refine Eq.trans (View.read_writes_cons_miss _ _ _ _ _ ?_) ?_; · exact R19_ne j k h y
        exact hf19 j h y
      · obtain rfl : j = k := Fin.ext h
        refine Eq.trans (View.read_writes_cons_emb _ _ (R19 j) _ _ y) ?_
        simp only [View.readAt_eq_ld]
        unfold P19 Pnorm
        rfl
    · iexists _
      isplitr; swap; · iexact H20
      ipureintro
      intro j hj y
      rcases Nat.lt_succ_iff_lt_or_eq.mp hj with h | h
      · refine Eq.trans (View.read_writes_cons_miss _ _ _ _ _ ?_) ?_; · exact R20_ne j k h y
        exact hf20 j h y
      · obtain rfl : j = k := Fin.ext h
        refine Eq.trans (View.read_writes_cons_emb _ _ (R20 j) _ _ y) ?_
        simp only [View.readAt_eq_ld]
        unfold P20 Pnorm
        rfl

end Loops

end Cert.Kernel.Hand

end
-- ==== Proof.Kernel.Run.lean ====
/- The runs of the second call's body at one grid point: the three kinds of point. -/
module

public import proofs.«01_k».proof.Proof.Gen.Kernel.Skeleton
public import proofs.«01_k».proof.Proof.Gen.Kernel.Loops
public import proofs.«01_k».proof.Proof.Kernel.Body
public import Idealize.ShloMosaic.Lib.ValueIdxCore
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first of the point's eight rows. -/
def w12 (i : grid0.Coords) : BitVec 32 := Scalar.addi (Scalar.muli (BitVec.ofNat 32 (i 2).val) 192#32) (Scalar.muli (BitVec.ofNat 32 (i 3).val) 8#32)

/-- The first of the 128 rows among which they lie. -/
def w31 (i : grid0.Coords) : BitVec 32 :=
  Scalar.muli (Scalar.select
    (Scalar.andi
      (Scalar.cmpi .ne (Scalar.subi (Scalar.extui (Scalar.cmpi .sgt (w12 i) 0#32)) (Scalar.extui (Scalar.cmpi .slt (w12 i) 0#32)))
        (Scalar.subi (Scalar.extui (Scalar.cmpi .sgt 128#32 0#32)) (Scalar.extui (Scalar.cmpi .slt 128#32 0#32))))
      (Scalar.cmpi .ne (Scalar.remsi (w12 i) 128#32) 0#32))
    (Scalar.subi (Scalar.divsi (w12 i) 128#32) 1#32) (Scalar.divsi (w12 i) 128#32)) 128#32

open Idealize.ShloMosaic.ValueIdx (ix3 ix4 ix5)

theorem trips2_eq : k0_t2_loop.trips = 8 := by decide +kernel
theorem trips1_eq : k0_t1_loop.trips = 96 := by decide +kernel

/-- Result window 0 from its eight rows. -/
def O17 (p : Fin k0_t2_loop.trips → Vec F S1x1x128x128 .bf16) : Vec F S1x8x128x128 .bf16 :=
  fun y => p ⟨(y 1).val, lt_of_lt_of_eq (y 1).isLt trips2_eq.symm⟩ (ix4 0 0 (y 2) (y 3))

theorem O17_of (x : Vec F S1x8x128x128 .bf16) (p : Fin k0_t2_loop.trips → Vec F S1x1x128x128 .bf16)
    (h : ∀ (j : Fin k0_t2_loop.trips), j.val < k0_t2_loop.trips → ∀ y : S1x1x128x128.Idx, x ((R17 j).emb y) = p j y) : x = O17 p := by
  funext y
  unfold O17
  rw [← h _ (Fin.isLt _)]
  congr 1
  funext a
  refine Fin.ext ?_
  have e : ∀ (j : Fin k0_t2_loop.trips) (z : S1x1x128x128.Idx), ((R17 j).emb z a).val = k0_off14 j a + 1 * (z a).val := fun _ _ => rfl
  rw [e, off14_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 1 from its eight rows. -/
def O18 (p : Fin k0_t2_loop.trips → Vec F S1x1x128 .f32) : Vec F S1x8x128 .f32 :=
  fun y => p ⟨(y 1).val, lt_of_lt_of_eq (y 1).isLt trips2_eq.symm⟩ (ix3 0 0 (y 2))

theorem O18_of (x : Vec F S1x8x128 .f32) (p : Fin k0_t2_loop.trips → Vec F S1x1x128 .f32)
    (h : ∀ (j : Fin k0_t2_loop.trips), j.val < k0_t2_loop.trips → ∀ y : S1x1x128.Idx, x ((R18 j).emb y) = p j y) : x = O18 p := by
  funext y
  unfold O18
  rw [← h _ (Fin.isLt _)]
  congr 1
  funext a
  refine Fin.ext ?_
  have e : ∀ (j : Fin k0_t2_loop.trips) (z : S1x1x128.Idx), ((R18 j).emb z a).val = k0_off12 j a + 1 * (z a).val := fun _ _ => rfl
  rw [e, off12_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- Result window 2 from its eight rows. -/
def O19 (p : Fin k0_t2_loop.trips → Vec F S1x1x96x128 .fp8e4m3) : Vec F S1x8x96x128 .fp8e4m3 :=
  fun y => p ⟨(y 1).val, lt_of_lt_of_eq (y 1).isLt trips2_eq.symm⟩ (ix4 0 0 (y 2) (y 3))

theorem O19_of (x : Vec F S1x8x96x128 .fp8e4m3) (p : Fin k0_t2_loop.trips → Vec F S1x1x96x128 .fp8e4m3)
    (h : ∀ (j : Fin k0_t2_loop.trips), j.val < k0_t2_loop.trips → ∀ y : S1x1x96x128.Idx, x ((R19 j).emb y) = p j y) : x = O19 p := by
  funext y
  unfold O19
  rw [← h _ (Fin.isLt _)]
  congr 1
  funext a
  refine Fin.ext ?_
  have e : ∀ (j : Fin k0_t2_loop.trips) (z : S1x1x96x128.Idx), ((R19 j).emb z a).val = k0_off13 j a + 1 * (z a).val := fun _ _ => rfl
  rw [e, off13_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 3 from its eight rows. -/
def O20 (p : Fin k0_t2_loop.trips → Vec F S1x1x128 .f32) : Vec F S1x8x128 .f32 :=
  fun y => p ⟨(y 1).val, lt_of_lt_of_eq (y 1).isLt trips2_eq.symm⟩ (ix3 0 0 (y 2))

theorem O20_of (x : Vec F S1x8x128 .f32) (p : Fin k0_t2_loop.trips → Vec F S1x1x128 .f32)
    (h : ∀ (j : Fin k0_t2_loop.trips), j.val < k0_t2_loop.trips → ∀ y : S1x1x128.Idx, x ((R20 j).emb y) = p j y) : x = O20 p := by
  funext y
  unfold O20
  rw [← h _ (Fin.isLt _)]
  congr 1
  funext a
  refine Fin.ext ?_
  have e : ∀ (j : Fin k0_t2_loop.trips) (z : S1x1x128.Idx), ((R20 j).emb z a).val = k0_off12 j a + 1 * (z a).val := fun _ _ => rfl
  rw [e, off12_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- A point that neither fetches nor multiplies: it normalises eight rows of the product buffer. -/
theorem run_C (c : Dev nD) (i : grid0.Coords) (hc1 : ¬ k0_cond1 i = 1#1) (hc2 : ¬ k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32) (x21 : Vec F S12x3x768x128 .i32) (x22 : Vec F S12x3x768x128 .i32) (x23 : Vec F S19200x128 .f32) (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg21 fullShare x21) ∗ (owns (c : Thread nD τ) arg22 fullShare x22) ∗ (owns (c : Thread nD τ) arg23 fullShare x23) ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg21 fullShare x21) ∗ (owns (c : Thread nD τ) arg22 fullShare x22) ∗ (owns (c : Thread nD τ) arg23 fullShare x23)) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%X21, %h21, H21⟩, ⟨%X22, %h22, H22⟩, ⟨%X23, %h23, H23⟩, Hk⟩
  subst h6 h7 h8 h9 h10 h11 h12 h13 h14 h15 h16
  subst h21 h22 h23
  sl_exec
  sl_step
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; exact O17_of _ _ (by assumption)
  isplitl [H18]
  · iexists _; isplitr; swap; · iexact H18
    ipureintro; exact O18_of _ _ (by assumption)
  isplitl [H19]
  · iexists _; isplitr; swap; · iexact H19
    ipureintro; exact O19_of _ _ (by assumption)
  isplitl [H20]
  · iexists _; isplitr; swap; · iexact H20
    ipureintro; exact O20_of _ _ (by assumption)
  isplitl [H21]
  · iexists _; isplitr; swap; · iexact H21
    ipureintro; rfl
  isplitl [H22]
  · iexists _; isplitr; swap; · iexact H22
    ipureintro; rfl
  · iexists _; isplitr; swap; · iexact H23
    ipureintro; rfl

/-- A point that multiplies the codes of its rows and columns first. -/
theorem run_B (c : Dev nD) (i : grid0.Coords) (hc1 : ¬ k0_cond1 i = 1#1) (hc2 : k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32) (x21 : Vec F S12x3x768x128 .i32) (x22 : Vec F S12x3x768x128 .i32) (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg21 fullShare x21) ∗ (owns (c : Thread nD τ) arg22 fullShare x22) ∗ (∃ d, owns (c : Thread nD τ) arg23 fullShare d) ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ x23, ⌜rows1 i hc2 x21 x22 x23 k0_t1_loop.trips⌝ ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg23 fullShare x23)) ∗ (owns (c : Thread nD τ) arg21 fullShare x21) ∗ (owns (c : Thread nD τ) arg22 fullShare x22)) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%X21, %h21, H21⟩, ⟨%X22, %h22, H22⟩, ⟨%d23, %X23, -, H23⟩, Hk⟩
  subst h6 h7 h8 h9 h10 h11 h12 h13 h14 h15 h16
  subst h21 h22
  sl_exec
  sl_step
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17 H18 H19 H20 H23]
  · iexists _
    isplitr; · ipureintro; assumption
    isplitl [H17]
    · iexists _; isplitr; swap; · iexact H17
      ipureintro; exact O17_of _ _ (by assumption)
    isplitl [H18]
    · iexists _; isplitr; swap; · iexact H18
      ipureintro; exact O18_of _ _ (by assumption)
    isplitl [H19]
    · iexists _; isplitr; swap; · iexact H19
      ipureintro; exact O19_of _ _ (by assumption)
    isplitl [H20]
    · iexists _; isplitr; swap; · iexact H20
      ipureintro; exact O20_of _ _ (by assumption)
    iexists _; isplitr; swap; · iexact H23
    ipureintro; rfl
  isplitl [H21]
  · iexists _; isplitr; swap; · iexact H21
    ipureintro; rfl
  · iexists _; isplitr; swap; · iexact H22
    ipureintro; rfl

/-- What the fetch brings from operand 0 left in the large memory: one batch's words. -/
abbrev W4 (i : grid0.Coords) (hi : k0_cond1 i = 1#1) (x : Vec F S2x12x3x768x128 .i32) : Vec F S12x3x768x128 .i32 :=
  fun y => x ((Rect.unit (s := S2x12x3x768x128) (k0_off1 i) S1x12x3x768x128.size (k0_off1_inb i hi)).emb (Shape.reshapeEquiv squeezes_S1x12x3x768x128_S12x3x768x128.numel_eq y))

/-- What the fetch brings from operand 1 left in the large memory: one batch's words. -/
abbrev W5 (i : grid0.Coords) (hi : k0_cond1 i = 1#1) (x : Vec F S2x12x3x768x128 .i32) : Vec F S12x3x768x128 .i32 :=
  fun y => x ((Rect.unit (s := S2x12x3x768x128) (k0_off1 i) S1x12x3x768x128.size (k0_off1_inb i hi)).emb (Shape.reshapeEquiv squeezes_S1x12x3x768x128_S12x3x768x128.numel_eq y))

/-- A batch's first point: it fetches the batch's words, multiplies and normalises. -/
theorem run_A (c : Dev nD) (i : grid0.Coords) (hc1 : k0_cond1 i = 1#1) (hc2 : k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (X4 : BufTy.Contents (Elt F) arg4.view.ty) (X5 : BufTy.Contents (Elt F) arg5.view.ty)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32)  (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (arg4.view.loc (c : Thread nD τ) ↦[arg4.view.set]{fullShare} X4) ∗ (arg5.view.loc (c : Thread nD τ) ↦[arg5.view.set]{fullShare} X5) ∗ semVal ((c : Thread nD τ), SemLoc.dma 24) 0 ∗ semVal ((c : Thread nD τ), SemLoc.dma 25) 0 ∗ owes (c : Thread nD τ) 0 WW ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ x23, ⌜rows1 i hc2 (W4 i hc1 (arg4.view.read (Elt F) X4)) (W5 i hc1 (arg5.view.read (Elt F) X5)) x23 k0_t1_loop.trips⌝ ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg23 fullShare x23)) ∗ (owns (c : Thread nD τ) arg21 fullShare (W4 i hc1 (arg4.view.read (Elt F) X4))) ∗ (owns (c : Thread nD τ) arg22 fullShare (W5 i hc1 (arg5.view.read (Elt F) X5))) ∗ (arg4.view.loc (c : Thread nD τ) ↦[arg4.view.set]{fullShare} X4) ∗ (arg5.view.loc (c : Thread nD τ) ↦[arg5.view.set]{fullShare} X5) ∗ semVal ((c : Thread nD τ), SemLoc.dma 24) 0 ∗ semVal ((c : Thread nD τ), SemLoc.dma 25) 0 ∗ (∃ W', owes (c : Thread nD τ) 0 W')) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch3) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%d21, %X21, -, H21⟩, ⟨%d22, %X22, -, H22⟩, ⟨%d23, %X23, -, H23⟩, H4, H5, Hq0, Hq1, HW, Hk⟩
  subst h6 h7 h8 h9 h10 h11 h12 h13 h14 h15 h16
  sl_exec
  sl_step
  have hw4 : ∀ z : arg21.view.ty.Contents (Elt F), arg21.view.read (Elt F) (arg21.view.writes (Elt F) z [⟨Rect.whole S12x3x768x128, run_A.sl.dma0 i hc1 arg4 X4⟩]) = W4 i hc1 (arg4.view.read (Elt F) X4) := by
    intro z
    funext y
    refine Eq.trans (View.read_writes_cons_hit _ _ (Rect.whole _) _ _ y y ?_) ?_
    · exact funext fun a => Fin.ext (by rw [Rect.emb_apply]; show 0 + 1 * (y a).val = (y a).val; omega)
    unfold run_A.sl.dma0
    rfl
  have hw5 : ∀ z : arg22.view.ty.Contents (Elt F), arg22.view.read (Elt F) (arg22.view.writes (Elt F) z [⟨Rect.whole S12x3x768x128, run_A.sl.dma0_1 i hc1 arg5 X5⟩]) = W5 i hc1 (arg5.view.read (Elt F) X5) := by
    intro z
    funext y
    refine Eq.trans (View.read_writes_cons_hit _ _ (Rect.whole _) _ _ y y ?_) ?_
    · exact funext fun a => Fin.ext (by rw [Rect.emb_apply]; show 0 + 1 * (y a).val = (y a).val; omega)
    unfold run_A.sl.dma0_1
    rfl
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17 H18 H19 H20 H23]
  · iexists _
    isplitr; · ipureintro; rw [← hw4 arg21.view.junk, ← hw5 arg22.view.junk]; assumption
    isplitl [H17]
    · iexists _; isplitr; swap; · iexact H17
      ipureintro; exact O17_of _ _ (by assumption)
    isplitl [H18]
    · iexists _; isplitr; swap; · iexact H18
      ipureintro; exact O18_of _ _ (by assumption)
    isplitl [H19]
    · iexists _; isplitr; swap; · iexact H19
      ipureintro; exact O19_of _ _ (by assumption)
    isplitl [H20]
    · iexists _; isplitr; swap; · iexact H20
      ipureintro; exact O20_of _ _ (by assumption)
    iexists _; isplitr; swap; · iexact H23
    ipureintro; rfl
  isplitl [H21]
  · iexists _; isplitr; swap; · iexact H21
    ipureintro; exact hw4 _
  isplitl [H22]
  · iexists _; isplitr; swap; · iexact H22
    ipureintro; exact hw5 _
  isplitl [H4]; · iexact H4
  isplitl [H5]; · iexact H5
  isplitl [Hq0]; · iexact Hq0
  isplitl [Hq1]; · iexact Hq1
  iexists _; iexact HW

end Cert.Kernel.Hand

end
-- ==== Proof.Kernel.Hand.lean ====
/- The second call's frame: what it carries from point to point, and the run of its whole grid. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.Run
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points of the grid -/

theorem N_eq : cfg0.N = 288 := by decide +kernel

/-- The grid's point number `n`. -/
def gp (n : ℕ) : Fin cfg0.N := ⟨n % cfg0.N, Nat.mod_lt _ (by rw [N_eq]; omega)⟩
theorem gp_val (t : Fin cfg0.N) : gp t.val = t := Fin.ext (Nat.mod_eq_of_lt t.isLt)

theorem cond1_at : ∀ t : Fin cfg0.N, k0_cond1 (grid0.coords t) = 1#1 ↔ t.val % 144 = 0 := by decide +kernel
theorem cond2_at : ∀ t : Fin cfg0.N, k0_cond2 (grid0.coords t) = 1#1 ↔ t.val % 24 = 0 := by decide +kernel

theorem gA (p : ℕ) : k0_cond1 (grid0.coords (gp (p * 144))) = 1#1 := by
  rw [cond1_at]; unfold gp; simp only [N_eq]; omega
theorem gB (q : ℕ) : k0_cond2 (grid0.coords (gp (q * 24))) = 1#1 := by
  rw [cond2_at]; unfold gp; simp only [N_eq]; omega

theorem off10_at : ∀ (t : Fin cfg0.N) (k : Fin k0_t2_loop.trips), k0_off10 (grid0.coords t) k = ![(t.val % 24 * 8 + k.val) * 100, 0] := by decide +kernel

/-! ## What is carried -/

/-- The words of batch `p` of the first operand, and of the second. -/
def Wa (c : Dev nD) (p : ℕ) : Vec F S12x3x768x128 .i32 := W4 (grid0.coords (gp (p * 144))) (gA p) (V m c main_v23)
def Wb (c : Dev nD) (p : ℕ) : Vec F S12x3x768x128 .i32 := W5 (grid0.coords (gp (p * 144))) (gA p) (V m c main_v44)

/-- The product buffer holds the products of the `q`-th run of 24 points. -/
def Rows (c : Dev nD) (q : ℕ) (x : Vec F S19200x128 .f32) : Prop :=
  rows1 (grid0.coords (gp (q * 24))) (gB q) (Wa m c (q / 6)) (Wb m c (q / 6)) x k0_t1_loop.trips

/-- The trip of the first loop that computes channel `ch`. -/
def tripOf (ch : Fin 96) : Fin k0_t1_loop.trips := ⟨24 * (ch.val % 4) + ch.val / 4, by rw [trips1_eq]; omega⟩

/-- The 96 channels' products of the row that trip `k` of the second loop normalises at point `t`. -/
def X53 (c : Dev nD) (t : Fin cfg0.N) (k : Fin k0_t2_loop.trips) : Vec F S96x128 .f32 := fun y =>
  P12 (grid0.coords (gp (t.val / 24 * 24))) (gB (t.val / 24)) (Wa m c (t.val / 24 / 6)) (Wb m c (t.val / 24 / 6)) (tripOf (y 0))
    (Idealize.ShloMosaic.ValueIdx.ix2 ⟨t.val % 24 * 8 + k.val, by have := trips2_le k; omega⟩ (y 1))

theorem rd53_eq (c : Dev nD) (t : Fin cfg0.N) (x : Vec F S19200x128 .f32) (h : Rows m c (t.val / 24) x) :
    rd53 (grid0.coords t) x = X53 m c t := by
  funext k y
  have hk := trips2_le k
  have hy : (y 0).val < 96 := (y 0).isLt
  have e := h (tripOf (y 0)) (Fin.isLt _) (Idealize.ShloMosaic.ValueIdx.ix2 ⟨t.val % 24 * 8 + k.val, by omega⟩ (y 1))
  refine Eq.trans ?_ e
  refine congrArg x (funext fun a => Fin.ext ?_)
  have e1 : ((Rect.unit (s := S19200x128) (k0_off10 (grid0.coords t) k) S96x128.size (k0_off10_inb (grid0.coords t) k)).idx y a).val
      = k0_off10 (grid0.coords t) k a + 1 * (y a).val := rfl
  have e2 : ∀ z : S192x128.Idx, ((R8 (grid0.coords (gp (t.val / 24 * 24))) (gB (t.val / 24)) (tripOf (y 0))).emb z a).val
      = k0_off8 (tripOf (y 0)) a + ![100, 1] a * (z a).val := fun _ => rfl
  refine e1.trans (Eq.trans ?_ (e2 _).symm)
  rw [off10_at, off8_at]
  have ht : (tripOf (y 0)).val = 24 * ((y 0).val % 4) + (y 0).val / 4 := rfl
  fin_cases a
  · show (t.val % 24 * 8 + k.val) * 100 + 1 * (y 0).val
      = (4 * ((tripOf (y 0)).val % 24) + (tripOf (y 0)).val / 24) + 100 * (t.val % 24 * 8 + k.val)
    rw [ht]; omega
  · show 0 + 1 * (y 1).val = 0 + 1 * (y 1).val; rfl

theorem Wa_of (c : Dev nD) (t : Fin cfg0.N) (hc : k0_cond1 (grid0.coords t) = 1#1) :
    W4 (grid0.coords t) hc (V m c main_v23) = Wa m c (t.val / 144) := by
  have e : gp (t.val / 144 * 144) = t := by
    have := (cond1_at t).mp hc
    rw [show t.val / 144 * 144 = t.val by omega]; exact gp_val t
  unfold Wa
  congr 1 <;> rw [e]
theorem Wb_of (c : Dev nD) (t : Fin cfg0.N) (hc : k0_cond1 (grid0.coords t) = 1#1) :
    W5 (grid0.coords t) hc (V m c main_v44) = Wb m c (t.val / 144) := by
  have e : gp (t.val / 144 * 144) = t := by
    have := (cond1_at t).mp hc
    rw [show t.val / 144 * 144 = t.val by omega]; exact gp_val t
  unfold Wb
  congr 1 <;> rw [e]

theorem rows1_congr {i j : grid0.Coords} (e : i = j) (hi : k0_cond2 i = 1#1) (hj : k0_cond2 j = 1#1) (x21 : Vec F S12x3x768x128 .i32) (x22 : Vec F S12x3x768x128 .i32)
    (x : Vec F S19200x128 .f32) (k : ℕ) (h : rows1 i hi x21 x22 x k) : rows1 j hj x21 x22 x k := by
  subst e; exact h

theorem Rows_of (c : Dev nD) (t : Fin cfg0.N) (hc : k0_cond2 (grid0.coords t) = 1#1) (x : Vec F S19200x128 .f32)
    (h : rows1 (grid0.coords t) hc (Wa m c (t.val / 144)) (Wb m c (t.val / 144)) x k0_t1_loop.trips) : Rows m c (t.val / 24) x := by
  have e : gp (t.val / 24 * 24) = t := by
    have := (cond2_at t).mp hc
    rw [show t.val / 24 * 24 = t.val by omega]; exact gp_val t
  unfold Rows
  rw [show t.val / 24 / 6 = t.val / 144 by omega]
  exact rows1_congr (by rw [e]) hc _ _ _ _ _ h

/-! ## @main up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub Gen.hostOps0_fresh main_chain

/-! ## The region's operands -/

abbrev osem0 : Fin 2 → SemLoc sig := fun j => (![SemLoc.dma 24, SemLoc.dma 25] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl
/-- The operands the body fetches from itself. -/
def H0 : Finset (Ref sig .tc) := {main_v23, main_v44}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v23) ↦{fullShare} V m c main_v23) ∗ (((c : Thread nD τ).loc main_v44) ↦{fullShare} V m c main_v44)) := by
  rw [BI.bigSep_eq_bigSepL_of_eq [main_v23, main_v44] (by decide) (by decide)]; rfl

abbrev sc0 : Memref sig .tc .vmem S12x3x768x128 .i32 := Memref.whole cc0_scratch0
abbrev sc1 : Memref sig .tc .vmem S12x3x768x128 .i32 := Memref.whole cc0_scratch1
abbrev sc2 : Memref sig .tc .vmem S19200x128 .f32 := Memref.whole cc0_scratch2
abbrev hb0 : Memref sig .tc .hbm S2x12x3x768x128 .i32 := Memref.whole main_v23
abbrev hb1 : Memref sig .tc .hbm S2x12x3x768x128 .i32 := Memref.whole main_v44

/-- What is carried into point `n`: a batch's words in the two code buffers (at any but a batch's first point), the
    products of the run of 24 points in the product buffer (at any but its first). -/
def Carry (c : Dev nD) (n : ℕ) : sProp 𝕄 :=
  iprop((∃ x21, ⌜n % 144 ≠ 0 → x21 = Wa m c (n / 144)⌝ ∗ owns (c : Thread nD τ) sc0 fullShare x21)
    ∗ (∃ x22, ⌜n % 144 ≠ 0 → x22 = Wb m c (n / 144)⌝ ∗ owns (c : Thread nD τ) sc1 fullShare x22)
    ∗ (∃ x23, ⌜n % 24 ≠ 0 → Rows m c (n / 24) x23⌝ ∗ owns (c : Thread nD τ) sc2 fullShare x23)
    ∗ (∃ r, prngReg c r)
    ∗ (semVal ((c : Thread nD τ), SemLoc.dma 24) 0 ∗ semVal ((c : Thread nD τ), SemLoc.dma 25) 0)
    ∗ owns (c : Thread nD τ) hb0 fullShare (V m c main_v23) ∗ owns (c : Thread nD τ) hb1 fullShare (V m c main_v44))

theorem hb0_eq (c : Dev nD) (f : Vec F S2x12x3x768x128 .i32) :
    (hb0.view.loc (c : Thread nD τ) ↦[hb0.view.set]{fullShare} f : sProp 𝕄) = owns (c : Thread nD τ) hb0 fullShare f := by
  rw [owns_whole]; simp only [hb0, Memref.view_whole, View.set_whole]
theorem hb1_eq (c : Dev nD) (f : Vec F S2x12x3x768x128 .i32) :
    (hb1.view.loc (c : Thread nD τ) ↦[hb1.view.set]{fullShare} f : sProp 𝕄) = owns (c : Thread nD τ) hb1 fullShare f := by
  rw [owns_whole]; simp only [hb1, Memref.view_whole, View.set_whole]

theorem PhiD_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d))
          ∗ (∃ r, prngReg c r)
          ∗ iprop(semVal ((c : Thread nD τ), SemLoc.dma 24) 0 ∗ semVal ((c : Thread nD τ), SemLoc.dma 25) 0)
          ∗ iprop(owns (c : Thread nD τ) hb0 fullShare (V m c main_v23) ∗ owns (c : Thread nD τ) hb1 fullShare (V m c main_v44))) := by
  rw [Pipeline.ΦD_eq, scopedRest0_eq, ownSems00_eq, hbmPts0_eq]
  simp only [sc0, sc1, sc2, hb0, hb1, owns_whole]; try rfl

theorem Carry_first (c : Dev nD) (n : ℕ) (hn : n % 144 = 0) : (Pipeline.ΦD osem0 spec0 H0 (V m) c : sProp 𝕄) ⊢ Carry m c n := by
  rw [PhiD_eq]; unfold Carry
  iintro ⟨⟨⟨%d0, H0⟩, ⟨%d1, H1⟩, ⟨%d2, H2⟩⟩, Hg, Hs, Hb0, Hb1⟩
  isplitl [H0]
  · iexists d0; isplitr; · ipureintro; exact fun h => absurd hn h
    iexact H0
  isplitl [H1]
  · iexists d1; isplitr; · ipureintro; exact fun h => absurd hn h
    iexact H1
  isplitl [H2]
  · iexists d2; isplitr; · ipureintro; exact fun h => absurd (by omega) h
    iexact H2
  isplitl [Hg]; · iexact Hg
  isplitl [Hs]; · iexact Hs
  isplitl [Hb0]; · iexact Hb0
  iexact Hb1

theorem Carry_last (c : Dev nD) (n : ℕ) : Carry m c n ⊢ (Pipeline.ΦD osem0 spec0 H0 (V m) c : sProp 𝕄) := by
  rw [PhiD_eq]; unfold Carry
  iintro ⟨⟨%d0, -, H0⟩, ⟨%d1, -, H1⟩, ⟨%d2, -, H2⟩, Hg, Hs, Hb0, Hb1⟩
  isplitl [H0 H1 H2]
  · isplitl [H0]; · iexists d0; iexact H0
    isplitl [H1]; · iexists d1; iexact H1
    iexists d2; iexact H2
  isplitl [Hg]; · iexact Hg
  isplitl [Hs]; · iexact Hs
  isplitl [Hb0]; · iexact Hb0
  iexact Hb1

/-! ## What each point leaves in the four result windows -/

/-- Result window 0 after point `t`. -/
def outAt17 (c : Dev nD) (t : Fin cfg0.N) : Vec F S1x8x128x128 .bf16 :=
  O17 (P17 (grid0.coords t) (w12 (grid0.coords t)) (w31 (grid0.coords t)) 0#32 (iblk m c 3 t) (iblk m c 4 t) (X53 m c t) (iblk m c 5 t) (iblk m c 6 t) (iblk m c 7 t) (iblk m c 9 t) (iblk m c 8 t) (iblk m c 1 t) (iblk m c 2 t) (iblk m c 10 t) (iblk m c 0 t))
/-- Result window 1 after point `t`. -/
def outAt18 (c : Dev nD) (t : Fin cfg0.N) : Vec F S1x8x128 .f32 :=
  O18 (P18 (grid0.coords t) (w12 (grid0.coords t)) (w31 (grid0.coords t)) 0#32 (iblk m c 3 t) (iblk m c 4 t) (X53 m c t))
/-- Result window 2 after point `t`. -/
def outAt19 (c : Dev nD) (t : Fin cfg0.N) : Vec F S1x8x96x128 .fp8e4m3 :=
  O19 (P19 (grid0.coords t) (w12 (grid0.coords t)) (w31 (grid0.coords t)) 0#32 (iblk m c 3 t) (iblk m c 4 t) (X53 m c t) (iblk m c 5 t) (iblk m c 6 t))
/-- Result window 3 after point `t`. -/
def outAt20 (c : Dev nD) (t : Fin cfg0.N) : Vec F S1x8x128 .f32 :=
  O20 (P20 (grid0.coords t) (w12 (grid0.coords t)) (w31 (grid0.coords t)) 0#32 (iblk m c 3 t) (iblk m c 4 t) (X53 m c t) (iblk m c 5 t) (iblk m c 6 t))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt17 m c t
    | ⟨12, _⟩ => outAt18 m c t
    | ⟨13, _⟩ => outAt19 m c t
    | ⟨14, _⟩ => outAt20 m c t
  Φ t := Carry m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt17 m c t := by dsimp only [dats]
theorem after_12 (c : Dev nD) (t : Fin cfg0.N) : (dats m 0 c).after 12 t = outAt18 m c t := by dsimp only [dats]
theorem after_13 (c : Dev nD) (t : Fin cfg0.N) : (dats m 0 c).after 13 t = outAt19 m c t := by dsimp only [dats]
theorem after_14 (c : Dev nD) (t : Fin cfg0.N) : (dats m 0 c).after 14 t = outAt20 m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t))

theorem sound_C (c : Dev nD) (t : Fin cfg0.N) (ht : t.val % 24 ≠ 0) :
    bodyPre m c t ⊢ wp frame (wpE (defs₀ (F := F)) Variants.none (c : Thread nD τ) none) Set.univ (bodyAt0 t) (fun _ => bodyPost m c t) := by
  have hc1 : ¬ k0_cond1 (grid0.coords t) = 1#1 := fun h => by have := (cond1_at t).mp h; omega
  have hc2 : ¬ k0_cond2 (grid0.coords t) = 1#1 := fun h => by have := (cond2_at t).mp h; omega
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have e23 := rd53_eq m c t x23 (h23 ht)
  iapply (run_C c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) cc0_scratch3 (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22 x23 WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexact S2
  rw [e23]
  iintro ⟨H0, H1, H2, H3, H4, H5, H6, H7, H8, H9, H10, H11, H12, H13, H14, S0, S1, S2⟩
  isplitl [S0 S1 S2 Hg Hq0 Hq1 Hb0 Hb1]
  · isplitl [S0]
    · iexists _; isplitr; swap; · iexact S0
      ipureintro; exact fun h => by rw [show (t.val + 1) / 144 = t.val / 144 by omega]; exact h21 (by omega)
    isplitl [S1]
    · iexists _; isplitr; swap; · iexact S1
      ipureintro; exact fun h => by rw [show (t.val + 1) / 144 = t.val / 144 by omega]; exact h22 (by omega)
    isplitl [S2]
    · iexists _; isplitr; swap; · iexact S2
      ipureintro; exact fun h => by rw [show (t.val + 1) / 24 = t.val / 24 by omega]; exact h23 (by omega)
    isplitl [Hg]; · iexact Hg
    isplitl [Hq0 Hq1]
    · isplitl [Hq0]; · iexact Hq0
      iexact Hq1
    isplitl [Hb0]; · iexact Hb0
    iexact Hb1
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_B (c : Dev nD) (t : Fin cfg0.N) (ht : t.val % 24 = 0) (ht' : t.val % 144 ≠ 0) :
    bodyPre m c t ⊢ wp frame (wpE (defs₀ (F := F)) Variants.none (c : Thread nD τ) none) Set.univ (bodyAt0 t) (fun _ => bodyPost m c t) := by
  have hc1 : ¬ k0_cond1 (grid0.coords t) = 1#1 := fun h => by have := (cond1_at t).mp h; omega
  have hc2 : k0_cond2 (grid0.coords t) = 1#1 := (cond2_at t).mpr ht
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl := h21 ht'
  obtain rfl := h22 ht'
  iapply (run_B c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) cc0_scratch3 (iblk m c 0 t) (iblk m c 1 t) (iblk m c 2 t) (iblk m c 3 t) (iblk m c 4 t) (iblk m c 5 t) (iblk m c 6 t) (iblk m c 7 t) (iblk m c 8 t) (iblk m c 9 t) (iblk m c 10 t) (Wa m c (t.val / 144)) (Wb m c (t.val / 144)) WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexists _; iexact S2
  iintro ⟨H0, H1, H2, H3, H4, H5, H6, H7, H8, H9, H10, ⟨%z23, %hz, H11, H12, H13, H14, S2⟩, S0, S1⟩
  have hz' := Rows_of m c t hc2 z23 hz
  rw [rd53_eq m c t z23 hz']
  isplitl [S0 S1 S2 Hg Hq0 Hq1 Hb0 Hb1]
  · isplitl [S0]
    · iexists _; isplitr; swap; · iexact S0
      ipureintro; exact fun h => by rw [show (t.val + 1) / 144 = t.val / 144 by omega]
    isplitl [S1]
    · iexists _; isplitr; swap; · iexact S1
      ipureintro; exact fun h => by rw [show (t.val + 1) / 144 = t.val / 144 by omega]
    isplitl [S2]
    · iexists _; isplitr; swap; · iexact S2
      ipureintro; exact fun h => by rw [show (t.val + 1) / 24 = t.val / 24 by omega]; exact hz'
    isplitl [Hg]; · iexact Hg
    isplitl [Hq0 Hq1]
    · isplitl [Hq0]; · iexact Hq0
      iexact Hq1
    isplitl [Hb0]; · iexact Hb0
    iexact Hb1
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 1000000 in
theorem sound_A (c : Dev nD) (t : Fin cfg0.N) (ht' : t.val % 144 = 0) :
    bodyPre m c t ⊢ wp frame (wpE (defs₀ (F := F)) Variants.none (c : Thread nD τ) none) Set.univ (bodyAt0 t) (fun _ => bodyPost m c t) := by
  have hc1 : k0_cond1 (grid0.coords t) = 1#1 := (cond1_at t).mpr ht'
  have hc2 : k0_cond2 (grid0.coords t) = 1#1 := (cond2_at t).mpr (by omega)
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_A c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) (V m c main_v23) (V m c main_v44) (iblk m c 0 t) (iblk m c 1 t) (iblk m c 2 t) (iblk m c 3 t) (iblk m c 4 t) (iblk m c 5 t) (iblk m c 6 t) (iblk m c 7 t) (iblk m c 8 t) (iblk m c 9 t) (iblk m c 10 t) WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexists _; iexact S0
  isplitl [S1]; · iexists _; iexact S1
  isplitl [S2]; · iexists _; iexact S2
  isplitl [Hb0]; · rw [hb0_eq]; iexact Hb0
  isplitl [Hb1]; · rw [hb1_eq]; iexact Hb1
  isplitl [Hq0]; · iexact Hq0
  isplitl [Hq1]; · iexact Hq1
  isplitl [HW]; · iexact HW
  rw [hb0_eq, hb1_eq, show hb0.view.read (Elt F) (V m c main_v23) = V m c main_v23 from View.read_whole _ _, show hb1.view.read (Elt F) (V m c main_v44) = V m c main_v44 from View.read_whole _ _,
    Wa_of m c t hc1, Wb_of m c t hc1]
  iintro ⟨H0, H1, H2, H3, H4, H5, H6, H7, H8, H9, H10, ⟨%z23, %hz, H11, H12, H13, H14, S2⟩, S0, S1, Hb0, Hb1, Hq0, Hq1, ⟨%W', HW⟩⟩
  have hz' := Rows_of m c t hc2 z23 hz
  rw [rd53_eq m c t z23 hz']
  isplitl [S0 S1 S2 Hg Hq0 Hq1 Hb0 Hb1]
  · isplitl [S0]
    · iexists _; isplitr; swap; · iexact S0
      ipureintro; exact fun h => by rw [show (t.val + 1) / 144 = t.val / 144 by omega]
    isplitl [S1]
    · iexists _; isplitr; swap; · iexact S1
      ipureintro; exact fun h => by rw [show (t.val + 1) / 144 = t.val / 144 by omega]
    isplitl [S2]
    · iexists _; isplitr; swap; · iexact S2
      ipureintro; exact fun h => by rw [show (t.val + 1) / 24 = t.val / 24 by omega]; exact hz'
    isplitl [Hg]; · iexact Hg
    isplitl [Hq0 Hq1]
    · isplitl [Hq0]; · iexact Hq0
      iexact Hq1
    isplitl [Hb0]; · iexact Hb0
    iexact Hb1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none (c : Thread nD τ) none) Set.univ (bodyAt0 t) (fun _ => bodyPost m c t) := by
  by_cases h : t.val % 24 = 0
  · by_cases h' : t.val % 144 = 0
    · exact sound_A m c t h'
    · exact sound_B m c t h h'
  · exact sound_C m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Carry_first m c 0 rfl) (hout := fun c => Carry_last m c _)

/-- The program runs to an end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩, h.2⟩) (run_main m ρ)

end Cert.Kernel.Hand

end
-- ==== Proof.KernelIdeal.Body.lean ====
/- What one grid point of the second call computes: its two loops, as functions of what the operands hold. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The values a trip stores -/

section Values

variable (i : grid0.Coords) (v12 v31 c0 : BitVec 32)

/-- The 96 rows of the product buffer that trip `k` of the second loop reads. -/
abbrev rd53 (x23 : Vec F S19200x128 .f32) (k : Fin k0_t2_loop.trips) : Vec F S96x128 .f32 :=
  View.ld x23 (Rect.unit (s := S19200x128) (k0_off10 i k) S96x128.size (k0_off10_inb i k))

variable (x9 : Vec F S1x96x384 .f32) (x10 : Vec F S1x96x384 .f32) (x53 : Fin k0_t2_loop.trips → Vec F S96x128 .f32)

/-- The deviation of one row, as trip `k` computes it. -/
def Pstd (k : Fin k0_t2_loop.trips) : FVec F S1x128 .f32 :=
  k0_pay4 v12 v31 c0 1#32 k (View.ld x9 (Rect.unit (s := S1x96x384) (k0_off9 i) S1x96x128.size (k0_off9_inb i))) (x53 k)
    (View.ld x10 (Rect.unit (s := S1x96x384) (k0_off11 i) S1x96x128.size (k0_off11_inb i)))

/-- The centred row over its deviation. -/
def Pnorm (k : Fin k0_t2_loop.trips) : FVec F S96x128 .f32 :=
  k0_pay5 v12 v31 c0 1#32 k (View.ld x9 (Rect.unit (s := S1x96x384) (k0_off9 i) S1x96x128.size (k0_off9_inb i))) (x53 k)
    (View.ld x10 (Rect.unit (s := S1x96x384) (k0_off11 i) S1x96x128.size (k0_off11_inb i)))

/-- The row of deviations stored by trip `k`. -/
def P18 (k : Fin k0_t2_loop.trips) : FVec F S1x1x128 .f32 := k0_pay9 (Pstd i v12 v31 c0 x9 x10 x53 k)

variable (x11 : Vec F S96x1 .f32) (x12 : Vec F S96x1 .f32)

/-- The codes of the normalised row stored by trip `k`. -/
def P19 (k : Fin k0_t2_loop.trips) : FVec F S1x1x96x128 .fp8e4m3 :=
  k0_pay11 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0))

/-- Their scales. -/
def P20 (k : Fin k0_t2_loop.trips) : FVec F S1x1x128 .f32 :=
  k0_pay10 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0))

variable (x13 : Vec F S128x96 .fp8e4m3) (x15 : Vec F S128x1 .f32) (x14 : Vec F S128x128 .fp8e4m3) (x7 : Vec F S1x8x128x128 .fp8e4m3) (x8 : Vec F S1x8x128 .f32) (x16 : Vec F S128x1 .f32) (x6 : Vec F S1x8x128x128 .bf16)

/-- The row of the result stored by trip `k`. -/
def P17 (k : Fin k0_t2_loop.trips) : FVec F S1x1x128x128 .bf16 :=
  k0_pay1 (k0_pay7 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0)))
    (k0_pay8 (Pnorm i v12 v31 c0 x9 x10 x53 k) (View.ld x11 (Rect.unit (s := S96x1) ![0, 0] S96x1.size inb_S96x1_S96x1_0_0)) (View.ld x12 (Rect.unit (s := S96x1) ![0, 0] S96x1.size inb_S96x1_S96x1_0_0)))
    (View.ld x13 (Rect.unit (s := S128x96) ![0, 0] S128x96.size inb_S128x96_S128x96_0_0)) (View.ld x15 (Rect.unit (s := S128x1) ![0, 0] S128x1.size inb_S128x1_S128x1_0_0)) (View.ld x14 (Rect.unit (s := S128x128) ![0, 0] S128x128.size inb_S128x128_S128x128_0_0))
    (View.ld x7 (Rect.unit (s := S1x8x128x128) (k0_off14 k) S1x1x128x128.size (k0_off14_inb k)))
    (View.ld x8 (Rect.unit (s := S1x8x128) (k0_off12 k) S1x1x128.size (k0_off12_inb k)))
    (View.ld x16 (Rect.unit (s := S128x1) ![0, 0] S128x1.size inb_S128x1_S128x1_0_0))
    (View.ld x6 (Rect.unit (s := S1x8x128x128) (k0_off14 k) S1x1x128x128.size (k0_off14_inb k)))

end Values

/-- The product of one channel's codes, as trip `k` of the first loop computes it. -/
def P12 (i : grid0.Coords) (hi : k0_cond2 i = 1#1) (x21 : Vec F S12x3x768x128 .i32) (x22 : Vec F S12x3x768x128 .i32) (k : Fin k0_t1_loop.trips) : FVec F S192x128 .f32 :=
  k0_pay12 (k0_pay2 (View.ld x21 (Rect.unit (s := S12x3x768x128) (k0_off2 i k) S6x1x8x128.size (k0_off2_inb i k hi))))
    (View.ld x21 (Rect.unit (s := S12x3x768x128) (k0_off3 i k) S6x1x8x128.size (k0_off3_inb i k hi)))
    (View.ld x21 (Rect.unit (s := S12x3x768x128) (k0_off4 i k) S6x1x8x128.size (k0_off4_inb i k hi)))
    (View.ld x22 (Rect.unit (s := S12x3x768x128) (k0_off5 i k) S4x1x8x128.size (k0_off5_inb i k hi)))
    (View.ld x22 (Rect.unit (s := S12x3x768x128) (k0_off6 i k) S4x1x8x128.size (k0_off6_inb i k hi)))
    (View.ld x22 (Rect.unit (s := S12x3x768x128) (k0_off7 i k) S4x1x8x128.size (k0_off7_inb i k hi)))

/-- The rows that trip `k` of the first loop writes: one of every hundred. -/
abbrev R8 (i : grid0.Coords) (hi : k0_cond2 i = 1#1) (k : Fin k0_t1_loop.trips) : Rect S19200x128 :=
  ⟨(⟨k0_off8 k, S192x128.size, ![100, 1], k0_off8_inb i k hi⟩ : LoadRect S19200x128), spos_100_1⟩
/-- The part of result window 0 that trip `k` of the second loop writes. -/
abbrev R17 (k : Fin k0_t2_loop.trips) : Rect S1x8x128x128 := Rect.unit (s := S1x8x128x128) (k0_off14 k) S1x1x128x128.size (k0_off14_inb k)
/-- The part of result window 1 that trip `k` of the second loop writes. -/
abbrev R18 (k : Fin k0_t2_loop.trips) : Rect S1x8x128 := Rect.unit (s := S1x8x128) (k0_off12 k) S1x1x128.size (k0_off12_inb k)
/-- The part of result window 2 that trip `k` of the second loop writes. -/
abbrev R19 (k : Fin k0_t2_loop.trips) : Rect S1x8x96x128 := Rect.unit (s := S1x8x96x128) (k0_off13 k) S1x1x96x128.size (k0_off13_inb k)
/-- The part of result window 3 that trip `k` of the second loop writes. -/
abbrev R20 (k : Fin k0_t2_loop.trips) : Rect S1x8x128 := Rect.unit (s := S1x8x128) (k0_off12 k) S1x1x128.size (k0_off12_inb k)

theorem trips1_le (k : Fin k0_t1_loop.trips) : k.val < 96 := Nat.lt_of_lt_of_le k.isLt k0_t1_abs.2.1
theorem trips2_le (k : Fin k0_t2_loop.trips) : k.val < 8 := Nat.lt_of_lt_of_le k.isLt k0_t2_abs.2.1

theorem off8_at : ∀ k : Fin k0_t1_loop.trips, k0_off8 k = ![4 * (k.val % 24) + k.val / 24, 0] := by decide +kernel
theorem off12_at : ∀ k : Fin k0_t2_loop.trips, k0_off12 k = ![0, k.val, 0] := by decide +kernel
theorem off13_at : ∀ k : Fin k0_t2_loop.trips, k0_off13 k = ![0, k.val, 0, 0] := by decide +kernel
theorem off14_at : ∀ k : Fin k0_t2_loop.trips, k0_off14 k = ![0, k.val, 0, 0] := by decide +kernel

/-- Two trips of the first loop write different rows. -/
theorem R8_ne (i : grid0.Coords) (hi : k0_cond2 i = 1#1) (j k : Fin k0_t1_loop.trips) (h : j.val < k.val) (y : S192x128.Idx) :
    (R8 i hi j).emb y ∉ (R8 i hi k).set := by
  intro hm
  obtain ⟨z, hz, he⟩ := (R8 i hi k).mem_set.mp hm 0
  have e1 : ((R8 i hi j).emb y 0).val = k0_off8 j 0 + 100 * (y 0).val := rfl
  have e2 : (R8 i hi k).off 0 + (R8 i hi k).stride 0 * z = k0_off8 k 0 + 100 * z := rfl
  rw [e2] at he; rw [e1, off8_at, off8_at] at he
  have hj := trips1_le j
  have hk := trips1_le k
  simp only [Matrix.cons_val_zero] at he
  omega
/-- Two trips of the second loop write different parts of window 0. -/
theorem R17_ne (j k : Fin k0_t2_loop.trips) (h : j.val < k.val) (y : S1x1x128x128.Idx) : (R17 j).emb y ∉ (R17 k).set := by
  intro hm
  obtain ⟨z, hz, he⟩ := (R17 k).mem_set.mp hm 1
  have e1 : ((R17 j).emb y 1).val = k0_off14 j 1 + 1 * (y 1).val := rfl
  have e2 : (R17 k).off 1 + (R17 k).stride 1 * z = k0_off14 k 1 + 1 * z := rfl
  rw [e2] at he; rw [e1, off14_at, off14_at] at he
  have h1 : (y 1).val < 1 := (y 1).isLt
  have h2 : z < 1 := hz
  simp only [Matrix.cons_val_one, Matrix.cons_val_zero] at he
  omega
/-- Two trips of the second loop write different parts of window 1. -/
theorem R18_ne (j k : Fin k0_t2_loop.trips) (h : j.val < k.val) (y : S1x1x128.Idx) : (R18 j).emb y ∉ (R18 k).set := by
  intro hm
  obtain ⟨z, hz, he⟩ := (R18 k).mem_set.mp hm 1
  have e1 : ((R18 j).emb y 1).val = k0_off12 j 1 + 1 * (y 1).val := rfl
  have e2 : (R18 k).off 1 + (R18 k).stride 1 * z = k0_off12 k 1 + 1 * z := rfl
  rw [e2] at he; rw [e1, off12_at, off12_at] at he
  have h1 : (y 1).val < 1 := (y 1).isLt
  have h2 : z < 1 := hz
  simp only [Matrix.cons_val_one, Matrix.cons_val_zero] at he
  omega
/-- Two trips of the second loop write different parts of window 2. -/
theorem R19_ne (j k : Fin k0_t2_loop.trips) (h : j.val < k.val) (y : S1x1x96x128.Idx) : (R19 j).emb y ∉ (R19 k).set := by
  intro hm
  obtain ⟨z, hz, he⟩ := (R19 k).mem_set.mp hm 1
  have e1 : ((R19 j).emb y 1).val = k0_off13 j 1 + 1 * (y 1).val := rfl
  have e2 : (R19 k).off 1 + (R19 k).stride 1 * z = k0_off13 k 1 + 1 * z := rfl
  rw [e2] at he; rw [e1, off13_at, off13_at] at he
  have h1 : (y 1).val < 1 := (y 1).isLt
  have h2 : z < 1 := hz
  simp only [Matrix.cons_val_one, Matrix.cons_val_zero] at he
  omega
/-- Two trips of the second loop write different parts of window 3. -/
theorem R20_ne (j k : Fin k0_t2_loop.trips) (h : j.val < k.val) (y : S1x1x128.Idx) : (R20 j).emb y ∉ (R20 k).set := by
  intro hm
  obtain ⟨z, hz, he⟩ := (R20 k).mem_set.mp hm 1
  have e1 : ((R20 j).emb y 1).val = k0_off12 j 1 + 1 * (y 1).val := rfl
  have e2 : (R20 k).off 1 + (R20 k).stride 1 * z = k0_off12 k 1 + 1 * z := rfl
  rw [e2] at he; rw [e1, off12_at, off12_at] at he
  have h1 : (y 1).val < 1 := (y 1).isLt
  have h2 : z < 1 := hz
  simp only [Matrix.cons_val_one, Matrix.cons_val_zero] at he
  omega

/-! ## The loops -/

section Loops

variable (c : Dev nD) (i : grid0.Coords) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)

/-- What the product buffer holds before trip `k` of the first loop: the products of the channels before. -/
def rows1 (hi : k0_cond2 i = 1#1) (x21 : Vec F S12x3x768x128 .i32) (x22 : Vec F S12x3x768x128 .i32) (x : Vec F S19200x128 .f32) (k : ℕ) : Prop :=
  ∀ (j : Fin k0_t1_loop.trips), j.val < k → ∀ y : S192x128.Idx, x ((R8 i hi j).emb y) = P12 i hi x21 x22 j y

/-- Before trip `k` of the first loop: the codes as they were, the products of the channels before `k`. -/
def invAt1 (hi : k0_cond2 i = 1#1) (X21 : BufTy.Contents (Elt F) arg21.view.ty) (X22 : BufTy.Contents (Elt F) arg22.view.ty) (k : ℕ) : sProp 𝕄 :=
  iprop((arg21.view.loc (c : Thread nD τ) ↦[arg21.view.set]{fullShare} X21) ∗ (arg22.view.loc (c : Thread nD τ) ↦[arg22.view.set]{fullShare} X22) ∗ (∃ f, ⌜∀ (j : Fin k0_t1_loop.trips), j.val < k → ∀ y : S192x128.Idx, arg23.view.read (Elt F) f ((R8 i hi j).emb y) = P12 i hi (arg21.view.read (Elt F) X21) (arg22.view.read (Elt F) X22) j y⌝ ∗ (arg23.view.loc (c : Thread nD τ) ↦[arg23.view.set]{fullShare} f)))

set_option warn.classDefReducibility false in
/-- The first loop's invariant. -/
@[sl_loop] def loopInv1 (arg2 : BitVec 32) (hi : k0_cond2 i = 1#1) (X21 : BufTy.Contents (Elt F) arg21.view.ty) (X22 : BufTy.Contents (Elt F) arg22.view.ty) :
    LoopInvTy_k0_t1 (F := F) Unit ℕ (Pipeline.UD sig nD τ) ℕ Variants.none c none Set.univ i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg2 hi where
  inv k _ := invAt1 c i arg21 arg22 arg23 hi X21 X22 k
  step k acc := by
    unfold invAt1 k0_t1_body
    iintro ⟨H21, H22, ⟨%f, %hf, H23⟩⟩
    sl_exec
    sl_step
    isplitl [H21]; · iexact H21
    isplitl [H22]; · iexact H22
    iexists _
    isplitr; swap; · iexact H23
    ipureintro
    intro j hj y
    rcases Nat.lt_succ_iff_lt_or_eq.mp hj with h | h
    · refine Eq.trans (View.read_writes_cons_miss _ _ _ _ _ ?_) ?_; · exact R8_ne i hi j k h y
      exact hf j h y
    · obtain rfl : j = k := Fin.ext h
      refine Eq.trans (View.read_writes_cons_emb _ _ (R8 i hi j) _ _ y) ?_
      simp only [View.readAt_eq_ld]
      unfold P12 loopInv1.sl.v72 loopInv1.sl.v71
      rfl

/-- Before trip `k` of the second loop: what it reads as it was, the rows before `k` of the four results. -/
def invAt2 (v12 v31 c0 : BitVec 32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X23 : BufTy.Contents (Elt F) arg23.view.ty) (k : ℕ) : sProp 𝕄 :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg23.view.loc (c : Thread nD τ) ↦[arg23.view.set]{fullShare} X23) ∗ (∃ f, ⌜∀ (j : Fin k0_t2_loop.trips), j.val < k → ∀ y : S1x1x128x128.Idx, arg17.view.read (Elt F) f ((R17 j).emb y) = (P17 i v12 v31 c0 (arg9.view.read (Elt F) X9) (arg10.view.read (Elt F) X10) (rd53 i (arg23.view.read (Elt F) X23)) (arg11.view.read (Elt F) X11) (arg12.view.read (Elt F) X12) (arg13.view.read (Elt F) X13) (arg15.view.read (Elt F) X15) (arg14.view.read (Elt F) X14) (arg7.view.read (Elt F) X7) (arg8.view.read (Elt F) X8) (arg16.view.read (Elt F) X16) (arg6.view.read (Elt F) X6)) j y⌝ ∗ (arg17.view.loc (c : Thread nD τ) ↦[arg17.view.set]{fullShare} f)) ∗ (∃ f, ⌜∀ (j : Fin k0_t2_loop.trips), j.val < k → ∀ y : S1x1x128.Idx, arg18.view.read (Elt F) f ((R18 j).emb y) = (P18 i v12 v31 c0 (arg9.view.read (Elt F) X9) (arg10.view.read (Elt F) X10) (rd53 i (arg23.view.read (Elt F) X23))) j y⌝ ∗ (arg18.view.loc (c : Thread nD τ) ↦[arg18.view.set]{fullShare} f)) ∗ (∃ f, ⌜∀ (j : Fin k0_t2_loop.trips), j.val < k → ∀ y : S1x1x96x128.Idx, arg19.view.read (Elt F) f ((R19 j).emb y) = (P19 i v12 v31 c0 (arg9.view.read (Elt F) X9) (arg10.view.read (Elt F) X10) (rd53 i (arg23.view.read (Elt F) X23)) (arg11.view.read (Elt F) X11) (arg12.view.read (Elt F) X12)) j y⌝ ∗ (arg19.view.loc (c : Thread nD τ) ↦[arg19.view.set]{fullShare} f)) ∗ (∃ f, ⌜∀ (j : Fin k0_t2_loop.trips), j.val < k → ∀ y : S1x1x128.Idx, arg20.view.read (Elt F) f ((R20 j).emb y) = (P20 i v12 v31 c0 (arg9.view.read (Elt F) X9) (arg10.view.read (Elt F) X10) (rd53 i (arg23.view.read (Elt F) X23)) (arg11.view.read (Elt F) X11) (arg12.view.read (Elt F) X12)) j y⌝ ∗ (arg20.view.loc (c : Thread nD τ) ↦[arg20.view.set]{fullShare} f)))

set_option warn.classDefReducibility false in
/-- The second loop's invariant. -/
@[sl_loop] def loopInv2 (arg3 v12 v31 v33 c0 : BitVec 32) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X23 : BufTy.Contents (Elt F) arg23.view.ty) :
    LoopInvTy_k0_t2 (F := F) Unit ℕ (Pipeline.UD sig nD τ) ℕ Variants.none c none Set.univ i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg3 v12 v31 v33 c0 where
  inv k _ := invAt2 c i arg6 arg7 arg8 arg9 arg10 arg11 arg12 arg13 arg14 arg15 arg16 arg17 arg18 arg19 arg20 arg23 v12 v31 c0 X6 X7 X8 X9 X10 X11 X12 X13 X14 X15 X16 X23 k
  step k acc := by
    unfold invAt2 k0_t2_body
    iintro ⟨H6, H7, H8, H9, H10, H11, H12, H13, H14, H15, H16, H23, ⟨%f17, %hf17, H17⟩, ⟨%f18, %hf18, H18⟩, ⟨%f19, %hf19, H19⟩, ⟨%f20, %hf20, H20⟩⟩
    sl_exec
    sl_step
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H23]; · iexact H23
    isplitl [H17]
    · iexists _
      isplitr; swap; · iexact H17
      ipureintro
      intro j hj y
      rcases Nat.lt_succ_iff_lt_or_eq.mp hj with h | h
      · refine Eq.trans (View.read_writes_cons_miss _ _ _ _ _ ?_) ?_; · exact R17_ne j k h y
        exact hf17 j h y
      · obtain rfl : j = k := Fin.ext h
        refine Eq.trans (View.read_writes_cons_emb _ _ (R17 j) _ _ y) ?_
        simp only [View.readAt_eq_ld]
        unfold P17 Pnorm loopInv2.sl.r loopInv2.sl.r_1 loopInv2.sl.r_2 loopInv2.sl.v76
        rfl
    isplitl [H18]
    · iexists _
      isplitr; swap; · iexact H18
      ipureintro
      intro j hj y
      rcases Nat.lt_succ_iff_lt_or_eq.mp hj with h | h
      · refine Eq.trans (View.read_writes_cons_miss _ _ _ _ _ ?_) ?_; · exact R18_ne j k h y
        exact hf18 j h y
      · obtain rfl : j = k := Fin.ext h
        refine Eq.trans (View.read_writes_cons_emb _ _ (R18 j) _ _ y) ?_
        skip
        unfold P18 Pstd loopInv2.sl.v72
        rfl
    isplitl [H19]
    · iexists _
      isplitr; swap; · iexact H19
      ipureintro
      intro j hj y
      rcases Nat.lt_succ_iff_lt_or_eq.mp hj with h | h
      · refine Eq.trans (View.read_writes_cons_miss _ _ _ _ _ ?_) ?_; · exact R19_ne j k h y
        exact hf19 j h y
      · obtain rfl : j = k := Fin.ext h
        refine Eq.trans (View.read_writes_cons_emb _ _ (R19 j) _ _ y) ?_
        simp only [View.readAt_eq_ld]
        unfold P19 Pnorm loopInv2.sl.v76
        rfl
    · iexists _
      isplitr; swap; · iexact H20
      ipureintro
      intro j hj y
      rcases Nat.lt_succ_iff_lt_or_eq.mp hj with h | h
      · refine Eq.trans (View.read_writes_cons_miss _ _ _ _ _ ?_) ?_; · exact R20_ne j k h y
        exact hf20 j h y
      · obtain rfl : j = k := Fin.ext h
        refine Eq.trans (View.read_writes_cons_emb _ _ (R20 j) _ _ y) ?_
        simp only [View.readAt_eq_ld]
        unfold P20 Pnorm loopInv2.sl.v76
        rfl

end Loops

end Cert.KernelIdeal.Hand

end
-- ==== Proof.KernelIdeal.Run.lean ====
/- The runs of the second call's body at one grid point: the three kinds of point. -/
module

public import proofs.«01_k».proof.Proof.Gen.KernelIdeal.Skeleton
public import proofs.«01_k».proof.Proof.Gen.KernelIdeal.Loops
public import proofs.«01_k».proof.Proof.KernelIdeal.Body
public import Idealize.ShloMosaic.Lib.ValueIdxCore
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The first of the point's eight rows. -/
def w12 (i : grid0.Coords) : BitVec 32 := Scalar.addi (Scalar.muli (BitVec.ofNat 32 (i 2).val) 192#32) (Scalar.muli (BitVec.ofNat 32 (i 3).val) 8#32)

/-- The first of the 128 rows among which they lie. -/
def w31 (i : grid0.Coords) : BitVec 32 :=
  Scalar.muli (Scalar.select
    (Scalar.andi
      (Scalar.cmpi .ne (Scalar.subi (Scalar.extui (Scalar.cmpi .sgt (w12 i) 0#32)) (Scalar.extui (Scalar.cmpi .slt (w12 i) 0#32)))
        (Scalar.subi (Scalar.extui (Scalar.cmpi .sgt 128#32 0#32)) (Scalar.extui (Scalar.cmpi .slt 128#32 0#32))))
      (Scalar.cmpi .ne (Scalar.remsi (w12 i) 128#32) 0#32))
    (Scalar.subi (Scalar.divsi (w12 i) 128#32) 1#32) (Scalar.divsi (w12 i) 128#32)) 128#32

open Idealize.ShloMosaic.ValueIdx (ix3 ix4 ix5)

theorem trips2_eq : k0_t2_loop.trips = 8 := by decide +kernel
theorem trips1_eq : k0_t1_loop.trips = 96 := by decide +kernel

/-- Result window 0 from its eight rows. -/
def O17 (p : Fin k0_t2_loop.trips → Vec F S1x1x128x128 .bf16) : Vec F S1x8x128x128 .bf16 :=
  fun y => p ⟨(y 1).val, lt_of_lt_of_eq (y 1).isLt trips2_eq.symm⟩ (ix4 0 0 (y 2) (y 3))

theorem O17_of (x : Vec F S1x8x128x128 .bf16) (p : Fin k0_t2_loop.trips → Vec F S1x1x128x128 .bf16)
    (h : ∀ (j : Fin k0_t2_loop.trips), j.val < k0_t2_loop.trips → ∀ y : S1x1x128x128.Idx, x ((R17 j).emb y) = p j y) : x = O17 p := by
  funext y
  unfold O17
  rw [← h _ (Fin.isLt _)]
  congr 1
  funext a
  refine Fin.ext ?_
  have e : ∀ (j : Fin k0_t2_loop.trips) (z : S1x1x128x128.Idx), ((R17 j).emb z a).val = k0_off14 j a + 1 * (z a).val := fun _ _ => rfl
  rw [e, off14_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 1 from its eight rows. -/
def O18 (p : Fin k0_t2_loop.trips → Vec F S1x1x128 .f32) : Vec F S1x8x128 .f32 :=
  fun y => p ⟨(y 1).val, lt_of_lt_of_eq (y 1).isLt trips2_eq.symm⟩ (ix3 0 0 (y 2))

theorem O18_of (x : Vec F S1x8x128 .f32) (p : Fin k0_t2_loop.trips → Vec F S1x1x128 .f32)
    (h : ∀ (j : Fin k0_t2_loop.trips), j.val < k0_t2_loop.trips → ∀ y : S1x1x128.Idx, x ((R18 j).emb y) = p j y) : x = O18 p := by
  funext y
  unfold O18
  rw [← h _ (Fin.isLt _)]
  congr 1
  funext a
  refine Fin.ext ?_
  have e : ∀ (j : Fin k0_t2_loop.trips) (z : S1x1x128.Idx), ((R18 j).emb z a).val = k0_off12 j a + 1 * (z a).val := fun _ _ => rfl
  rw [e, off12_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- Result window 2 from its eight rows. -/
def O19 (p : Fin k0_t2_loop.trips → Vec F S1x1x96x128 .fp8e4m3) : Vec F S1x8x96x128 .fp8e4m3 :=
  fun y => p ⟨(y 1).val, lt_of_lt_of_eq (y 1).isLt trips2_eq.symm⟩ (ix4 0 0 (y 2) (y 3))

theorem O19_of (x : Vec F S1x8x96x128 .fp8e4m3) (p : Fin k0_t2_loop.trips → Vec F S1x1x96x128 .fp8e4m3)
    (h : ∀ (j : Fin k0_t2_loop.trips), j.val < k0_t2_loop.trips → ∀ y : S1x1x96x128.Idx, x ((R19 j).emb y) = p j y) : x = O19 p := by
  funext y
  unfold O19
  rw [← h _ (Fin.isLt _)]
  congr 1
  funext a
  refine Fin.ext ?_
  have e : ∀ (j : Fin k0_t2_loop.trips) (z : S1x1x96x128.Idx), ((R19 j).emb z a).val = k0_off13 j a + 1 * (z a).val := fun _ _ => rfl
  rw [e, off13_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 3 from its eight rows. -/
def O20 (p : Fin k0_t2_loop.trips → Vec F S1x1x128 .f32) : Vec F S1x8x128 .f32 :=
  fun y => p ⟨(y 1).val, lt_of_lt_of_eq (y 1).isLt trips2_eq.symm⟩ (ix3 0 0 (y 2))

theorem O20_of (x : Vec F S1x8x128 .f32) (p : Fin k0_t2_loop.trips → Vec F S1x1x128 .f32)
    (h : ∀ (j : Fin k0_t2_loop.trips), j.val < k0_t2_loop.trips → ∀ y : S1x1x128.Idx, x ((R20 j).emb y) = p j y) : x = O20 p := by
  funext y
  unfold O20
  rw [← h _ (Fin.isLt _)]
  congr 1
  funext a
  refine Fin.ext ?_
  have e : ∀ (j : Fin k0_t2_loop.trips) (z : S1x1x128.Idx), ((R20 j).emb z a).val = k0_off12 j a + 1 * (z a).val := fun _ _ => rfl
  rw [e, off12_at]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- A point that neither fetches nor multiplies: it normalises eight rows of the product buffer. -/
theorem run_C (c : Dev nD) (i : grid0.Coords) (hc1 : ¬ k0_cond1 i = 1#1) (hc2 : ¬ k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32) (x21 : Vec F S12x3x768x128 .i32) (x22 : Vec F S12x3x768x128 .i32) (x23 : Vec F S19200x128 .f32) (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg21 fullShare x21) ∗ (owns (c : Thread nD τ) arg22 fullShare x22) ∗ (owns (c : Thread nD τ) arg23 fullShare x23) ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg21 fullShare x21) ∗ (owns (c : Thread nD τ) arg22 fullShare x22) ∗ (owns (c : Thread nD τ) arg23 fullShare x23)) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%X21, %h21, H21⟩, ⟨%X22, %h22, H22⟩, ⟨%X23, %h23, H23⟩, Hk⟩
  subst h6 h7 h8 h9 h10 h11 h12 h13 h14 h15 h16
  subst h21 h22 h23
  sl_exec
  sl_step
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; exact O17_of _ _ (by assumption)
  isplitl [H18]
  · iexists _; isplitr; swap; · iexact H18
    ipureintro; exact O18_of _ _ (by assumption)
  isplitl [H19]
  · iexists _; isplitr; swap; · iexact H19
    ipureintro; exact O19_of _ _ (by assumption)
  isplitl [H20]
  · iexists _; isplitr; swap; · iexact H20
    ipureintro; exact O20_of _ _ (by assumption)
  isplitl [H21]
  · iexists _; isplitr; swap; · iexact H21
    ipureintro; rfl
  isplitl [H22]
  · iexists _; isplitr; swap; · iexact H22
    ipureintro; rfl
  · iexists _; isplitr; swap; · iexact H23
    ipureintro; rfl

/-- A point that multiplies the codes of its rows and columns first. -/
theorem run_B (c : Dev nD) (i : grid0.Coords) (hc1 : ¬ k0_cond1 i = 1#1) (hc2 : k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (arg24 : DmaSems sig S2)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32) (x21 : Vec F S12x3x768x128 .i32) (x22 : Vec F S12x3x768x128 .i32) (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (owns (c : Thread nD τ) arg21 fullShare x21) ∗ (owns (c : Thread nD τ) arg22 fullShare x22) ∗ (∃ d, owns (c : Thread nD τ) arg23 fullShare d) ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ x23, ⌜rows1 i hc2 x21 x22 x23 k0_t1_loop.trips⌝ ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg23 fullShare x23)) ∗ (owns (c : Thread nD τ) arg21 fullShare x21) ∗ (owns (c : Thread nD τ) arg22 fullShare x22)) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%X21, %h21, H21⟩, ⟨%X22, %h22, H22⟩, ⟨%d23, %X23, -, H23⟩, Hk⟩
  subst h6 h7 h8 h9 h10 h11 h12 h13 h14 h15 h16
  subst h21 h22
  sl_exec
  sl_step
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17 H18 H19 H20 H23]
  · iexists _
    isplitr; · ipureintro; assumption
    isplitl [H17]
    · iexists _; isplitr; swap; · iexact H17
      ipureintro; exact O17_of _ _ (by assumption)
    isplitl [H18]
    · iexists _; isplitr; swap; · iexact H18
      ipureintro; exact O18_of _ _ (by assumption)
    isplitl [H19]
    · iexists _; isplitr; swap; · iexact H19
      ipureintro; exact O19_of _ _ (by assumption)
    isplitl [H20]
    · iexists _; isplitr; swap; · iexact H20
      ipureintro; exact O20_of _ _ (by assumption)
    iexists _; isplitr; swap; · iexact H23
    ipureintro; rfl
  isplitl [H21]
  · iexists _; isplitr; swap; · iexact H21
    ipureintro; rfl
  · iexists _; isplitr; swap; · iexact H22
    ipureintro; rfl

/-- What the fetch brings from operand 0 left in the large memory: one batch's words. -/
abbrev W4 (i : grid0.Coords) (hi : k0_cond1 i = 1#1) (x : Vec F S2x12x3x768x128 .i32) : Vec F S12x3x768x128 .i32 :=
  fun y => x ((Rect.unit (s := S2x12x3x768x128) (k0_off1 i) S1x12x3x768x128.size (k0_off1_inb i hi)).emb (Shape.reshapeEquiv squeezes_S1x12x3x768x128_S12x3x768x128.numel_eq y))

/-- What the fetch brings from operand 1 left in the large memory: one batch's words. -/
abbrev W5 (i : grid0.Coords) (hi : k0_cond1 i = 1#1) (x : Vec F S2x12x3x768x128 .i32) : Vec F S12x3x768x128 .i32 :=
  fun y => x ((Rect.unit (s := S2x12x3x768x128) (k0_off1 i) S1x12x3x768x128.size (k0_off1_inb i hi)).emb (Shape.reshapeEquiv squeezes_S1x12x3x768x128_S12x3x768x128.numel_eq y))

/-- A batch's first point: it fetches the batch's words, multiplies and normalises. -/
theorem run_A (c : Dev nD) (i : grid0.Coords) (hc1 : k0_cond1 i = 1#1) (hc2 : k0_cond2 i = 1#1) (arg4 : Memref sig .tc .hbm S2x12x3x768x128 .i32) (harg4 : arg4.IsWhole) (arg5 : Memref sig .tc .hbm S2x12x3x768x128 .i32) (harg5 : arg5.IsWhole) (arg6 : Memref sig .tc .vmem S1x8x128x128 .bf16) (harg6 : arg6.IsWhole) (arg7 : Memref sig .tc .vmem S1x8x128x128 .fp8e4m3) (harg7 : arg7.IsWhole) (arg8 : Memref sig .tc .vmem S1x8x128 .f32) (harg8 : arg8.IsWhole) (arg9 : Memref sig .tc .vmem S1x96x384 .f32) (harg9 : arg9.IsWhole) (arg10 : Memref sig .tc .vmem S1x96x384 .f32) (harg10 : arg10.IsWhole) (arg11 : Memref sig .tc .vmem S96x1 .f32) (harg11 : arg11.IsWhole) (arg12 : Memref sig .tc .vmem S96x1 .f32) (harg12 : arg12.IsWhole) (arg13 : Memref sig .tc .vmem S128x96 .fp8e4m3) (harg13 : arg13.IsWhole) (arg14 : Memref sig .tc .vmem S128x128 .fp8e4m3) (harg14 : arg14.IsWhole) (arg15 : Memref sig .tc .vmem S128x1 .f32) (harg15 : arg15.IsWhole) (arg16 : Memref sig .tc .vmem S128x1 .f32) (harg16 : arg16.IsWhole) (arg17 : Memref sig .tc .vmem S1x8x128x128 .bf16) (harg17 : arg17.IsWhole) (arg18 : Memref sig .tc .vmem S1x8x128 .f32) (harg18 : arg18.IsWhole) (arg19 : Memref sig .tc .vmem S1x8x96x128 .fp8e4m3) (harg19 : arg19.IsWhole) (arg20 : Memref sig .tc .vmem S1x8x128 .f32) (harg20 : arg20.IsWhole) (arg21 : Memref sig .tc .vmem S12x3x768x128 .i32) (harg21 : arg21.IsWhole) (arg22 : Memref sig .tc .vmem S12x3x768x128 .i32) (harg22 : arg22.IsWhole) (arg23 : Memref sig .tc .vmem S19200x128 .f32) (harg23 : arg23.IsWhole) (X4 : BufTy.Contents (Elt F) arg4.view.ty) (X5 : BufTy.Contents (Elt F) arg5.view.ty)
    (x6 : Vec F S1x8x128x128 .bf16) (x7 : Vec F S1x8x128x128 .fp8e4m3) (x8 : Vec F S1x8x128 .f32) (x9 : Vec F S1x96x384 .f32) (x10 : Vec F S1x96x384 .f32) (x11 : Vec F S96x1 .f32) (x12 : Vec F S96x1 .f32) (x13 : Vec F S128x96 .fp8e4m3) (x14 : Vec F S128x128 .fp8e4m3) (x15 : Vec F S128x1 .f32) (x16 : Vec F S128x1 .f32)  (WW : Waits sig Unit) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (arg4.view.loc (c : Thread nD τ) ↦[arg4.view.set]{fullShare} X4) ∗ (arg5.view.loc (c : Thread nD τ) ↦[arg5.view.set]{fullShare} X5) ∗ semVal ((c : Thread nD τ), SemLoc.dma 24) 0 ∗ semVal ((c : Thread nD τ), SemLoc.dma 25) 0 ∗ owes (c : Thread nD τ) 0 WW ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ x23, ⌜rows1 i hc2 (W4 i hc1 (arg4.view.read (Elt F) X4)) (W5 i hc1 (arg5.view.read (Elt F) X5)) x23 k0_t1_loop.trips⌝ ∗ owns (c : Thread nD τ) arg17 fullShare (O17 (P17 i (w12 i) (w31 i) 0#32 x9 x10 (rd53 i x23) x11 x12 x13 x15 x14 x7 x8 x16 x6)) ∗ owns (c : Thread nD τ) arg18 fullShare (O18 (P18 i (w12 i) (w31 i) 0#32 x9 x10 (rd53 i x23))) ∗ owns (c : Thread nD τ) arg19 fullShare (O19 (P19 i (w12 i) (w31 i) 0#32 x9 x10 (rd53 i x23) x11 x12)) ∗ owns (c : Thread nD τ) arg20 fullShare (O20 (P20 i (w12 i) (w31 i) 0#32 x9 x10 (rd53 i x23) x11 x12)) ∗ (owns (c : Thread nD τ) arg23 fullShare x23)) ∗ (owns (c : Thread nD τ) arg21 fullShare (W4 i hc1 (arg4.view.read (Elt F) X4))) ∗ (owns (c : Thread nD τ) arg22 fullShare (W5 i hc1 (arg5.view.read (Elt F) X5))) ∗ (arg4.view.loc (c : Thread nD τ) ↦[arg4.view.set]{fullShare} X4) ∗ (arg5.view.loc (c : Thread nD τ) ↦[arg5.view.set]{fullShare} X5) ∗ semVal ((c : Thread nD τ), SemLoc.dma 24) 0 ∗ semVal ((c : Thread nD τ), SemLoc.dma 25) 0 ∗ (∃ W', owes (c : Thread nD τ) 0 W')) -∗ K ⟨⟩))
      ⊢ wp frame (wpE (defs₀ (F := F)) Variants.none (c : Thread nD τ) none) Set.univ (cc0__combine_kernel (F := F) i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch3) K := by
  simp only [cc0__combine_kernel_eq_skeleton]; unfold cc0__combine_kernel_skel
  unfold owns
  iintro ⟨⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%d17, %X17, -, H17⟩, ⟨%d18, %X18, -, H18⟩, ⟨%d19, %X19, -, H19⟩, ⟨%d20, %X20, -, H20⟩, ⟨%d21, %X21, -, H21⟩, ⟨%d22, %X22, -, H22⟩, ⟨%d23, %X23, -, H23⟩, H4, H5, Hq0, Hq1, HW, Hk⟩
  subst h6 h7 h8 h9 h10 h11 h12 h13 h14 h15 h16
  sl_exec
  sl_step
  have hw4 : ∀ z : arg21.view.ty.Contents (Elt F), arg21.view.read (Elt F) (arg21.view.writes (Elt F) z [⟨Rect.whole S12x3x768x128, run_A.sl.dma0 i hc1 arg4 X4⟩]) = W4 i hc1 (arg4.view.read (Elt F) X4) := by
    intro z
    funext y
    refine Eq.trans (View.read_writes_cons_hit _ _ (Rect.whole _) _ _ y y ?_) ?_
    · exact funext fun a => Fin.ext (by rw [Rect.emb_apply]; show 0 + 1 * (y a).val = (y a).val; omega)
    unfold run_A.sl.dma0
    rfl
  have hw5 : ∀ z : arg22.view.ty.Contents (Elt F), arg22.view.read (Elt F) (arg22.view.writes (Elt F) z [⟨Rect.whole S12x3x768x128, run_A.sl.dma0_1 i hc1 arg5 X5⟩]) = W5 i hc1 (arg5.view.read (Elt F) X5) := by
    intro z
    funext y
    refine Eq.trans (View.read_writes_cons_hit _ _ (Rect.whole _) _ _ y y ?_) ?_
    · exact funext fun a => Fin.ext (by rw [Rect.emb_apply]; show 0 + 1 * (y a).val = (y a).val; omega)
    unfold run_A.sl.dma0_1
    rfl
  iapply Hk
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17 H18 H19 H20 H23]
  · iexists _
    isplitr; · ipureintro; rw [← hw4 arg21.view.junk, ← hw5 arg22.view.junk]; assumption
    isplitl [H17]
    · iexists _; isplitr; swap; · iexact H17
      ipureintro; exact O17_of _ _ (by assumption)
    isplitl [H18]
    · iexists _; isplitr; swap; · iexact H18
      ipureintro; exact O18_of _ _ (by assumption)
    isplitl [H19]
    · iexists _; isplitr; swap; · iexact H19
      ipureintro; exact O19_of _ _ (by assumption)
    isplitl [H20]
    · iexists _; isplitr; swap; · iexact H20
      ipureintro; exact O20_of _ _ (by assumption)
    iexists _; isplitr; swap; · iexact H23
    ipureintro; rfl
  isplitl [H21]
  · iexists _; isplitr; swap; · iexact H21
    ipureintro; exact hw4 _
  isplitl [H22]
  · iexists _; isplitr; swap; · iexact H22
    ipureintro; exact hw5 _
  isplitl [H4]; · iexact H4
  isplitl [H5]; · iexact H5
  isplitl [Hq0]; · iexact Hq0
  isplitl [Hq1]; · iexact Hq1
  iexists _; iexact HW

end Cert.KernelIdeal.Hand

end
-- ==== Proof.KernelIdeal.Hand.lean ====
/- The second call's frame: what it carries from point to point, and the run of its whole grid. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Run
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The points of the grid -/

theorem N_eq : cfg0.N = 288 := by decide +kernel

/-- The grid's point number `n`. -/
def gp (n : ℕ) : Fin cfg0.N := ⟨n % cfg0.N, Nat.mod_lt _ (by rw [N_eq]; omega)⟩
theorem gp_val (t : Fin cfg0.N) : gp t.val = t := Fin.ext (Nat.mod_eq_of_lt t.isLt)

theorem cond1_at : ∀ t : Fin cfg0.N, k0_cond1 (grid0.coords t) = 1#1 ↔ t.val % 144 = 0 := by decide +kernel
theorem cond2_at : ∀ t : Fin cfg0.N, k0_cond2 (grid0.coords t) = 1#1 ↔ t.val % 24 = 0 := by decide +kernel

theorem gA (p : ℕ) : k0_cond1 (grid0.coords (gp (p * 144))) = 1#1 := by
  rw [cond1_at]; unfold gp; simp only [N_eq]; omega
theorem gB (q : ℕ) : k0_cond2 (grid0.coords (gp (q * 24))) = 1#1 := by
  rw [cond2_at]; unfold gp; simp only [N_eq]; omega

theorem off10_at : ∀ (t : Fin cfg0.N) (k : Fin k0_t2_loop.trips), k0_off10 (grid0.coords t) k = ![(t.val % 24 * 8 + k.val) * 100, 0] := by decide +kernel

/-! ## What is carried -/

/-- The words of batch `p` of the first operand, and of the second. -/
def Wa (c : Dev nD) (p : ℕ) : Vec F S12x3x768x128 .i32 := W4 (grid0.coords (gp (p * 144))) (gA p) (V m c main_v23)
def Wb (c : Dev nD) (p : ℕ) : Vec F S12x3x768x128 .i32 := W5 (grid0.coords (gp (p * 144))) (gA p) (V m c main_v44)

/-- The product buffer holds the products of the `q`-th run of 24 points. -/
def Rows (c : Dev nD) (q : ℕ) (x : Vec F S19200x128 .f32) : Prop :=
  rows1 (grid0.coords (gp (q * 24))) (gB q) (Wa m c (q / 6)) (Wb m c (q / 6)) x k0_t1_loop.trips

/-- The trip of the first loop that computes channel `ch`. -/
def tripOf (ch : Fin 96) : Fin k0_t1_loop.trips := ⟨24 * (ch.val % 4) + ch.val / 4, by rw [trips1_eq]; omega⟩

/-- The 96 channels' products of the row that trip `k` of the second loop normalises at point `t`. -/
def X53 (c : Dev nD) (t : Fin cfg0.N) (k : Fin k0_t2_loop.trips) : Vec F S96x128 .f32 := fun y =>
  P12 (grid0.coords (gp (t.val / 24 * 24))) (gB (t.val / 24)) (Wa m c (t.val / 24 / 6)) (Wb m c (t.val / 24 / 6)) (tripOf (y 0))
    (Idealize.ShloMosaic.ValueIdx.ix2 ⟨t.val % 24 * 8 + k.val, by have := trips2_le k; omega⟩ (y 1))

theorem rd53_eq (c : Dev nD) (t : Fin cfg0.N) (x : Vec F S19200x128 .f32) (h : Rows m c (t.val / 24) x) :
    rd53 (grid0.coords t) x = X53 m c t := by
  funext k y
  have hk := trips2_le k
  have hy : (y 0).val < 96 := (y 0).isLt
  have e := h (tripOf (y 0)) (Fin.isLt _) (Idealize.ShloMosaic.ValueIdx.ix2 ⟨t.val % 24 * 8 + k.val, by omega⟩ (y 1))
  refine Eq.trans ?_ e
  refine congrArg x (funext fun a => Fin.ext ?_)
  have e1 : ((Rect.unit (s := S19200x128) (k0_off10 (grid0.coords t) k) S96x128.size (k0_off10_inb (grid0.coords t) k)).idx y a).val
      = k0_off10 (grid0.coords t) k a + 1 * (y a).val := rfl
  have e2 : ∀ z : S192x128.Idx, ((R8 (grid0.coords (gp (t.val / 24 * 24))) (gB (t.val / 24)) (tripOf (y 0))).emb z a).val
      = k0_off8 (tripOf (y 0)) a + ![100, 1] a * (z a).val := fun _ => rfl
  refine e1.trans (Eq.trans ?_ (e2 _).symm)
  rw [off10_at, off8_at]
  have ht : (tripOf (y 0)).val = 24 * ((y 0).val % 4) + (y 0).val / 4 := rfl
  fin_cases a
  · show (t.val % 24 * 8 + k.val) * 100 + 1 * (y 0).val
      = (4 * ((tripOf (y 0)).val % 24) + (tripOf (y 0)).val / 24) + 100 * (t.val % 24 * 8 + k.val)
    rw [ht]; omega
  · show 0 + 1 * (y 1).val = 0 + 1 * (y 1).val; rfl

theorem Wa_of (c : Dev nD) (t : Fin cfg0.N) (hc : k0_cond1 (grid0.coords t) = 1#1) :
    W4 (grid0.coords t) hc (V m c main_v23) = Wa m c (t.val / 144) := by
  have e : gp (t.val / 144 * 144) = t := by
    have := (cond1_at t).mp hc
    rw [show t.val / 144 * 144 = t.val by omega]; exact gp_val t
  unfold Wa
  congr 1 <;> rw [e]
theorem Wb_of (c : Dev nD) (t : Fin cfg0.N) (hc : k0_cond1 (grid0.coords t) = 1#1) :
    W5 (grid0.coords t) hc (V m c main_v44) = Wb m c (t.val / 144) := by
  have e : gp (t.val / 144 * 144) = t := by
    have := (cond1_at t).mp hc
    rw [show t.val / 144 * 144 = t.val by omega]; exact gp_val t
  unfold Wb
  congr 1 <;> rw [e]

theorem rows1_congr {i j : grid0.Coords} (e : i = j) (hi : k0_cond2 i = 1#1) (hj : k0_cond2 j = 1#1) (x21 : Vec F S12x3x768x128 .i32) (x22 : Vec F S12x3x768x128 .i32)
    (x : Vec F S19200x128 .f32) (k : ℕ) (h : rows1 i hi x21 x22 x k) : rows1 j hj x21 x22 x k := by
  subst e; exact h

theorem Rows_of (c : Dev nD) (t : Fin cfg0.N) (hc : k0_cond2 (grid0.coords t) = 1#1) (x : Vec F S19200x128 .f32)
    (h : rows1 (grid0.coords t) hc (Wa m c (t.val / 144)) (Wb m c (t.val / 144)) x k0_t1_loop.trips) : Rows m c (t.val / 24) x := by
  have e : gp (t.val / 24 * 24) = t := by
    have := (cond2_at t).mp hc
    rw [show t.val / 24 * 24 = t.val by omega]; exact gp_val t
  unfold Rows
  rw [show t.val / 24 / 6 = t.val / 144 by omega]
  exact rows1_congr (by rw [e]) hc _ _ _ _ _ h

/-! ## @main up to the region -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub Gen.hostOps0_fresh main_chain

/-! ## The region's operands -/

abbrev osem0 : Fin 2 → SemLoc sig := fun j => (![SemLoc.dma 24, SemLoc.dma 25] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 24) 0 ∗ semVal ((c : Thread nD τ), SemLoc.dma 25) 0) := by
  rw [Pipeline.ownSems0_eq_of_list c osem0 [0, 1] (by decide) (by decide)]; rfl
/-- The operands the body fetches from itself. -/
def H0 : Finset (Ref sig .tc) := {main_v23, main_v44}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v23) ↦{fullShare} V m c main_v23) ∗ (((c : Thread nD τ).loc main_v44) ↦{fullShare} V m c main_v44)) := by
  rw [BI.bigSep_eq_bigSepL_of_eq [main_v23, main_v44] (by decide) (by decide)]; rfl

abbrev sc0 : Memref sig .tc .vmem S12x3x768x128 .i32 := Memref.whole cc0_scratch0
abbrev sc1 : Memref sig .tc .vmem S12x3x768x128 .i32 := Memref.whole cc0_scratch1
abbrev sc2 : Memref sig .tc .vmem S19200x128 .f32 := Memref.whole cc0_scratch2
abbrev hb0 : Memref sig .tc .hbm S2x12x3x768x128 .i32 := Memref.whole main_v23
abbrev hb1 : Memref sig .tc .hbm S2x12x3x768x128 .i32 := Memref.whole main_v44

/-- What is carried into point `n`: a batch's words in the two code buffers (at any but a batch's first point), the
    products of the run of 24 points in the product buffer (at any but its first). -/
def Carry (c : Dev nD) (n : ℕ) : sProp 𝕄 :=
  iprop((∃ x21, ⌜n % 144 ≠ 0 → x21 = Wa m c (n / 144)⌝ ∗ owns (c : Thread nD τ) sc0 fullShare x21)
    ∗ (∃ x22, ⌜n % 144 ≠ 0 → x22 = Wb m c (n / 144)⌝ ∗ owns (c : Thread nD τ) sc1 fullShare x22)
    ∗ (∃ x23, ⌜n % 24 ≠ 0 → Rows m c (n / 24) x23⌝ ∗ owns (c : Thread nD τ) sc2 fullShare x23)
    ∗ (∃ r, prngReg c r)
    ∗ (semVal ((c : Thread nD τ), SemLoc.dma 24) 0 ∗ semVal ((c : Thread nD τ), SemLoc.dma 25) 0)
    ∗ owns (c : Thread nD τ) hb0 fullShare (V m c main_v23) ∗ owns (c : Thread nD τ) hb1 fullShare (V m c main_v44))

theorem hb0_eq (c : Dev nD) (f : Vec F S2x12x3x768x128 .i32) :
    (hb0.view.loc (c : Thread nD τ) ↦[hb0.view.set]{fullShare} f : sProp 𝕄) = owns (c : Thread nD τ) hb0 fullShare f := by
  rw [owns_whole]; simp only [hb0, Memref.view_whole, View.set_whole]
theorem hb1_eq (c : Dev nD) (f : Vec F S2x12x3x768x128 .i32) :
    (hb1.view.loc (c : Thread nD τ) ↦[hb1.view.set]{fullShare} f : sProp 𝕄) = owns (c : Thread nD τ) hb1 fullShare f := by
  rw [owns_whole]; simp only [hb1, Memref.view_whole, View.set_whole]

theorem PhiD_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d))
          ∗ (∃ r, prngReg c r)
          ∗ iprop(semVal ((c : Thread nD τ), SemLoc.dma 24) 0 ∗ semVal ((c : Thread nD τ), SemLoc.dma 25) 0)
          ∗ iprop(owns (c : Thread nD τ) hb0 fullShare (V m c main_v23) ∗ owns (c : Thread nD τ) hb1 fullShare (V m c main_v44))) := by
  rw [Pipeline.ΦD_eq, scopedRest0_eq, ownSems00_eq, hbmPts0_eq]
  simp only [sc0, sc1, sc2, hb0, hb1, owns_whole]; try rfl

theorem Carry_first (c : Dev nD) (n : ℕ) (hn : n % 144 = 0) : (Pipeline.ΦD osem0 spec0 H0 (V m) c : sProp 𝕄) ⊢ Carry m c n := by
  rw [PhiD_eq]; unfold Carry
  iintro ⟨⟨⟨%d0, H0⟩, ⟨%d1, H1⟩, ⟨%d2, H2⟩⟩, Hg, Hs, Hb0, Hb1⟩
  isplitl [H0]
  · iexists d0; isplitr; · ipureintro; exact fun h => absurd hn h
    iexact H0
  isplitl [H1]
  · iexists d1; isplitr; · ipureintro; exact fun h => absurd hn h
    iexact H1
  isplitl [H2]
  · iexists d2; isplitr; · ipureintro; exact fun h => absurd (by omega) h
    iexact H2
  isplitl [Hg]; · iexact Hg
  isplitl [Hs]; · iexact Hs
  isplitl [Hb0]; · iexact Hb0
  iexact Hb1

theorem Carry_last (c : Dev nD) (n : ℕ) : Carry m c n ⊢ (Pipeline.ΦD osem0 spec0 H0 (V m) c : sProp 𝕄) := by
  rw [PhiD_eq]; unfold Carry
  iintro ⟨⟨%d0, -, H0⟩, ⟨%d1, -, H1⟩, ⟨%d2, -, H2⟩, Hg, Hs, Hb0, Hb1⟩
  isplitl [H0 H1 H2]
  · isplitl [H0]; · iexists d0; iexact H0
    isplitl [H1]; · iexists d1; iexact H1
    iexists d2; iexact H2
  isplitl [Hg]; · iexact Hg
  isplitl [Hs]; · iexact Hs
  isplitl [Hb0]; · iexact Hb0
  iexact Hb1

/-! ## What each point leaves in the four result windows -/

/-- Result window 0 after point `t`. -/
def outAt17 (c : Dev nD) (t : Fin cfg0.N) : Vec F S1x8x128x128 .bf16 :=
  O17 (P17 (grid0.coords t) (w12 (grid0.coords t)) (w31 (grid0.coords t)) 0#32 (iblk m c 3 t) (iblk m c 4 t) (X53 m c t) (iblk m c 5 t) (iblk m c 6 t) (iblk m c 7 t) (iblk m c 9 t) (iblk m c 8 t) (iblk m c 1 t) (iblk m c 2 t) (iblk m c 10 t) (iblk m c 0 t))
/-- Result window 1 after point `t`. -/
def outAt18 (c : Dev nD) (t : Fin cfg0.N) : Vec F S1x8x128 .f32 :=
  O18 (P18 (grid0.coords t) (w12 (grid0.coords t)) (w31 (grid0.coords t)) 0#32 (iblk m c 3 t) (iblk m c 4 t) (X53 m c t))
/-- Result window 2 after point `t`. -/
def outAt19 (c : Dev nD) (t : Fin cfg0.N) : Vec F S1x8x96x128 .fp8e4m3 :=
  O19 (P19 (grid0.coords t) (w12 (grid0.coords t)) (w31 (grid0.coords t)) 0#32 (iblk m c 3 t) (iblk m c 4 t) (X53 m c t) (iblk m c 5 t) (iblk m c 6 t))
/-- Result window 3 after point `t`. -/
def outAt20 (c : Dev nD) (t : Fin cfg0.N) : Vec F S1x8x128 .f32 :=
  O20 (P20 (grid0.coords t) (w12 (grid0.coords t)) (w31 (grid0.coords t)) 0#32 (iblk m c 3 t) (iblk m c 4 t) (X53 m c t) (iblk m c 5 t) (iblk m c 6 t))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt17 m c t
    | ⟨12, _⟩ => outAt18 m c t
    | ⟨13, _⟩ => outAt19 m c t
    | ⟨14, _⟩ => outAt20 m c t
  Φ t := Carry m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt17 m c t := by dsimp only [dats]
theorem after_12 (c : Dev nD) (t : Fin cfg0.N) : (dats m 0 c).after 12 t = outAt18 m c t := by dsimp only [dats]
theorem after_13 (c : Dev nD) (t : Fin cfg0.N) : (dats m 0 c).after 13 t = outAt19 m c t := by dsimp only [dats]
theorem after_14 (c : Dev nD) (t : Fin cfg0.N) : (dats m 0 c).after 14 t = outAt20 m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t))

theorem sound_C (c : Dev nD) (t : Fin cfg0.N) (ht : t.val % 24 ≠ 0) :
    bodyPre m c t ⊢ wp frame (wpE (defs₀ (F := F)) Variants.none (c : Thread nD τ) none) Set.univ (bodyAt0 t) (fun _ => bodyPost m c t) := by
  have hc1 : ¬ k0_cond1 (grid0.coords t) = 1#1 := fun h => by have := (cond1_at t).mp h; omega
  have hc2 : ¬ k0_cond2 (grid0.coords t) = 1#1 := fun h => by have := (cond2_at t).mp h; omega
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have e23 := rd53_eq m c t x23 (h23 ht)
  iapply (run_C c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) cc0_scratch3 (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22 x23 WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexact S2
  rw [e23]
  iintro ⟨H0, H1, H2, H3, H4, H5, H6, H7, H8, H9, H10, H11, H12, H13, H14, S0, S1, S2⟩
  isplitl [S0 S1 S2 Hg Hq0 Hq1 Hb0 Hb1]
  · isplitl [S0]
    · iexists _; isplitr; swap; · iexact S0
      ipureintro; exact fun h => by rw [show (t.val + 1) / 144 = t.val / 144 by omega]; exact h21 (by omega)
    isplitl [S1]
    · iexists _; isplitr; swap; · iexact S1
      ipureintro; exact fun h => by rw [show (t.val + 1) / 144 = t.val / 144 by omega]; exact h22 (by omega)
    isplitl [S2]
    · iexists _; isplitr; swap; · iexact S2
      ipureintro; exact fun h => by rw [show (t.val + 1) / 24 = t.val / 24 by omega]; exact h23 (by omega)
    isplitl [Hg]; · iexact Hg
    isplitl [Hq0 Hq1]
    · isplitl [Hq0]; · iexact Hq0
      iexact Hq1
    isplitl [Hb0]; · iexact Hb0
    iexact Hb1
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_B (c : Dev nD) (t : Fin cfg0.N) (ht : t.val % 24 = 0) (ht' : t.val % 144 ≠ 0) :
    bodyPre m c t ⊢ wp frame (wpE (defs₀ (F := F)) Variants.none (c : Thread nD τ) none) Set.univ (bodyAt0 t) (fun _ => bodyPost m c t) := by
  have hc1 : ¬ k0_cond1 (grid0.coords t) = 1#1 := fun h => by have := (cond1_at t).mp h; omega
  have hc2 : k0_cond2 (grid0.coords t) = 1#1 := (cond2_at t).mpr ht
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl := h21 ht'
  obtain rfl := h22 ht'
  iapply (run_B c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) cc0_scratch3 (iblk m c 0 t) (iblk m c 1 t) (iblk m c 2 t) (iblk m c 3 t) (iblk m c 4 t) (iblk m c 5 t) (iblk m c 6 t) (iblk m c 7 t) (iblk m c 8 t) (iblk m c 9 t) (iblk m c 10 t) (Wa m c (t.val / 144)) (Wb m c (t.val / 144)) WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexact S0
  isplitl [S1]; · iexact S1
  isplitl [S2]; · iexists _; iexact S2
  iintro ⟨H0, H1, H2, H3, H4, H5, H6, H7, H8, H9, H10, ⟨%z23, %hz, H11, H12, H13, H14, S2⟩, S0, S1⟩
  have hz' := Rows_of m c t hc2 z23 hz
  rw [rd53_eq m c t z23 hz']
  isplitl [S0 S1 S2 Hg Hq0 Hq1 Hb0 Hb1]
  · isplitl [S0]
    · iexists _; isplitr; swap; · iexact S0
      ipureintro; exact fun h => by rw [show (t.val + 1) / 144 = t.val / 144 by omega]
    isplitl [S1]
    · iexists _; isplitr; swap; · iexact S1
      ipureintro; exact fun h => by rw [show (t.val + 1) / 144 = t.val / 144 by omega]
    isplitl [S2]
    · iexists _; isplitr; swap; · iexact S2
      ipureintro; exact fun h => by rw [show (t.val + 1) / 24 = t.val / 24 by omega]; exact hz'
    isplitl [Hg]; · iexact Hg
    isplitl [Hq0 Hq1]
    · isplitl [Hq0]; · iexact Hq0
      iexact Hq1
    isplitl [Hb0]; · iexact Hb0
    iexact Hb1
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 1000000 in
theorem sound_A (c : Dev nD) (t : Fin cfg0.N) (ht' : t.val % 144 = 0) :
    bodyPre m c t ⊢ wp frame (wpE (defs₀ (F := F)) Variants.none (c : Thread nD τ) none) Set.univ (bodyAt0 t) (fun _ => bodyPost m c t) := by
  have hc1 : k0_cond1 (grid0.coords t) = 1#1 := (cond1_at t).mpr ht'
  have hc2 : k0_cond2 (grid0.coords t) = 1#1 := (cond2_at t).mpr (by omega)
  unfold bodyPre bodyPost bodyAt0
  rw [show (dats m 0 c).Φ t.castSucc = Carry m c t.val from rfl, show (dats m 0 c).Φ t.succ = Carry m c (t.val + 1) from rfl]
  simp only [before_0, before_1, before_2, before_3, before_4, before_5, before_6, before_7, before_8, before_9, before_10, after_0, after_1, after_2, after_3, after_4, after_5, after_6, after_7, after_8, after_9, after_10, after_11, after_12, after_13, after_14]
  unfold Dat.owesAt Pipeline.owesWithin
  rw [show (dats m 0 c).owed t.castSucc = 0 from rfl, show (dats m 0 c).owed t.succ = 0 from rfl]
  unfold Carry
  iintro ⟨⟨⟨%x21, %h21, S0⟩, ⟨%x22, %h22, S1⟩, ⟨%x23, %h23, S2⟩, Hg, ⟨Hq0, Hq1⟩, Hb0, Hb1⟩, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_A c (grid0.coords t) hc1 hc2 hb0 (Memref.isWhole_whole _) hb1 (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) sc0 (Memref.isWhole_whole _) sc1 (Memref.isWhole_whole _) sc2 (Memref.isWhole_whole _) (V m c main_v23) (V m c main_v44) (iblk m c 0 t) (iblk m c 1 t) (iblk m c 2 t) (iblk m c 3 t) (iblk m c 4 t) (iblk m c 5 t) (iblk m c 6 t) (iblk m c 7 t) (iblk m c 8 t) (iblk m c 9 t) (iblk m c 10 t) WW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]; · iexists _; iexact S0
  isplitl [S1]; · iexists _; iexact S1
  isplitl [S2]; · iexists _; iexact S2
  isplitl [Hb0]; · rw [hb0_eq]; iexact Hb0
  isplitl [Hb1]; · rw [hb1_eq]; iexact Hb1
  isplitl [Hq0]; · iexact Hq0
  isplitl [Hq1]; · iexact Hq1
  isplitl [HW]; · iexact HW
  rw [hb0_eq, hb1_eq, show hb0.view.read (Elt F) (V m c main_v23) = V m c main_v23 from View.read_whole _ _, show hb1.view.read (Elt F) (V m c main_v44) = V m c main_v44 from View.read_whole _ _,
    Wa_of m c t hc1, Wb_of m c t hc1]
  iintro ⟨H0, H1, H2, H3, H4, H5, H6, H7, H8, H9, H10, ⟨%z23, %hz, H11, H12, H13, H14, S2⟩, S0, S1, Hb0, Hb1, Hq0, Hq1, ⟨%W', HW⟩⟩
  have hz' := Rows_of m c t hc2 z23 hz
  rw [rd53_eq m c t z23 hz']
  isplitl [S0 S1 S2 Hg Hq0 Hq1 Hb0 Hb1]
  · isplitl [S0]
    · iexists _; isplitr; swap; · iexact S0
      ipureintro; exact fun h => by rw [show (t.val + 1) / 144 = t.val / 144 by omega]
    isplitl [S1]
    · iexists _; isplitr; swap; · iexact S1
      ipureintro; exact fun h => by rw [show (t.val + 1) / 144 = t.val / 144 by omega]
    isplitl [S2]
    · iexists _; isplitr; swap; · iexact S2
      ipureintro; exact fun h => by rw [show (t.val + 1) / 24 = t.val / 24 by omega]; exact hz'
    isplitl [Hg]; · iexact Hg
    isplitl [Hq0 Hq1]
    · isplitl [Hq0]; · iexact Hq0
      iexact Hq1
    isplitl [Hb0]; · iexact Hb0
    iexact Hb1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none (c : Thread nD τ) none) Set.univ (bodyAt0 t) (fun _ => bodyPost m c t) := by
  by_cases h : t.val % 24 = 0
  · by_cases h' : t.val % 144 = 0
    · exact sound_A m c t h'
    · exact sound_B m c t h h'
  · exact sound_C m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Carry_first m c 0 rfl) (hout := fun c => Carry_last m c _)

/-- The program runs to an end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩, h.2⟩) (run_main m ρ)

end Cert.KernelIdeal.Hand

end
-- ==== Proof.Spec.lean ====
module

public import Idealize.ShloMosaic.PureOps.Ideal

@[expose] public section

/-! # What the call computes, over the extended reals

The mathematics of the problem from the codes and scales of `a` and `b` on, written once on arrays of extended reals
(codes on their bit patterns): the triangle product, the layer norm of a position's channels, the quantiser, the gate
and the output projection. -/

noncomputable section

namespace Cert.Spec

open Idealize.ShloMosaic

/-- The call's argument arrays: every float array by its values, the codes of `a` and `b` by their bytes. -/
structure Args where
  z : Fin 2 → Fin 384 → Fin 384 → Fin 128 → EReal
  mask : Fin 2 → Fin 384 → Fin 384 → EReal
  q1 : Fin 2 → Fin 384 → Fin 384 → Fin 128 → EReal
  s1 : Fin 2 → Fin 384 → Fin 384 → EReal
  qa : Fin 2 → Fin 384 → Fin 384 → Fin 96 → BitVec 8
  sa : Fin 2 → Fin 384 → Fin 96 → EReal
  qb : Fin 2 → Fin 384 → Fin 384 → Fin 96 → BitVec 8
  sb : Fin 2 → Fin 384 → Fin 96 → EReal
  gamma : Fin 96 → EReal
  beta : Fin 96 → EReal
  wIn : Fin 128 → Fin 512 → EReal
  sIn : Fin 512 → EReal
  wOut : Fin 96 → Fin 128 → EReal
  sOut : Fin 128 → EReal

/-! ## One position's channels -/

/-- The channels less their mean. -/
def cen (x : Fin 96 → EReal) (c : Fin 96) : EReal :=
  x c - Ideal.div (∑ k, x k) (Ideal.ofBits .f32 1119879168#32)

/-- The standard deviation of the channels: the root of the mean square of `cen` plus the norm's epsilon. -/
def std (x : Fin 96 → EReal) : EReal :=
  Ideal.sqrt (Ideal.div (∑ k, cen x k * cen x k) (Ideal.ofBits .f32 1119879168#32) + Ideal.ofBits .f32 925353388#32)

/-- The layer norm of the channels. -/
def norm (g b : Fin 96 → EReal) (x : Fin 96 → EReal) (c : Fin 96) : EReal :=
  Ideal.div (cen x c) (std x) * g c + b c

/-- The largest magnitude of the channels. -/
def amax (y : Fin 96 → EReal) : EReal :=
  Finset.fold max (Ideal.ofBits .f32 4286578688#32) (fun c => max (y c) (-(y c))) Finset.univ

/-- The quantiser's scale: 1 where all is zero, else the largest magnitude over 448. -/
def scale (y : Fin 96 → EReal) : EReal :=
  if amax y = 0 then 1 else Ideal.div (amax y) (Ideal.ofBits .f32 1138753536#32)

/-- The quantiser's codes: the channels over the scale, clipped to ±448. -/
def code (y : Fin 96 → EReal) (c : Fin 96) : EReal :=
  min (Ideal.ofBits .f32 1138753536#32) (max (Ideal.ofBits .f32 3286237184#32) (Ideal.div (y c) (scale y)))

/-! ## The whole call -/

variable (A : Args)

/-- The triangle product of the codes: `∑ k, a[b, i, k, c] * b[b, j, k, c]`. -/
def prod (b : Fin 2) (i j : Fin 384) (c : Fin 96) : EReal :=
  ∑ k, Ideal.ofBits .fp8e4m3 (A.qa b i k c) * Ideal.ofBits .fp8e4m3 (A.qb b j k c)

/-- Whether row `i` holds a present position: the largest mask entry of the row. -/
def present (b : Fin 2) (i : Fin 384) : EReal :=
  Finset.fold max (Ideal.ofBits .f32 4286578688#32) (fun k => A.mask b i k) Finset.univ

/-- The triangle product with its scales and padding. -/
def tri (b : Fin 2) (i j : Fin 384) (c : Fin 96) : EReal :=
  present A b i * A.sa b i c * (present A b j * A.sb b j c) * prod A b i j c

/-- The layer norm of the triangle product. -/
def normed (b : Fin 2) (i j : Fin 384) : Fin 96 → EReal := norm A.gamma A.beta (tri A b i j)

/-- The gate before its sigmoid: the last 128 columns of the first projection. -/
def gate (b : Fin 2) (i j : Fin 384) (d : Fin 128) : EReal :=
  (∑ e, A.q1 b i j e * A.wIn e ⟨384 + d, by omega⟩) * A.s1 b i j * A.sIn ⟨384 + d, by omega⟩

/-- The output projection of the codes. -/
def proj (b : Fin 2) (i j : Fin 384) (d : Fin 128) : EReal :=
  (∑ c, code (normed A b i j) c * A.wOut c d) * scale (normed A b i j) * A.sOut d

/-- Result `z_out`. -/
def out (b : Fin 2) (i j : Fin 384) (d : Fin 128) : EReal :=
  A.z b i j d + Ideal.logistic (gate A b i j d) * proj A b i j d

/-- Result `x_std`. -/
def outStd (b : Fin 2) (i j : Fin 384) : EReal := std (tri A b i j)

/-- Result `q2`, channels before positions. -/
def outCode (b : Fin 2) (i : Fin 384) (c : Fin 96) (j : Fin 384) : EReal := code (normed A b i j) c

/-- Result `s2`. -/
def outScale (b : Fin 2) (i j : Fin 384) : EReal := scale (normed A b i j)

end Cert.Spec
end
-- ==== Proof.SpecLemmas.lean ====
module

public import proofs.«01_k».proof.Proof.Spec

@[expose] public section

/-! # Dividing and multiplying by the reciprocal agree

Where the specification divides, by the standard deviation, by the scale or by 448, a kernel may multiply by the
reciprocal: neither divisor is zero, on any extended reals. -/

noncomputable section

namespace Cert.Spec

open Idealize.ShloMosaic

theorem ofBits_96 : Ideal.ofBits .f32 1119879168#32 = ((96 : ℝ) : EReal) := by
  simp [Ideal.ofBits, Ideal.ieee, -EReal.coe_mul]; norm_num

theorem ofBits_448 : Ideal.ofBits .f32 1138753536#32 = ((448 : ℝ) : EReal) := by
  simp [Ideal.ofBits, Ideal.ieee, -EReal.coe_mul]; norm_num

theorem eps_pos : 0 < Ideal.ofBits .f32 925353388#32 := by
  simp [Ideal.ofBits, Ideal.ieee, -EReal.coe_mul]

theorem mul_self_nonneg (a : EReal) : 0 ≤ a * a := by
  rcases le_total 0 a with h | h
  · exact mul_nonneg h h
  · rw [← neg_mul_neg]
    have h' : 0 ≤ -a := by simpa using EReal.neg_le_neg_iff.mpr h
    exact mul_nonneg h' h'

/-- A division by a divisor that is not zero is a multiplication by one over it. -/
theorem mul_div_one (y s : EReal) (hs : s ≠ 0) : y * Ideal.div 1 s = Ideal.div y s := by
  unfold Ideal.div
  rw [if_neg hs, if_neg hs, one_mul]

/-- The root of a positive value is not zero. -/
theorem sqrt_ne_zero (a : EReal) (h : 0 < a) : Ideal.sqrt a ≠ 0 := by
  induction a using EReal.rec with
  | bot => simp at h
  | top => exact (by simp : (⊤ : EReal) ≠ 0)
  | coe r =>
    have hr : 0 < r := by exact_mod_cast h
    have : Real.sqrt r ≠ 0 := (Real.sqrt_pos.mpr hr).ne'
    show (if r < 0 then (⊥ : EReal) else ((Real.sqrt r : ℝ) : EReal)) ≠ 0
    rw [if_neg hr.not_gt]
    exact_mod_cast this

/-- The standard deviation is never zero, whatever the channels hold: the epsilon keeps it positive. -/
theorem std_ne_zero (x : Fin 96 → EReal) : std x ≠ 0 := by
  unfold std
  refine sqrt_ne_zero _ (lt_of_lt_of_le eps_pos (le_add_of_nonneg_left ?_))
  rw [ofBits_96, Ideal.div_coe (by norm_num)]
  refine mul_nonneg (Finset.sum_nonneg fun k _ => mul_self_nonneg _) ?_
  exact_mod_cast (by norm_num : (0 : ℝ) ≤ 1 / 96)

/-- Dividing by 448 is multiplying by the real number 1/448. -/
theorem div_448 (a : EReal) : Ideal.div a (Ideal.ofBits .f32 1138753536#32) = a * ((1 / 448 : ℝ) : EReal) := by
  rw [ofBits_448, Ideal.div_coe (by norm_num)]

/-- The scale is never zero. -/
theorem scale_ne_zero (y : Fin 96 → EReal) : scale y ≠ 0 := by
  unfold scale
  split_ifs with h
  · exact one_ne_zero
  · rw [div_448]
    refine mul_ne_zero h ?_
    exact_mod_cast (by norm_num : (1 / 448 : ℝ) ≠ 0)

end Cert.Spec
end
-- ==== Proof.KernelIdeal.Row.lean ====
module

public import proofs.«01_k».proof.Proof.KernelIdeal.Body
public import proofs.«01_k».proof.Proof.SpecLemmas
public import Idealize.ShloMosaic.Lib.Pointwise
public import Idealize.ShloMosaic.PureOps.IdealRules

@[expose] public section

set_option maxRecDepth 16384

/-! # What one trip of the row loop computes, at an index

Each value that a trip of the second loop stores, as the specification's function of one position's channels. -/

noncomputable section

namespace Cert.KernelIdeal.Hand

open Cert.KernelIdeal Cert.KernelIdeal.Gen
open Idealize.ShloMosaic Idealize.ShloMosaic.TcCoe

/-- The lane that trip `k` gathers from the scales of `a`: the row's number within its 128 rows. -/
def lane (v12 v31 c0 : BitVec 32) (k : ℕ) : Fin 128 :=
  ⟨(Scalar.select (IntOp.cmpi CmpIPredicate.slt (Scalar.addi (Scalar.subi v12 v31) (Scf.iv c0 1#32 k)) 0#32)
      (IntOp.addi (Scalar.addi (Scalar.subi v12 v31) (Scf.iv c0 1#32 k)) 128#32)
      (Scalar.addi (Scalar.subi v12 v31) (Scf.iv c0 1#32 k))).toNat % 128, Nat.mod_lt _ (by omega)⟩

section
variable (v12 v31 c0 : BitVec 32) (k : Fin k0_t2_loop.trips) (v36 : Vec Ideal S1x96x128 .f32) (v53 : Vec Ideal S96x128 .f32)
  (v56 : Vec Ideal S1x96x128 .f32)

/-- One position's channels: the product with both scales. -/
def row (l : Fin 128) (ch : Fin 96) : EReal :=
  v53 (ix2 ch l) * v36 (ix3 0 ch (lane v12 v31 c0 k.val)) * v56 (ix3 0 ch l)

theorem pay3_at (ch : Fin 96) (l : Fin 128) :
    k0_pay3 (F := Ideal) v12 v31 c0 1#32 k v36 v53 v56 (ix2 ch l) = Spec.cen (row v12 v31 c0 k v36 v53 v56 l) ch := by
  pointwise [k0_pay3]
  simp only [Spec.cen, row, lane]

theorem pay4_at (l : Fin 128) :
    k0_pay4 (F := Ideal) v12 v31 c0 1#32 k v36 v53 v56 (ix2 0 l) = Spec.std (row v12 v31 c0 k v36 v53 v56 l) := by
  pointwise [k0_pay4, pay3_at]
  simp only [Spec.std]

theorem pay5_at (ch : Fin 96) (l : Fin 128) :
    k0_pay5 (F := Ideal) v12 v31 c0 1#32 k v36 v53 v56 (ix2 ch l)
      = Ideal.div (Spec.cen (row v12 v31 c0 k v36 v53 v56 l) ch) (Spec.std (row v12 v31 c0 k v36 v53 v56 l)) := by
  pointwise [k0_pay5, pay3_at, pay4_at]
  exact Spec.mul_div_one _ _ (Spec.std_ne_zero _)

end

section
variable (v76 : FVec Ideal S96x128 .f32) (v77 : Vec Ideal S96x1 .f32) (v81 : Vec Ideal S96x1 .f32)

/-- One position's channels after the norm's gain and offset. -/
def aff (l : Fin 128) (ch : Fin 96) : EReal := v76 (ix2 ch l) * v77 (ix2 ch 0) + v81 (ix2 ch 0)

theorem pay6_at (ch : Fin 96) (l : Fin 128) : k0_pay6 (F := Ideal) v76 v77 v81 (ix2 ch l) = aff v76 v77 v81 l ch := by
  pointwise [k0_pay6]
  simp only [aff]

/-- The named constant is the real number 1/448. -/
theorem inv_max : Named.named (F := Ideal) (φ := .f32) κ "inv_max" 991054117#32 = ((1 / 448 : ℝ) : EReal) :=
  IdealRules.named_const.ideal_named_scalar _ _ _ _ rfl

theorem pay7_at (l : Fin 128) : k0_pay7 (F := Ideal) v76 v77 v81 (ix2 0 l) = Spec.scale (aff v76 v77 v81 l) := by
  pointwise [k0_pay7, pay6_at]
  simp only [Spec.scale, Spec.amax, Spec.div_448, inv_max, FloatOps.absf]

theorem pay8_at (ch : Fin 96) (l : Fin 128) : k0_pay8 (F := Ideal) v76 v77 v81 (ix2 ch l) = Spec.code (aff v76 v77 v81 l) ch := by
  pointwise [k0_pay8, pay6_at, pay7_at]
  rw [Spec.mul_div_one _ _ (Spec.scale_ne_zero _)]
  simp only [Spec.code]

theorem pay10_at (l : Fin 128) : k0_pay10 (F := Ideal) v76 v77 v81 (ix3 0 0 l) = Spec.scale (aff v76 v77 v81 l) := by
  pointwise [k0_pay10, pay7_at]

theorem pay11_at (ch : Fin 96) (l : Fin 128) :
    k0_pay11 (F := Ideal) v76 v77 v81 (ix4 0 0 ch l) = Spec.code (aff v76 v77 v81 l) ch := by
  pointwise [k0_pay11, pay8_at]

end

theorem pay9_at (v72 : FVec Ideal S1x128 .f32) (l : Fin 128) : k0_pay9 (F := Ideal) v72 (ix3 0 0 l) = v72 (ix2 0 l) := by
  pointwise [k0_pay9]

theorem pay1_at (v93 : FVec Ideal S1x128 .f32) (v102 : FVec Ideal S96x128 .fp8e4m3) (v115 : Vec Ideal S128x96 .fp8e4m3)
    (v120 : Vec Ideal S128x1 .f32) (v124 : Vec Ideal S128x128 .fp8e4m3) (v127 : Vec Ideal S1x1x128x128 .fp8e4m3)
    (v131 : Vec Ideal S1x1x128 .f32) (v135 : Vec Ideal S128x1 .f32) (v142 : Vec Ideal S1x1x128x128 .bf16) (d l : Fin 128) :
    k0_pay1 (F := Ideal) v93 v102 v115 v120 v124 v127 v131 v135 v142 (ix4 0 0 l d)
      = v142 (ix4 0 0 l d) + Ideal.logistic ((∑ e, v127 (ix4 0 0 l e) * v124 (ix2 d e)) * v131 (ix3 0 0 l) * v135 (ix2 d 0))
          * ((∑ c, v102 (ix2 c l) * v115 (ix2 d c)) * v93 (ix2 0 l) * v120 (ix2 d 0)) := by
  pointwise [k0_pay1]
  simp only [mul_comm (v124 _), mul_comm (v115 _)]

end Cert.KernelIdeal.Hand
end
-- ==== Proof.KernelIdeal.Host.lean ====
module

public import proofs.«01_k».proof.Proof.KernelIdeal.Hand
public import proofs.«01_k».proof.Proof.Spec
public import Idealize.ShloMosaic.Lib.StableHlo.ReadAt
public import Idealize.ShloMosaic.Lib.Pointwise
public import Idealize.ShloMosaic.Lib.BitcastFour

@[expose] public section

set_option maxRecDepth 16384

/-! # The arrays that the host prepares, at an index -/

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- Core `c`'s argument arrays as the specification takes them. -/
def args (c : Dev nD) : Spec.Args where
  z b i j d := (m ((c : Thread nD τ).loc main_arg0) : Vec Ideal S2x384x384x128 .bf16) (ix4 b i j d)
  mask b i j := (m ((c : Thread nD τ).loc main_arg1) : Vec Ideal S2x384x384 .f32) (ix3 b i j)
  q1 b i j d := (m ((c : Thread nD τ).loc main_arg2) : Vec Ideal S2x384x384x128 .fp8e4m3) (ix4 b i j d)
  s1 b i j := (m ((c : Thread nD τ).loc main_arg3) : Vec Ideal S2x384x384 .f32) (ix3 b i j)
  qa b i k ch := (m ((c : Thread nD τ).loc main_arg4) : Vec Ideal S2x384x384x96 .i8) (ix4 b i k ch)
  sa b i ch := (m ((c : Thread nD τ).loc main_arg5) : Vec Ideal S2x384x96 .f32) (ix3 b i ch)
  qb b i k ch := (m ((c : Thread nD τ).loc main_arg6) : Vec Ideal S2x384x384x96 .i8) (ix4 b i k ch)
  sb b i ch := (m ((c : Thread nD τ).loc main_arg7) : Vec Ideal S2x384x96 .f32) (ix3 b i ch)
  gamma ch := (m ((c : Thread nD τ).loc main_arg8) : Vec Ideal S96 .f32) (ix1 ch)
  beta ch := (m ((c : Thread nD τ).loc main_arg9) : Vec Ideal S96 .f32) (ix1 ch)
  wIn d k := (m ((c : Thread nD τ).loc main_arg10) : Vec Ideal S128x512 .fp8e4m3) (ix2 d k)
  sIn k := (m ((c : Thread nD τ).loc main_arg11) : Vec Ideal S512 .f32) (ix1 k)
  wOut ch d := (m ((c : Thread nD τ).loc main_arg12) : Vec Ideal S96x128 .fp8e4m3) (ix2 ch d)
  sOut d := (m ((c : Thread nD τ).loc main_arg13) : Vec Ideal S128 .f32) (ix1 d)

/-- Byte `r` of a word. -/
def byte (w : BitVec 32) (r : ℕ) : BitVec 8 := w.extractLsb' (8 * r) 8

/-- Four bytes in one word, byte 0 lowest. -/
def packed (x : Fin 4 → BitVec 8) : BitVec 32 :=
  IntOp.ori (IntOp.ori (IntOp.ori ((x 0).setWidth 32) (IntOp.shli .host ((x 1).setWidth 32) 8#32))
    (IntOp.shli .host ((x 2).setWidth 32) 16#32)) (IntOp.shli .host ((x 3).setWidth 32) 24#32)

/-- Byte `r` of four packed bytes is the `r`-th of them. -/
theorem byte_packed (x : Fin 4 → BitVec 8) (r : Fin 4) : byte (packed x) r.val = x r := by
  have e : packed x = ((x 0).setWidth 32 ||| ((x 1).setWidth 32 <<< 8) ||| ((x 2).setWidth 32 <<< 16)
      ||| ((x 3).setWidth 32 <<< 24)) := rfl
  apply BitVec.eq_of_getLsbD_eq
  intro i hi
  rw [byte, e, BitVec.getLsbD_extractLsb', four_bytes_getLsbD _ _ (by omega)]
  have h1 : (8 * r.val + i) / 8 = r.val := by omega
  have h2 : (8 * r.val + i) % 8 = i := by omega
  simp only [h1, h2, hi, decide_true, Bool.true_and]

/-- A word of the packed codes of `a` holds the codes of four consecutive rows. -/
theorem word_a (c : Dev nD) (b : Fin 2) (s : Fin 12) (kb : Fin 3) (w : Fin 768) (l : Fin 128) :
    (V m c main_v23 : Vec Ideal S2x12x3x768x128 .i32) (ix5 b s kb w l)
      = packed fun r => (args m c).qa b ⟨s.val * 32 + w.val % 8 * 4 + r.val, by omega⟩ ⟨kb.val * 128 + l.val, by omega⟩
          ⟨w.val / 8 % 24 * 4 + w.val / 192, by omega⟩ := by
  show StableHlo.after hostOps0 _ (Proc.devRef .tc main_v23) _ = _
  after_reads_at
  rfl

/-- A word of the packed codes of `b` holds the codes of four consecutive rows. -/
theorem word_b (c : Dev nD) (b : Fin 2) (s : Fin 12) (kb : Fin 3) (w : Fin 768) (l : Fin 128) :
    (V m c main_v44 : Vec Ideal S2x12x3x768x128 .i32) (ix5 b s kb w l)
      = packed fun r => (args m c).qb b ⟨s.val * 32 + w.val % 8 * 4 + r.val, by omega⟩ ⟨kb.val * 128 + l.val, by omega⟩
          ⟨w.val / 8 % 24 * 4 + w.val / 192, by omega⟩ := by
  show StableHlo.after hostOps0 _ (Proc.devRef .tc main_v44) _ = _
  after_reads_at
  rfl

/-- The transposed scales of `a`, zero on the rows without a valid pair. -/
theorem scale_a (c : Dev nD) (b : Fin 2) (ch : Fin 96) (j : Fin 384) :
    (V m c main_v47 : Vec Ideal S2x96x384 .f32) (ix3 b ch j) = Spec.present (args m c) b j * (args m c).sa b j ch := by
  show StableHlo.after hostOps0 _ (Proc.devRef .tc main_v47) _ = _
  after_reads_at
  rfl

/-- The transposed scales of `b`, zero on the rows without a valid pair. -/
theorem scale_b (c : Dev nD) (b : Fin 2) (ch : Fin 96) (j : Fin 384) :
    (V m c main_v50 : Vec Ideal S2x96x384 .f32) (ix3 b ch j) = Spec.present (args m c) b j * (args m c).sb b j ch := by
  show StableHlo.after hostOps0 _ (Proc.devRef .tc main_v50) _ = _
  after_reads_at
  rfl

/-- The column of normalisation gains. -/
theorem gamma_at (c : Dev nD) (ch : Fin 96) : (V m c main_v51 : Vec Ideal S96x1 .f32) (ix2 ch 0) = (args m c).gamma ch := by
  show StableHlo.after hostOps0 _ (Proc.devRef .tc main_v51) _ = _
  after_reads_at
  rfl

/-- The column of normalisation offsets. -/
theorem beta_at (c : Dev nD) (ch : Fin 96) : (V m c main_v52 : Vec Ideal S96x1 .f32) (ix2 ch 0) = (args m c).beta ch := by
  show StableHlo.after hostOps0 _ (Proc.devRef .tc main_v52) _ = _
  after_reads_at
  rfl

/-- The transposed output weights. -/
theorem wOut_at (c : Dev nD) (d : Fin 128) (ch : Fin 96) :
    (V m c main_v53 : Vec Ideal S128x96 .fp8e4m3) (ix2 d ch) = (args m c).wOut ch d := by
  show StableHlo.after hostOps0 _ (Proc.devRef .tc main_v53) _ = _
  after_reads_at
  rfl

/-- The gate's columns of the input weights, transposed. -/
theorem wIn_at (c : Dev nD) (d e : Fin 128) :
    (V m c main_v54 : Vec Ideal S128x128 .fp8e4m3) (ix2 d e) = (args m c).wIn e ⟨384 + d, by omega⟩ := by
  show StableHlo.after hostOps0 _ (Proc.devRef .tc main_v54) _ = _
  after_reads_at
  rfl

/-- The column of the output weights' scales. -/
theorem sOut_at (c : Dev nD) (d : Fin 128) : (V m c main_v55 : Vec Ideal S128x1 .f32) (ix2 d 0) = (args m c).sOut d := by
  show StableHlo.after hostOps0 _ (Proc.devRef .tc main_v55) _ = _
  after_reads_at
  rfl

/-- The column of the gate weights' scales. -/
theorem sIn_at (c : Dev nD) (d : Fin 128) :
    (V m c main_v57 : Vec Ideal S128x1 .f32) (ix2 d 0) = (args m c).sIn ⟨384 + d, by omega⟩ := by
  show StableHlo.after hostOps0 _ (Proc.devRef .tc main_v57) _ = _
  after_reads_at
  rfl

end Cert.KernelIdeal.Hand
end
-- ==== Proof.KernelIdeal.Dot.lean ====
module

public import proofs.«01_k».proof.Proof.KernelIdeal.Body
public import Idealize.ShloMosaic.Lib.Pointwise
public import Idealize.ShloMosaic.Lib.BitcastFour

@[expose] public section

set_option maxRecDepth 16384

noncomputable section

namespace Cert.KernelIdeal.Hand

open Cert.KernelIdeal Cert.KernelIdeal.Gen
open Idealize.ShloMosaic Idealize.ShloMosaic.TcCoe

/-- Words read as bytes: row `p` holds byte `p % 4` of the words of row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro i hi
  rw [bitcast_getLsbD x h _ i hi (by decide), BitVec.getLsbD_extractLsb']
  have hr : (⟨2, ![R, n]⟩ : Shape).row (ix2 p l) = p.val := rfl
  have e1 : (p.val * 8 + i) / 32 = a.val := by omega
  have e2 : (p.val * 8 + i) % 32 = 8 * (p.val % 4) + i := by omega
  simp only [hi, decide_true, Bool.true_and]
  congr 1
  · congr 1
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))

/-- One of the three pieces that the index `k` of the joined axis falls in. -/
theorem piece {n : Nat} (x : Fin 3 → Vec Ideal ⟨4, ![n, 1, 8, 128]⟩ .i32) (p : Fin n) (q : Fin 8) (k : Fin 384) :
    (if h : k.val < 128 then x 0 (ix4 p 0 q ⟨k.val, h⟩)
      else if h' : k.val - 128 < 128 then x 1 (ix4 p 0 q ⟨k.val - 128, h'⟩)
        else x 2 (ix4 p 0 q ⟨k.val - 128 - 128, by omega⟩))
      = x ⟨k.val / 128, by omega⟩ (ix4 p 0 q ⟨k.val % 128, by omega⟩) := by
  split
  · rw [show (⟨k.val / 128, by omega⟩ : Fin 3) = 0 from Fin.ext (by show k.val / 128 = 0; omega)]
    congr 2; exact Fin.ext (by show k.val = k.val % 128; omega)
  · split
    · rw [show (⟨k.val / 128, by omega⟩ : Fin 3) = 1 from Fin.ext (by show k.val / 128 = 1; omega)]
      congr 2; exact Fin.ext (by show k.val - 128 = k.val % 128; omega)
    · rw [show (⟨k.val / 128, by omega⟩ : Fin 3) = 2 from Fin.ext (by show k.val / 128 = 2; omega)]
      congr 2; exact Fin.ext (by show k.val - 128 - 128 = k.val % 128; omega)

/-- The words of `a` along the contracted axis: three blocks of 128. -/
theorem catA (x : Fin 3 → Vec Ideal S6x1x8x128 .i32) (a : Fin 48) (k : Fin 384) :
    concatenate S48x384 1
              [⟨S48x128, k0_pay2 (x 0)⟩,
                ⟨S48x128,
                  shapeCast S48x128 (shapeCast S6x8x128 (x 1) shapeCasts_S6x1x8x128_S6x8x128)
                    shapeCasts_S6x8x128_S48x128⟩,
                ⟨S48x128,
                  shapeCast S48x128 (shapeCast S6x8x128 (x 2) shapeCasts_S6x1x8x128_S6x8x128)
                    shapeCasts_S6x8x128_S48x128⟩]
              concatenates_S48x128_S48x128_S48x128_S48x384_d1 (ix2 a k)
     = x ⟨k.val / 128, by omega⟩ (ix4 ⟨a.val / 8, by omega⟩ 0 ⟨a.val % 8, by omega⟩ ⟨k.val % 128, by omega⟩) := by
  pointwise [k0_pay2]
  exact piece x _ _ k

/-- The words of `b` along the contracted axis: three blocks of 128. -/
theorem catB (x : Fin 3 → Vec Ideal S4x1x8x128 .i32) (a : Fin 32) (k : Fin 384) :
    concatenate S32x384 1
              [⟨S32x128,
                  shapeCast S32x128 (shapeCast S4x8x128 (x 0) shapeCasts_S4x1x8x128_S4x8x128)
                    shapeCasts_S4x8x128_S32x128⟩,
                ⟨S32x128,
                  shapeCast S32x128 (shapeCast S4x8x128 (x 1) shapeCasts_S4x1x8x128_S4x8x128)
                    shapeCasts_S4x8x128_S32x128⟩,
                ⟨S32x128,
                  shapeCast S32x128 (shapeCast S4x8x128 (x 2) shapeCasts_S4x1x8x128_S4x8x128)
                    shapeCasts_S4x8x128_S32x128⟩]
              concatenates_S32x128_S32x128_S32x128_S32x384_d1 (ix2 a k)
     = x ⟨k.val / 128, by omega⟩ (ix4 ⟨a.val / 8, by omega⟩ 0 ⟨a.val % 8, by omega⟩ ⟨k.val % 128, by omega⟩) := by
  pointwise
  exact piece x _ _ k

/-- One channel's product of the codes: the bytes of the words of `a` against those of `b`. -/
theorem pay12_at (x : Fin 3 → Vec Ideal S6x1x8x128 .i32) (y : Fin 3 → Vec Ideal S4x1x8x128 .i32) (p : Fin 192) (l : Fin 128) :
    k0_pay12 (F := Ideal) (k0_pay2 (x 0)) (x 1) (x 2) (y 0) (y 1) (y 2) (ix2 p l)
      = ∑ k : Fin 384, Ideal.ofBits .fp8e4m3 ((x ⟨k.val / 128, by omega⟩
            (ix4 ⟨p.val / 4 / 8, by omega⟩ 0 ⟨p.val / 4 % 8, by omega⟩ ⟨k.val % 128, by omega⟩)).extractLsb' (8 * (p.val % 4)) 8)
          * Ideal.ofBits .fp8e4m3 ((y ⟨k.val / 128, by omega⟩
            (ix4 ⟨l.val / 4 / 8, by omega⟩ 0 ⟨l.val / 4 % 8, by omega⟩ ⟨k.val % 128, by omega⟩)).extractLsb' (8 * (l.val % 4)) 8) := by
  pointwise [k0_pay12]
  refine Finset.sum_congr rfl fun k _ => ?_
  rw [bitcast_32_8_ix2 _ _ p k ⟨p.val / 4, by omega⟩ rfl, bitcast_32_8_ix2 _ _ l k ⟨l.val / 4, by omega⟩ rfl,
    catA, catB]

end Cert.KernelIdeal.Hand
end
-- ==== Proof.KernelIdeal.Product.lean ====
module

public import proofs.«01_k».proof.Proof.KernelIdeal.Host
public import proofs.«01_k».proof.Proof.KernelIdeal.Dot

@[expose] public section

set_option maxRecDepth 16384

/-! # The products that the row loop reads are the triangle products of the codes -/

noncomputable section

namespace Cert.KernelIdeal.Hand

open Cert.KernelIdeal Cert.KernelIdeal.Gen
open Idealize.ShloMosaic Idealize.ShloMosaic.TcCoe

/-! ## Grid points and rectangles -/

theorem c0_at : ∀ t : Fin cfg0.N, (grid0.coords t 0).val = t.val / 144 := by decide +kernel
theorem c1_at : ∀ t : Fin cfg0.N, (grid0.coords t 1).val = t.val / 48 % 3 := by decide +kernel
theorem c2_at : ∀ t : Fin cfg0.N, (grid0.coords t 2).val = t.val / 24 % 2 := by decide +kernel

/-- A load of a rectangle reads the array at the rectangle's offset plus the index. -/
theorem ld_at {S : Shape} {e : EltTy} (x : Vec Ideal S e) (off size : Fin S.rank → ℕ) (inb : ∀ a, off a + size a ≤ S.size a)
    (y : (⟨S.rank, size⟩ : Shape).Idx) (z : S.Idx) (h : ∀ a, (z a).val = off a + (y a).val) :
    View.ld x (Rect.unit (s := S) off size inb) y = x z := by
  show x _ = x z
  congr 1
  funext a
  refine Fin.ext ?_
  rw [h a]
  show off a + 1 * (y a).val = _
  rw [Nat.one_mul]

/-- What a batch's fetch brings, at an index. -/
theorem W4_at (i : grid0.Coords) (hi : k0_cond1 i = 1#1) (x : Vec Ideal S2x12x3x768x128 .i32) (b : Fin 2) (hb : b.val = (i 0).val)
    (s : Fin 12) (kb : Fin 3) (w : Fin 768) (l : Fin 128) : W4 i hi x (ix4 s kb w l) = x (ix5 b s kb w l) := by
  obtain ⟨v, hv⟩ : ∃ v : Vec Ideal S1x12x3x768x128 .i32,
      v = View.ld x (Rect.unit (s := S2x12x3x768x128) (k0_off1 i) S1x12x3x768x128.size (k0_off1_inb i hi)) := ⟨_, rfl⟩
  have e : W4 i hi x = shapeCast S12x3x768x128 v squeezes_S1x12x3x768x128_S12x3x768x128.numel_eq := by rw [hv]; rfl
  have e2 : shapeCast S12x3x768x128 v squeezes_S1x12x3x768x128_S12x3x768x128.numel_eq (ix4 s kb w l) = v (ix5 0 s kb w l) := by
    pointwise
  rw [e, e2, hv]
  refine ld_at x _ _ _ _ _ fun a => ?_
  rw [k0_off1_eq]
  match a with
  | ⟨0, _⟩ => exact hb
  | ⟨1, _⟩ => exact (Nat.zero_add _).symm
  | ⟨2, _⟩ => exact (Nat.zero_add _).symm
  | ⟨3, _⟩ => exact (Nat.zero_add _).symm
  | ⟨4, _⟩ => exact (Nat.zero_add _).symm

section
variable (i : grid0.Coords) (hi : k0_cond2 i = 1#1) (x : Vec Ideal S12x3x768x128 .i32) (n : Fin k0_t1_loop.trips)

/-- The three blocks of words of `a` that a trip reads. -/
def blkA : Fin 3 → Vec Ideal S6x1x8x128 .i32 :=
  ![View.ld x (Rect.unit (s := S12x3x768x128) (k0_off2 i n) S6x1x8x128.size (k0_off2_inb i n hi)),
    View.ld x (Rect.unit (s := S12x3x768x128) (k0_off3 i n) S6x1x8x128.size (k0_off3_inb i n hi)),
    View.ld x (Rect.unit (s := S12x3x768x128) (k0_off4 i n) S6x1x8x128.size (k0_off4_inb i n hi))]

/-- The three blocks of words of `b` that a trip reads. -/
def blkB : Fin 3 → Vec Ideal S4x1x8x128 .i32 :=
  ![View.ld x (Rect.unit (s := S12x3x768x128) (k0_off5 i n) S4x1x8x128.size (k0_off5_inb i n hi)),
    View.ld x (Rect.unit (s := S12x3x768x128) (k0_off6 i n) S4x1x8x128.size (k0_off6_inb i n hi)),
    View.ld x (Rect.unit (s := S12x3x768x128) (k0_off7 i n) S4x1x8x128.size (k0_off7_inb i n hi))]

theorem blkA_at (kb : Fin 3) (a : Fin 6) (q : Fin 8) (l : Fin 128) (s : Fin 12) (w : Fin 768) (hs : s.val = 6 * (i 2).val + a.val)
    (hw : w.val = 8 * n.val + q.val) : blkA i hi x n kb (ix4 a 0 q l) = x (ix4 s kb w l) := by
  match kb with
  | ⟨0, _⟩ =>
    refine ld_at x _ _ _ _ _ fun d => ?_
    rw [k0_off2_eq]
    match d with
    | ⟨0, _⟩ => exact hs
    | ⟨1, _⟩ => rfl
    | ⟨2, _⟩ => exact hw
    | ⟨3, _⟩ => exact (Nat.zero_add _).symm
  | ⟨1, _⟩ =>
    refine ld_at x _ _ _ _ _ fun d => ?_
    rw [k0_off3_eq]
    match d with
    | ⟨0, _⟩ => exact hs
    | ⟨1, _⟩ => rfl
    | ⟨2, _⟩ => exact hw
    | ⟨3, _⟩ => exact (Nat.zero_add _).symm
  | ⟨2, _⟩ =>
    refine ld_at x _ _ _ _ _ fun d => ?_
    rw [k0_off4_eq]
    match d with
    | ⟨0, _⟩ => exact hs
    | ⟨1, _⟩ => rfl
    | ⟨2, _⟩ => exact hw
    | ⟨3, _⟩ => exact (Nat.zero_add _).symm

theorem blkB_at (kb : Fin 3) (a : Fin 4) (q : Fin 8) (l : Fin 128) (s : Fin 12) (w : Fin 768) (hs : s.val = 4 * (i 1).val + a.val)
    (hw : w.val = 8 * n.val + q.val) : blkB i hi x n kb (ix4 a 0 q l) = x (ix4 s kb w l) := by
  match kb with
  | ⟨0, _⟩ =>
    refine ld_at x _ _ _ _ _ fun d => ?_
    rw [k0_off5_eq]
    match d with
    | ⟨0, _⟩ => exact hs
    | ⟨1, _⟩ => rfl
    | ⟨2, _⟩ => exact hw
    | ⟨3, _⟩ => exact (Nat.zero_add _).symm
  | ⟨1, _⟩ =>
    refine ld_at x _ _ _ _ _ fun d => ?_
    rw [k0_off6_eq]
    match d with
    | ⟨0, _⟩ => exact hs
    | ⟨1, _⟩ => rfl
    | ⟨2, _⟩ => exact hw
    | ⟨3, _⟩ => exact (Nat.zero_add _).symm
  | ⟨2, _⟩ =>
    refine ld_at x _ _ _ _ _ fun d => ?_
    rw [k0_off7_eq]
    match d with
    | ⟨0, _⟩ => exact hs
    | ⟨1, _⟩ => rfl
    | ⟨2, _⟩ => exact hw
    | ⟨3, _⟩ => exact (Nat.zero_add _).symm

end

/-- A channel's product, from the blocks of words that its trip reads. -/
theorem P12_eq (g : grid0.Coords) (hB : k0_cond2 g = 1#1) (x y : Vec Ideal S12x3x768x128 .i32) (n : Fin k0_t1_loop.trips) :
    P12 (F := Ideal) g hB x y n = k0_pay12 (k0_pay2 (blkA g hB x n 0)) (blkA g hB x n 1) (blkA g hB x n 2) (blkB g hB y n 0)
      (blkB g hB y n 1) (blkB g hB y n 2) := rfl

/-! ## The product -/

variable (m : (ℓ : Loc nD τ sig) → Buf (Elt Ideal) ℓ)

theorem tripOf_lt (ch : Fin 96) : (tripOf ch).val < 96 := by
  show 24 * (ch.val % 4) + ch.val / 4 < 96
  omega

/-- The channel that a word belongs to. -/
theorem chan_eq (f T q : ℕ) (hf : f < 96) (hT : T = 24 * (f % 4) + f / 4) (hq : q < 8) :
    (8 * T + q) / 8 % 24 * 4 + (8 * T + q) / 192 = f := by
  have e1 : (8 * T + q) / 8 = T := by omega
  have e2 : (8 * T + q) / 192 = T / 24 := by omega
  have e3 : T / 24 = f % 4 := by omega
  have e4 : T % 24 = f / 4 := by omega
  rw [e1, e2, e3, e4]
  omega

/-- A byte of the words of `a` held for a batch is a code of `a`. -/
theorem codeA (c : Dev nD) (b : Fin 2) (ch : Fin 96) (ih : Fin 2) (p : Fin 192) (k : Fin 384) (i : grid0.Coords) (hi : k0_cond2 i = 1#1)
    (h2 : (i 2).val = ih.val) :
    (blkA i hi (Wa m c b.val) (tripOf ch) ⟨k.val / 128, by omega⟩
      (ix4 ⟨p.val / 4 / 8, by omega⟩ 0 ⟨p.val / 4 % 8, by omega⟩ ⟨k.val % 128, by omega⟩)).extractLsb' (8 * (p.val % 4)) 8
      = (args m c).qa b ⟨ih.val * 192 + p.val, by omega⟩ k ch := by
  have ht := tripOf_lt ch
  have htv : (tripOf ch).val = 24 * (ch.val % 4) + ch.val / 4 := rfl
  rw [blkA_at i hi (Wa m c b.val) (tripOf ch) _ _ _ _ ⟨6 * ih.val + p.val / 4 / 8, by omega⟩ ⟨8 * (tripOf ch).val + p.val / 4 % 8, by omega⟩
    (by rw [h2]) rfl]
  have hg : b.val = (grid0.coords (gp (b.val * 144)) 0).val := by
    rw [c0_at]
    show b.val = (b.val * 144) % cfg0.N / 144
    rw [N_eq]; omega
  unfold Wa
  rw [W4_at _ _ _ b hg, word_a]
  refine (byte_packed _ ⟨p.val % 4, by omega⟩).trans ?_
  dsimp only
  congr 1
  · exact Fin.ext (by dsimp only; omega)
  · exact Fin.ext (by dsimp only; omega)
  · exact Fin.ext (chan_eq _ _ _ ch.isLt htv (Nat.mod_lt _ (by omega)))

/-- A byte of the words of `b` held for a batch is a code of `b`. -/
theorem codeB (c : Dev nD) (b : Fin 2) (ch : Fin 96) (jb : Fin 3) (p : Fin 128) (k : Fin 384) (i : grid0.Coords) (hi : k0_cond2 i = 1#1)
    (h1 : (i 1).val = jb.val) :
    (blkB i hi (Wb m c b.val) (tripOf ch) ⟨k.val / 128, by omega⟩
      (ix4 ⟨p.val / 4 / 8, by omega⟩ 0 ⟨p.val / 4 % 8, by omega⟩ ⟨k.val % 128, by omega⟩)).extractLsb' (8 * (p.val % 4)) 8
      = (args m c).qb b ⟨jb.val * 128 + p.val, by omega⟩ k ch := by
  have ht := tripOf_lt ch
  have htv : (tripOf ch).val = 24 * (ch.val % 4) + ch.val / 4 := rfl
  rw [blkB_at i hi (Wb m c b.val) (tripOf ch) _ _ _ _ ⟨4 * jb.val + p.val / 4 / 8, by omega⟩ ⟨8 * (tripOf ch).val + p.val / 4 % 8, by omega⟩
    (by rw [h1]) rfl]
  have hg : b.val = (grid0.coords (gp (b.val * 144)) 0).val := by
    rw [c0_at]
    show b.val = (b.val * 144) % cfg0.N / 144
    rw [N_eq]; omega
  unfold Wb
  rw [show W5 (F := Ideal) (grid0.coords (gp (b.val * 144))) (gA b.val) = W4 (grid0.coords (gp (b.val * 144))) (gA b.val) from rfl,
    W4_at _ _ _ b hg, word_b]
  refine (byte_packed _ ⟨p.val % 4, by omega⟩).trans ?_
  dsimp only
  congr 1
  · exact Fin.ext (by dsimp only; omega)
  · exact Fin.ext (by dsimp only; omega)
  · exact Fin.ext (chan_eq _ _ _ ch.isLt htv (Nat.mod_lt _ (by omega)))

/-- One channel's product, computed from the words held for batch `b`. -/
theorem P12_at (c : Dev nD) (b : Fin 2) (ch : Fin 96) (ih : Fin 2) (jb : Fin 3) (p : Fin 192) (l : Fin 128) (g : grid0.Coords)
    (hB : k0_cond2 g = 1#1) (h1 : (g 1).val = jb.val) (h2 : (g 2).val = ih.val) :
    P12 g hB (Wa m c b.val) (Wb m c b.val) (tripOf ch) (ix2 p l)
      = Spec.prod (args m c) b ⟨ih.val * 192 + p.val, by omega⟩ ⟨jb.val * 128 + l.val, by omega⟩ ch := by
  rw [P12_eq, pay12_at]
  unfold Spec.prod
  refine Finset.sum_congr rfl fun x _ => ?_
  rw [codeA m c b ch ih p x g hB h2, codeB m c b ch jb l x g hB h1]

/-- The products that trip `k` of the row loop reads at point `t` are the triangle products of its row's codes. -/
theorem X53_at (c : Dev nD) (t : Fin cfg0.N) (k : Fin k0_t2_loop.trips) (ch : Fin 96) (l : Fin 128) (b : Fin 2) (hb : b.val = t.val / 144)
    (i j : Fin 384) (hi : i.val = t.val / 24 % 2 * 192 + t.val % 24 * 8 + k.val) (hj : j.val = t.val / 48 % 3 * 128 + l.val) :
    X53 m c t k (ix2 ch l) = Spec.prod (args m c) b i j ch := by
  have hk := trips2_le k
  have hN : t.val < 288 := lt_of_lt_of_eq t.isLt N_eq
  have hq : (gp (t.val / 24 * 24)).val = t.val / 24 * 24 := Nat.mod_eq_of_lt (lt_of_lt_of_eq (by omega : t.val / 24 * 24 < 288) N_eq.symm)
  show P12 (grid0.coords (gp (t.val / 24 * 24))) (gB (t.val / 24)) (Wa m c (t.val / 24 / 6)) (Wb m c (t.val / 24 / 6)) (tripOf ch)
    (ix2 ⟨t.val % 24 * 8 + k.val, by omega⟩ l) = _
  rw [show t.val / 24 / 6 = b.val by omega]
  refine (P12_at m c b ch ⟨t.val / 24 % 2, by omega⟩ ⟨t.val / 48 % 3, by omega⟩ ⟨t.val % 24 * 8 + k.val, by omega⟩ l _ _ ?_ ?_).trans ?_
  · rw [c1_at, hq]; show _ = t.val / 48 % 3; omega
  · rw [c2_at, hq]; show _ = t.val / 24 % 2; omega
  · congr 1
    · exact Fin.ext (by dsimp only; omega)
    · exact Fin.ext (by dsimp only; omega)

end Cert.KernelIdeal.Hand
end
-- ==== Proof.KernelIdeal.Blocks.lean ====
module

public import proofs.«01_k».proof.Proof.KernelIdeal.Product

@[expose] public section

set_option maxRecDepth 16384

/-! # What each point reads through the windows, at an index -/

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-! ## The windows' blocks: batch, row block, column block -/

theorem idx0_at : ∀ t : Fin cfg0.N, win0_0.index t = ![t.val / 144, t.val / 24 % 2 * 24 + t.val % 24, t.val / 48 % 3, 0] :=
  (by decide +kernel : ∀ t : Fin grid0.N, _)
theorem idx1_at : ∀ t : Fin cfg0.N, win0_1.index t = ![t.val / 144, t.val / 24 % 2 * 24 + t.val % 24, t.val / 48 % 3, 0] :=
  (by decide +kernel : ∀ t : Fin grid0.N, _)
theorem idx2_at : ∀ t : Fin cfg0.N, win0_2.index t = ![t.val / 144, t.val / 24 % 2 * 24 + t.val % 24, t.val / 48 % 3] :=
  (by decide +kernel : ∀ t : Fin grid0.N, _)
theorem idx3_at : ∀ t : Fin cfg0.N, win0_3.index t = ![t.val / 144, 0, 0] :=
  (by decide +kernel : ∀ t : Fin grid0.N, _)
theorem idx4_at : ∀ t : Fin cfg0.N, win0_4.index t = ![t.val / 144, 0, 0] :=
  (by decide +kernel : ∀ t : Fin grid0.N, _)
theorem idx5_at : ∀ t : Fin cfg0.N, win0_5.index t = ![0, 0] :=
  (by decide +kernel : ∀ t : Fin grid0.N, _)
theorem idx6_at : ∀ t : Fin cfg0.N, win0_6.index t = ![0, 0] :=
  (by decide +kernel : ∀ t : Fin grid0.N, _)
theorem idx7_at : ∀ t : Fin cfg0.N, win0_7.index t = ![0, 0] :=
  (by decide +kernel : ∀ t : Fin grid0.N, _)
theorem idx8_at : ∀ t : Fin cfg0.N, win0_8.index t = ![0, 0] :=
  (by decide +kernel : ∀ t : Fin grid0.N, _)
theorem idx9_at : ∀ t : Fin cfg0.N, win0_9.index t = ![0, 0] :=
  (by decide +kernel : ∀ t : Fin grid0.N, _)
theorem idx10_at : ∀ t : Fin cfg0.N, win0_10.index t = ![0, 0] :=
  (by decide +kernel : ∀ t : Fin grid0.N, _)
theorem idx11_at : ∀ t : Fin cfg0.N, win0_11.index t = ![t.val / 144, t.val / 24 % 2 * 24 + t.val % 24, t.val / 48 % 3, 0] :=
  (by decide +kernel : ∀ t : Fin grid0.N, _)
theorem idx12_at : ∀ t : Fin cfg0.N, win0_12.index t = ![t.val / 144, t.val / 24 % 2 * 24 + t.val % 24, t.val / 48 % 3] :=
  (by decide +kernel : ∀ t : Fin grid0.N, _)
theorem idx13_at : ∀ t : Fin cfg0.N, win0_13.index t = ![t.val / 144, t.val / 24 % 2 * 24 + t.val % 24, 0, t.val / 48 % 3] :=
  (by decide +kernel : ∀ t : Fin grid0.N, _)
theorem idx14_at : ∀ t : Fin cfg0.N, win0_14.index t = ![t.val / 144, t.val / 24 % 2 * 24 + t.val % 24, t.val / 48 % 3] :=
  (by decide +kernel : ∀ t : Fin grid0.N, _)

/-- An index of a window's block is an index of its array at the block's offset. -/
theorem emb0_at (t : Fin cfg0.N) (j : S1x8x128x128.Idx) (a : Fin 4) : ((((cfg0.win 0).blk t).view.emb j) a).val = (![t.val / 144, t.val / 24 % 2 * 24 + t.val % 24, t.val / 48 % 3, 0] : Fin 4 → ℕ) a * S1x8x128x128.size a + (j a).val := by
  have e := congrFun (idx0_at t) a
  rw [← e]
  show win0_0.index t a * S1x8x128x128.size a + 1 * (j a).val = _
  rw [Nat.one_mul]
theorem emb1_at (t : Fin cfg0.N) (j : S1x8x128x128.Idx) (a : Fin 4) : ((((cfg0.win 1).blk t).view.emb j) a).val = (![t.val / 144, t.val / 24 % 2 * 24 + t.val % 24, t.val / 48 % 3, 0] : Fin 4 → ℕ) a * S1x8x128x128.size a + (j a).val := by
  have e := congrFun (idx1_at t) a
  rw [← e]
  show win0_1.index t a * S1x8x128x128.size a + 1 * (j a).val = _
  rw [Nat.one_mul]
theorem emb2_at (t : Fin cfg0.N) (j : S1x8x128.Idx) (a : Fin 3) : ((((cfg0.win 2).blk t).view.emb j) a).val = (![t.val / 144, t.val / 24 % 2 * 24 + t.val % 24, t.val / 48 % 3] : Fin 3 → ℕ) a * S1x8x128.size a + (j a).val := by
  have e := congrFun (idx2_at t) a
  rw [← e]
  show win0_2.index t a * S1x8x128.size a + 1 * (j a).val = _
  rw [Nat.one_mul]
theorem emb3_at (t : Fin cfg0.N) (j : S1x96x384.Idx) (a : Fin 3) : ((((cfg0.win 3).blk t).view.emb j) a).val = (![t.val / 144, 0, 0] : Fin 3 → ℕ) a * S1x96x384.size a + (j a).val := by
  have e := congrFun (idx3_at t) a
  rw [← e]
  show win0_3.index t a * S1x96x384.size a + 1 * (j a).val = _
  rw [Nat.one_mul]
theorem emb4_at (t : Fin cfg0.N) (j : S1x96x384.Idx) (a : Fin 3) : ((((cfg0.win 4).blk t).view.emb j) a).val = (![t.val / 144, 0, 0] : Fin 3 → ℕ) a * S1x96x384.size a + (j a).val := by
  have e := congrFun (idx4_at t) a
  rw [← e]
  show win0_4.index t a * S1x96x384.size a + 1 * (j a).val = _
  rw [Nat.one_mul]
theorem emb5_at (t : Fin cfg0.N) (j : S96x1.Idx) (a : Fin 2) : ((((cfg0.win 5).blk t).view.emb j) a).val = (![0, 0] : Fin 2 → ℕ) a * S96x1.size a + (j a).val := by
  have e := congrFun (idx5_at t) a
  rw [← e]
  show win0_5.index t a * S96x1.size a + 1 * (j a).val = _
  rw [Nat.one_mul]
theorem emb6_at (t : Fin cfg0.N) (j : S96x1.Idx) (a : Fin 2) : ((((cfg0.win 6).blk t).view.emb j) a).val = (![0, 0] : Fin 2 → ℕ) a * S96x1.size a + (j a).val := by
  have e := congrFun (idx6_at t) a
  rw [← e]
  show win0_6.index t a * S96x1.size a + 1 * (j a).val = _
  rw [Nat.one_mul]
theorem emb7_at (t : Fin cfg0.N) (j : S128x96.Idx) (a : Fin 2) : ((((cfg0.win 7).blk t).view.emb j) a).val = (![0, 0] : Fin 2 → ℕ) a * S128x96.size a + (j a).val := by
  have e := congrFun (idx7_at t) a
  rw [← e]
  show win0_7.index t a * S128x96.size a + 1 * (j a).val = _
  rw [Nat.one_mul]
theorem emb8_at (t : Fin cfg0.N) (j : S128x128.Idx) (a : Fin 2) : ((((cfg0.win 8).blk t).view.emb j) a).val = (![0, 0] : Fin 2 → ℕ) a * S128x128.size a + (j a).val := by
  have e := congrFun (idx8_at t) a
  rw [← e]
  show win0_8.index t a * S128x128.size a + 1 * (j a).val = _
  rw [Nat.one_mul]
theorem emb9_at (t : Fin cfg0.N) (j : S128x1.Idx) (a : Fin 2) : ((((cfg0.win 9).blk t).view.emb j) a).val = (![0, 0] : Fin 2 → ℕ) a * S128x1.size a + (j a).val := by
  have e := congrFun (idx9_at t) a
  rw [← e]
  show win0_9.index t a * S128x1.size a + 1 * (j a).val = _
  rw [Nat.one_mul]
theorem emb10_at (t : Fin cfg0.N) (j : S128x1.Idx) (a : Fin 2) : ((((cfg0.win 10).blk t).view.emb j) a).val = (![0, 0] : Fin 2 → ℕ) a * S128x1.size a + (j a).val := by
  have e := congrFun (idx10_at t) a
  rw [← e]
  show win0_10.index t a * S128x1.size a + 1 * (j a).val = _
  rw [Nat.one_mul]
theorem emb11_at (t : Fin cfg0.N) (j : S1x8x128x128.Idx) (a : Fin 4) : ((((cfg0.win 11).blk t).view.emb j) a).val = (![t.val / 144, t.val / 24 % 2 * 24 + t.val % 24, t.val / 48 % 3, 0] : Fin 4 → ℕ) a * S1x8x128x128.size a + (j a).val := by
  have e := congrFun (idx11_at t) a
  rw [← e]
  show win0_11.index t a * S1x8x128x128.size a + 1 * (j a).val = _
  rw [Nat.one_mul]
theorem emb12_at (t : Fin cfg0.N) (j : S1x8x128.Idx) (a : Fin 3) : ((((cfg0.win 12).blk t).view.emb j) a).val = (![t.val / 144, t.val / 24 % 2 * 24 + t.val % 24, t.val / 48 % 3] : Fin 3 → ℕ) a * S1x8x128.size a + (j a).val := by
  have e := congrFun (idx12_at t) a
  rw [← e]
  show win0_12.index t a * S1x8x128.size a + 1 * (j a).val = _
  rw [Nat.one_mul]
theorem emb13_at (t : Fin cfg0.N) (j : S1x8x96x128.Idx) (a : Fin 4) : ((((cfg0.win 13).blk t).view.emb j) a).val = (![t.val / 144, t.val / 24 % 2 * 24 + t.val % 24, 0, t.val / 48 % 3] : Fin 4 → ℕ) a * S1x8x96x128.size a + (j a).val := by
  have e := congrFun (idx13_at t) a
  rw [← e]
  show win0_13.index t a * S1x8x96x128.size a + 1 * (j a).val = _
  rw [Nat.one_mul]
theorem emb14_at (t : Fin cfg0.N) (j : S1x8x128.Idx) (a : Fin 3) : ((((cfg0.win 14).blk t).view.emb j) a).val = (![t.val / 144, t.val / 24 % 2 * 24 + t.val % 24, t.val / 48 % 3] : Fin 3 → ℕ) a * S1x8x128.size a + (j a).val := by
  have e := congrFun (idx14_at t) a
  rw [← e]
  show win0_14.index t a * S1x8x128.size a + 1 * (j a).val = _
  rw [Nat.one_mul]

/-- The block of the residual input. -/
theorem iblk0_at (c : Dev nD) (t : Fin cfg0.N) (b : Fin 2) (hb : b.val = t.val / 144) (i j : Fin 384) (r : Fin 8) (l : Fin 128)
    (hi : i.val = t.val / 24 % 2 * 192 + t.val % 24 * 8 + r.val) (hj : j.val = t.val / 48 % 3 * 128 + l.val) (d : Fin 128) :
    iblk m c 0 t (ix4 0 r l d) = (args m c).z b i j d := by
  have e : ((cfg0.win 0).blk t).view.emb (ix4 0 r l d : S1x8x128x128.Idx) = ix4 b i j d := by
    funext a
    refine Fin.ext ?_
    rw [emb0_at]
    match a with
    | ⟨0, _⟩ => show t.val / 144 * 1 + 0 = b.val; omega
    | ⟨1, _⟩ => show (t.val / 24 % 2 * 24 + t.val % 24) * 8 + r.val = i.val; omega
    | ⟨2, _⟩ => show t.val / 48 % 3 * 128 + l.val = j.val; omega
    | ⟨3, _⟩ => show 0 * 128 + d.val = d.val; omega
  show V m c main_arg0 (((cfg0.win 0).blk t).view.emb (ix4 0 r l d : S1x8x128x128.Idx)) = _
  rw [e]
  rw [V_main_arg0]; rfl

/-- The block of the first codes. -/
theorem iblk1_at (c : Dev nD) (t : Fin cfg0.N) (b : Fin 2) (hb : b.val = t.val / 144) (i j : Fin 384) (r : Fin 8) (l : Fin 128)
    (hi : i.val = t.val / 24 % 2 * 192 + t.val % 24 * 8 + r.val) (hj : j.val = t.val / 48 % 3 * 128 + l.val) (d : Fin 128) :
    iblk m c 1 t (ix4 0 r l d) = (args m c).q1 b i j d := by
  have e : ((cfg0.win 1).blk t).view.emb (ix4 0 r l d : S1x8x128x128.Idx) = ix4 b i j d := by
    funext a
    refine Fin.ext ?_
    rw [emb1_at]
    match a with
    | ⟨0, _⟩ => show t.val / 144 * 1 + 0 = b.val; omega
    | ⟨1, _⟩ => show (t.val / 24 % 2 * 24 + t.val % 24) * 8 + r.val = i.val; omega
    | ⟨2, _⟩ => show t.val / 48 % 3 * 128 + l.val = j.val; omega
    | ⟨3, _⟩ => show 0 * 128 + d.val = d.val; omega
  show V m c main_arg2 (((cfg0.win 1).blk t).view.emb (ix4 0 r l d : S1x8x128x128.Idx)) = _
  rw [e]
  rw [V_main_arg2]; rfl

/-- The block of the first scales. -/
theorem iblk2_at (c : Dev nD) (t : Fin cfg0.N) (b : Fin 2) (hb : b.val = t.val / 144) (i j : Fin 384) (r : Fin 8) (l : Fin 128)
    (hi : i.val = t.val / 24 % 2 * 192 + t.val % 24 * 8 + r.val) (hj : j.val = t.val / 48 % 3 * 128 + l.val) :
    iblk m c 2 t (ix3 0 r l) = (args m c).s1 b i j := by
  have e : ((cfg0.win 2).blk t).view.emb (ix3 0 r l : S1x8x128.Idx) = ix3 b i j := by
    funext a
    refine Fin.ext ?_
    rw [emb2_at]
    match a with
    | ⟨0, _⟩ => show t.val / 144 * 1 + 0 = b.val; omega
    | ⟨1, _⟩ => show (t.val / 24 % 2 * 24 + t.val % 24) * 8 + r.val = i.val; omega
    | ⟨2, _⟩ => show t.val / 48 % 3 * 128 + l.val = j.val; omega
  show V m c main_arg3 (((cfg0.win 2).blk t).view.emb (ix3 0 r l : S1x8x128.Idx)) = _
  rw [e]
  rw [V_main_arg3]; rfl

/-- The scales of `a` of the point's batch. -/
theorem iblk3_at (c : Dev nD) (t : Fin cfg0.N) (b : Fin 2) (hb : b.val = t.val / 144) (ch : Fin 96) (j : Fin 384) :
    iblk m c 3 t (ix3 0 ch j) = Spec.present (args m c) b j * (args m c).sa b j ch := by
  have e : ((cfg0.win 3).blk t).view.emb (ix3 0 ch j : S1x96x384.Idx) = ix3 b ch j := by
    funext a
    refine Fin.ext ?_
    rw [emb3_at]
    match a with
    | ⟨0, _⟩ => show t.val / 144 * 1 + 0 = b.val; omega
    | ⟨1, _⟩ => show 0 * 96 + ch.val = ch.val; omega
    | ⟨2, _⟩ => show 0 * 384 + j.val = j.val; omega
  show V m c main_v47 (((cfg0.win 3).blk t).view.emb (ix3 0 ch j : S1x96x384.Idx)) = _
  rw [e]
  exact scale_a m c b ch j

/-- The scales of `b` of the point's batch. -/
theorem iblk4_at (c : Dev nD) (t : Fin cfg0.N) (b : Fin 2) (hb : b.val = t.val / 144) (ch : Fin 96) (j : Fin 384) :
    iblk m c 4 t (ix3 0 ch j) = Spec.present (args m c) b j * (args m c).sb b j ch := by
  have e : ((cfg0.win 4).blk t).view.emb (ix3 0 ch j : S1x96x384.Idx) = ix3 b ch j := by
    funext a
    refine Fin.ext ?_
    rw [emb4_at]
    match a with
    | ⟨0, _⟩ => show t.val / 144 * 1 + 0 = b.val; omega
    | ⟨1, _⟩ => show 0 * 96 + ch.val = ch.val; omega
    | ⟨2, _⟩ => show 0 * 384 + j.val = j.val; omega
  show V m c main_v50 (((cfg0.win 4).blk t).view.emb (ix3 0 ch j : S1x96x384.Idx)) = _
  rw [e]
  exact scale_b m c b ch j

/-- The column `gamma`. -/
theorem iblk5_at (c : Dev nD) (t : Fin cfg0.N) (d : Fin 96) :
    iblk m c 5 t (ix2 d 0) = (args m c).gamma d := by
  have e : ((cfg0.win 5).blk t).view.emb (ix2 d 0 : S96x1.Idx) = ix2 d 0 := by
    funext a
    refine Fin.ext ?_
    rw [emb5_at]
    match a with
    | ⟨0, _⟩ => show 0 * 96 + d.val = d.val; omega
    | ⟨1, _⟩ => show 0 * 1 + 0 = 0; omega
  show V m c main_v51 (((cfg0.win 5).blk t).view.emb (ix2 d 0 : S96x1.Idx)) = _
  rw [e]
  exact gamma_at m c d

/-- The column `beta`. -/
theorem iblk6_at (c : Dev nD) (t : Fin cfg0.N) (d : Fin 96) :
    iblk m c 6 t (ix2 d 0) = (args m c).beta d := by
  have e : ((cfg0.win 6).blk t).view.emb (ix2 d 0 : S96x1.Idx) = ix2 d 0 := by
    funext a
    refine Fin.ext ?_
    rw [emb6_at]
    match a with
    | ⟨0, _⟩ => show 0 * 96 + d.val = d.val; omega
    | ⟨1, _⟩ => show 0 * 1 + 0 = 0; omega
  show V m c main_v52 (((cfg0.win 6).blk t).view.emb (ix2 d 0 : S96x1.Idx)) = _
  rw [e]
  exact beta_at m c d

/-- The column `sOut`. -/
theorem iblk9_at (c : Dev nD) (t : Fin cfg0.N) (d : Fin 128) :
    iblk m c 9 t (ix2 d 0) = (args m c).sOut d := by
  have e : ((cfg0.win 9).blk t).view.emb (ix2 d 0 : S128x1.Idx) = ix2 d 0 := by
    funext a
    refine Fin.ext ?_
    rw [emb9_at]
    match a with
    | ⟨0, _⟩ => show 0 * 128 + d.val = d.val; omega
    | ⟨1, _⟩ => show 0 * 1 + 0 = 0; omega
  show V m c main_v55 (((cfg0.win 9).blk t).view.emb (ix2 d 0 : S128x1.Idx)) = _
  rw [e]
  exact sOut_at m c d

/-- The scales of the gate's weights. -/
theorem iblk10_at (c : Dev nD) (t : Fin cfg0.N) (d : Fin 128) :
    iblk m c 10 t (ix2 d 0) = (args m c).sIn ⟨384 + d, by omega⟩ := by
  have e : ((cfg0.win 10).blk t).view.emb (ix2 d 0 : S128x1.Idx) = ix2 d 0 := by
    funext a
    refine Fin.ext ?_
    rw [emb10_at]
    match a with
    | ⟨0, _⟩ => show 0 * 128 + d.val = d.val; omega
    | ⟨1, _⟩ => show 0 * 1 + 0 = 0; omega
  show V m c main_v57 (((cfg0.win 10).blk t).view.emb (ix2 d 0 : S128x1.Idx)) = _
  rw [e]
  exact sIn_at m c d

/-- The output weights. -/
theorem iblk7_at (c : Dev nD) (t : Fin cfg0.N) (d : Fin 128) (ch : Fin 96) :
    iblk m c 7 t (ix2 d ch) = (args m c).wOut ch d := by
  have e : ((cfg0.win 7).blk t).view.emb (ix2 d ch : S128x96.Idx) = ix2 d ch := by
    funext a
    refine Fin.ext ?_
    rw [emb7_at]
    match a with
    | ⟨0, _⟩ => show 0 * 128 + d.val = d.val; omega
    | ⟨1, _⟩ => show 0 * 96 + ch.val = ch.val; omega
  show V m c main_v53 (((cfg0.win 7).blk t).view.emb (ix2 d ch : S128x96.Idx)) = _
  rw [e]
  exact wOut_at m c d ch

/-- The gate's weights. -/
theorem iblk8_at (c : Dev nD) (t : Fin cfg0.N) (d e : Fin 128) :
    iblk m c 8 t (ix2 d e) = (args m c).wIn e ⟨384 + d, by omega⟩ := by
  have e' : ((cfg0.win 8).blk t).view.emb (ix2 d e : S128x128.Idx) = ix2 d e := by
    funext a
    refine Fin.ext ?_
    rw [emb8_at]
    match a with
    | ⟨0, _⟩ => show 0 * 128 + d.val = d.val; omega
    | ⟨1, _⟩ => show 0 * 128 + e.val = e.val; omega
  show V m c main_v54 (((cfg0.win 8).blk t).view.emb (ix2 d e : S128x128.Idx)) = _
  rw [e']
  exact wIn_at m c d e

end Cert.KernelIdeal.Hand
end
-- ==== Proof.KernelIdeal.Value.lean ====
module

public import proofs.«01_k».proof.Proof.KernelIdeal.Row
public import proofs.«01_k».proof.Proof.KernelIdeal.Blocks
public import Idealize.ShloMosaic.Lib.Pipeline.ValueKit.Basic

@[expose] public section

set_option maxRecDepth 16384

/-! # What each point leaves in the result windows, at an index -/

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

theorem off9_at : ∀ t : Fin cfg0.N, k0_off9 (grid0.coords t) = ![0, 0, (t.val / 24 % 2 * 192 + t.val % 24 * 8) / 128 * 128] := by decide +kernel
theorem off11_at : ∀ t : Fin cfg0.N, k0_off11 (grid0.coords t) = ![0, 0, t.val / 48 % 3 * 128] := by decide +kernel

/-- The lane gathered by trip `k` of point `t` is the row's number less the offset of its 128 rows. -/
theorem lane_at : ∀ (t : Fin cfg0.N) (k : Fin k0_t2_loop.trips), (lane (w12 (grid0.coords t)) (w31 (grid0.coords t)) 0#32 k.val).val
    = (t.val / 24 % 2 * 192 + t.val % 24 * 8) % 128 + k.val := by decide +kernel

/-- A row of a position block. -/
theorem ld4_at (k : Fin k0_t2_loop.trips) {e : EltTy} (x : Vec Ideal S1x8x128x128 e) (l d : Fin 128) (r : Fin 8) (hr : r.val = k.val) :
    View.ld x (Rect.unit (s := S1x8x128x128) (k0_off14 k) S1x1x128x128.size (k0_off14_inb k)) (ix4 0 0 l d) = x (ix4 0 r l d) := by
  refine ld_at x _ _ _ _ _ fun a => ?_
  rw [off14_at]
  match a with
  | ⟨0, _⟩ => rfl
  | ⟨1, _⟩ => exact hr
  | ⟨2, _⟩ => exact (Nat.zero_add _).symm
  | ⟨3, _⟩ => exact (Nat.zero_add _).symm

/-- A row of a scale block. -/
theorem ld3_at (k : Fin k0_t2_loop.trips) {e : EltTy} (x : Vec Ideal S1x8x128 e) (l : Fin 128) (r : Fin 8) (hr : r.val = k.val) :
    View.ld x (Rect.unit (s := S1x8x128) (k0_off12 k) S1x1x128.size (k0_off12_inb k)) (ix3 0 0 l) = x (ix3 0 r l) := by
  refine ld_at x _ _ _ _ _ fun a => ?_
  rw [off12_at]
  match a with
  | ⟨0, _⟩ => rfl
  | ⟨1, _⟩ => exact hr
  | ⟨2, _⟩ => exact (Nat.zero_add _).symm

section
variable (c : Dev nD) (t : Fin cfg0.N) (b : Fin 2) (hb : b.val = t.val / 144) (i j : Fin 384) (k : Fin k0_t2_loop.trips) (l : Fin 128)
  (hi : i.val = t.val / 24 % 2 * 192 + t.val % 24 * 8 + k.val) (hj : j.val = t.val / 48 % 3 * 128 + l.val)

include hb hi in
/-- The scales of `a` that the gather reads. -/
theorem scales_a (ch : Fin 96) (x : Vec Ideal S1x96x384 .f32) (hx : x = iblk m c 3 t) :
    View.ld x (Rect.unit (s := S1x96x384) (k0_off9 (grid0.coords t)) S1x96x128.size (k0_off9_inb (grid0.coords t)))
      (ix3 0 ch (lane (w12 (grid0.coords t)) (w31 (grid0.coords t)) 0#32 k.val)) = Spec.present (args m c) b i * (args m c).sa b i ch := by
  refine (ld_at x _ _ _ _ (ix3 0 ch i) fun a => ?_).trans ?_
  · rw [off9_at]
    match a with
    | ⟨0, _⟩ => rfl
    | ⟨1, _⟩ => exact (Nat.zero_add _).symm
    | ⟨2, _⟩ =>
      show i.val = (t.val / 24 % 2 * 192 + t.val % 24 * 8) / 128 * 128 + (lane _ _ _ _).val
      rw [lane_at, hi]; omega
  · rw [hx]; exact iblk3_at m c t b hb ch i

include hb hj in
/-- The scales of `b` of the point's columns. -/
theorem scales_b (ch : Fin 96) (x : Vec Ideal S1x96x384 .f32) (hx : x = iblk m c 4 t) :
    View.ld x (Rect.unit (s := S1x96x384) (k0_off11 (grid0.coords t)) S1x96x128.size (k0_off11_inb (grid0.coords t)))
      (ix3 0 ch l) = Spec.present (args m c) b j * (args m c).sb b j ch := by
  refine (ld_at x _ _ _ _ (ix3 0 ch j) fun a => ?_).trans ?_
  · rw [off11_at]
    match a with
    | ⟨0, _⟩ => rfl
    | ⟨1, _⟩ => exact (Nat.zero_add _).symm
    | ⟨2, _⟩ => exact hj
  · rw [hx]; exact iblk4_at m c t b hb ch j

include hb hi hj in
/-- The channels that trip `k` normalises are the scaled triangle product. -/
theorem row_eq (x9 x10 : Vec Ideal S1x96x384 .f32) (h9 : x9 = iblk m c 3 t) (h10 : x10 = iblk m c 4 t)
    (v53 : Vec Ideal S96x128 .f32) (h53 : v53 = X53 m c t k) :
    row (w12 (grid0.coords t)) (w31 (grid0.coords t)) 0#32 k
      (View.ld x9 (Rect.unit (s := S1x96x384) (k0_off9 (grid0.coords t)) S1x96x128.size (k0_off9_inb (grid0.coords t)))) v53
      (View.ld x10 (Rect.unit (s := S1x96x384) (k0_off11 (grid0.coords t)) S1x96x128.size (k0_off11_inb (grid0.coords t)))) l
      = Spec.tri (args m c) b i j := by
  funext ch
  unfold row Spec.tri
  rw [scales_a m c t b hb i k hi ch x9 h9, scales_b m c t b hb j l hj ch x10 h10, h53, X53_at m c t k ch l b hb i j hi hj,
    mul_assoc, mul_comm]

variable (x9 x10 : Vec Ideal S1x96x384 .f32) (h9 : x9 = iblk m c 3 t) (h10 : x10 = iblk m c 4 t)
  (x53 : Fin k0_t2_loop.trips → Vec Ideal S96x128 .f32) (h53 : x53 k = X53 m c t k)

include hb hi hj h9 h10 h53

/-- The deviation that trip `k` computes. -/
theorem Pstd_at : Pstd (grid0.coords t) (w12 (grid0.coords t)) (w31 (grid0.coords t)) 0#32 x9 x10 x53 k (ix2 0 l)
    = Spec.outStd (args m c) b i j := by
  unfold Pstd Spec.outStd
  rw [pay4_at, row_eq m c t b hb i j k l hi hj x9 x10 h9 h10 _ h53]

/-- The centred channels over their deviation. -/
theorem Pnorm_at (ch : Fin 96) : Pnorm (grid0.coords t) (w12 (grid0.coords t)) (w31 (grid0.coords t)) 0#32 x9 x10 x53 k (ix2 ch l)
    = Ideal.div (Spec.cen (Spec.tri (args m c) b i j) ch) (Spec.std (Spec.tri (args m c) b i j)) := by
  unfold Pnorm
  rw [pay5_at, row_eq m c t b hb i j k l hi hj x9 x10 h9 h10 _ h53]

/-- The deviations that trip `k` stores. -/
theorem P18_at : P18 (grid0.coords t) (w12 (grid0.coords t)) (w31 (grid0.coords t)) 0#32 x9 x10 x53 k (ix3 0 0 l)
    = Spec.outStd (args m c) b i j := by
  unfold P18
  rw [pay9_at, Pstd_at m c t b hb i j k l hi hj x9 x10 h9 h10 x53 h53]

variable (x11 x12 : Vec Ideal S96x1 .f32) (h11 : x11 = iblk m c 5 t) (h12 : x12 = iblk m c 6 t)

include h11 h12

/-- The channels after the norm. -/
theorem aff_eq : aff (Pnorm (grid0.coords t) (w12 (grid0.coords t)) (w31 (grid0.coords t)) 0#32 x9 x10 x53 k)
    (View.ld x11 (Rect.unit (s := S96x1) ![0, 0] S96x1.size inb_S96x1_S96x1_0_0))
    (View.ld x12 (Rect.unit (s := S96x1) ![0, 0] S96x1.size inb_S96x1_S96x1_0_0)) l = Spec.normed (args m c) b i j := by
  rw [View.ld_unit_lit _ _ (by decide), View.ld_unit_lit _ _ (by decide)]
  funext ch
  unfold aff Spec.normed Spec.norm
  rw [Pnorm_at m c t b hb i j k l hi hj x9 x10 h9 h10 x53 h53, h11, h12, iblk5_at, iblk6_at]

/-- The codes that trip `k` stores. -/
theorem P19_at (ch : Fin 96) : P19 (grid0.coords t) (w12 (grid0.coords t)) (w31 (grid0.coords t)) 0#32 x9 x10 x53 x11 x12 k (ix4 0 0 ch l)
    = Spec.outCode (args m c) b i ch j := by
  unfold P19 Spec.outCode
  rw [pay11_at, aff_eq m c t b hb i j k l hi hj x9 x10 h9 h10 x53 h53 x11 x12 h11 h12]

/-- The scales that trip `k` stores. -/
theorem P20_at : P20 (grid0.coords t) (w12 (grid0.coords t)) (w31 (grid0.coords t)) 0#32 x9 x10 x53 x11 x12 k (ix3 0 0 l)
    = Spec.outScale (args m c) b i j := by
  unfold P20 Spec.outScale
  rw [pay10_at, aff_eq m c t b hb i j k l hi hj x9 x10 h9 h10 x53 h53 x11 x12 h11 h12]

variable (x13 : Vec Ideal S128x96 .fp8e4m3) (x15 : Vec Ideal S128x1 .f32) (x14 : Vec Ideal S128x128 .fp8e4m3)
  (x7 : Vec Ideal S1x8x128x128 .fp8e4m3) (x8 : Vec Ideal S1x8x128 .f32) (x16 : Vec Ideal S128x1 .f32) (x6 : Vec Ideal S1x8x128x128 .bf16)
  (h13 : x13 = iblk m c 7 t) (h15 : x15 = iblk m c 9 t) (h14 : x14 = iblk m c 8 t) (h7 : x7 = iblk m c 1 t) (h8 : x8 = iblk m c 2 t)
  (h16 : x16 = iblk m c 10 t) (h6 : x6 = iblk m c 0 t)

include h13 h15 h14 h7 h8 h16 h6 in
/-- The result that trip `k` stores. -/
theorem P17_at (d : Fin 128) : P17 (grid0.coords t) (w12 (grid0.coords t)) (w31 (grid0.coords t)) 0#32 x9 x10 x53 x11 x12 x13 x15 x14 x7 x8 x16 x6 k
    (ix4 0 0 l d) = Spec.out (args m c) b i j d := by
  have hk := trips2_le k
  have s1 : (∑ e, View.ld x7 (Rect.unit (s := S1x8x128x128) (k0_off14 k) S1x1x128x128.size (k0_off14_inb k)) (ix4 0 0 l e) * x14 (ix2 d e))
      = ∑ e, (args m c).q1 b i j e * (args m c).wIn e ⟨384 + d, by omega⟩ := Finset.sum_congr rfl fun e _ => by
    rw [ld4_at k x7 l e ⟨k.val, hk⟩ rfl, h7, h14, iblk1_at m c t b hb i j ⟨k.val, hk⟩ l hi hj, iblk8_at]
  have s2 : (∑ ch, k0_pay8 (F := Ideal) (Pnorm (grid0.coords t) (w12 (grid0.coords t)) (w31 (grid0.coords t)) 0#32 x9 x10 x53 k)
        (View.ld x11 (Rect.unit (s := S96x1) ![0, 0] S96x1.size inb_S96x1_S96x1_0_0))
        (View.ld x12 (Rect.unit (s := S96x1) ![0, 0] S96x1.size inb_S96x1_S96x1_0_0)) (ix2 ch l) * x13 (ix2 d ch))
      = ∑ ch, Spec.code (Spec.normed (args m c) b i j) ch * (args m c).wOut ch d := Finset.sum_congr rfl fun ch _ => by
    rw [pay8_at, aff_eq m c t b hb i j k l hi hj x9 x10 h9 h10 x53 h53 x11 x12 h11 h12, h13, iblk7_at]
  unfold P17
  rw [pay1_at, pay7_at, aff_eq m c t b hb i j k l hi hj x9 x10 h9 h10 x53 h53 x11 x12 h11 h12,
    View.ld_unit_lit _ x13 (by decide), View.ld_unit_lit _ x15 (by decide), View.ld_unit_lit _ x14 (by decide),
    View.ld_unit_lit _ x16 (by decide), s1, s2, ld4_at k x6 l d ⟨k.val, hk⟩ rfl, ld3_at k x8 l ⟨k.val, hk⟩ rfl, h15, h8, h16, h6,
    iblk0_at m c t b hb i j ⟨k.val, hk⟩ l hi hj, iblk2_at m c t b hb i j ⟨k.val, hk⟩ l hi hj, iblk9_at, iblk10_at]
  rfl

end

end Cert.KernelIdeal.Hand
end
-- ==== Proof.KernelIdeal.Arrays.lean ====
module

public import proofs.«01_k».proof.Proof.KernelIdeal.Value
public import Idealize.ShloMosaic.Lib.Pipeline.Value

@[expose] public section

set_option maxRecDepth 16384

/-! # The result arrays after the run -/

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- The grid point that computes row `i` and column `j` of batch `b`. -/
def ptOf (b i j : ℕ) : Fin cfg0.N := gp (((b * 3 + j / 128) * 2 + i / 192) * 24 + i % 192 / 8)

theorem ptOf_val (b : Fin 2) (i j : Fin 384) : (ptOf b.val i.val j.val).val = ((b.val * 3 + j.val / 128) * 2 + i.val / 192) * 24 + i.val % 192 / 8 :=
  Nat.mod_eq_of_lt (lt_of_lt_of_eq (by omega : _ < 288) N_eq.symm)

/-! ## Result `z_out` -/

/-- The specification's `z_out` as an array. -/
def R11 (c : Dev nD) : Vec Ideal S2x384x384x128 .bf16 := fun y => Spec.out (args m c) (y 0) (y 1) (y 2) (y 3)

theorem flush11_at : ∀ t : Fin cfg0.N, (cfg0.win 11).flush t = true := by decide +kernel

/-- What point `t` writes back is its block of the specification's array. -/
theorem flushed11_eq (c : Dev nD) (t : Fin cfg0.N) :
    (dats m 0 c).flushed 11 t = ((cfg0.win 11).blk t).view.read (Elt Ideal) (R11 m c) := by
  show (cfg0.win 11).cut (grid0.coords t) ((dats m 0 c).after 11 t) = _
  rw [after_11]
  funext y
  change S1x8x128x128.Idx at y
  show outAt17 m c t y = R11 m c (((cfg0.win 11).blk t).view.emb y)
  obtain ⟨E, hE⟩ : ∃ E : S2x384x384x128.Idx, E = (((cfg0.win 11).blk t).view.emb y) := ⟨_, rfl⟩
  have h0 : (E 0).val = t.val / 144 * 1 + (y 0).val := by rw [hE]; exact emb11_at t y 0
  have h1 : (E 1).val = (t.val / 24 % 2 * 24 + t.val % 24) * 8 + (y 1).val := by rw [hE]; exact emb11_at t y 1
  have h2 : (E 2).val = t.val / 48 % 3 * 128 + (y 2).val := by rw [hE]; exact emb11_at t y 2
  have h3 : E 3 = y 3 := Fin.ext (by rw [hE]; exact (emb11_at t y 3).trans (by show 0 * 128 + (y 3).val = _; omega))
  have hy : (y 0).val = 0 := Nat.lt_one_iff.mp (y 0).isLt
  rw [← hE]
  have hb : (E 0).val = t.val / 144 := by omega
  have hi : (E 1).val = t.val / 24 % 2 * 192 + t.val % 24 * 8 + (y 1).val := by omega
  have hj : (E 2).val = t.val / 48 % 3 * 128 + (y 2).val := h2
  unfold R11
  rw [h3]
  exact P17_at m c t (E 0) hb (E 1) (E 2) ⟨(y 1).val, lt_of_lt_of_eq (y 1).isLt trips2_eq.symm⟩ (y 2) hi hj (iblk m c 3 t) (iblk m c 4 t) rfl rfl (X53 m c t) rfl (iblk m c 5 t) (iblk m c 6 t) rfl rfl (iblk m c 7 t) (iblk m c 9 t) (iblk m c 8 t) (iblk m c 1 t) (iblk m c 2 t) (iblk m c 10 t) (iblk m c 0 t) rfl rfl rfl rfl rfl rfl rfl (y 3)

/-- Every index of the array is in some point's block. -/
theorem covered11 (x : S2x384x384x128.Idx) : ∃ t : Fin cfg0.N, (cfg0.win 11).flush t = true ∧ x ∈ ((cfg0.win 11).blk t).view.set := by
  have hx0 : (x 0).val < 2 := (x 0).isLt
  have hx1 : (x 1).val < 384 := (x 1).isLt
  have hx2 : (x 2).val < 384 := (x 2).isLt
  have ht := ptOf_val (x 0) (x 1) (x 2)
  generalize ptOf (x 0).val (x 1).val (x 2).val = t at ht
  refine ⟨t, flush11_at _, ?_⟩
  have h := ((cfg0.win 11).blk t).view.emb_mem_set (ix4 0 ⟨(x 1).val % 8, by omega⟩ ⟨(x 2).val % 128, by omega⟩ (x 3) : S1x8x128x128.Idx)
  have e : ((cfg0.win 11).blk t).view.emb (ix4 0 ⟨(x 1).val % 8, by omega⟩ ⟨(x 2).val % 128, by omega⟩ (x 3) : S1x8x128x128.Idx) = x := by
    funext a
    refine Fin.ext ?_
    rw [emb11_at]
    match a with
    | ⟨0, _⟩ => show t.val / 144 * 1 + 0 = (x 0).val; omega
    | ⟨1, _⟩ => show (t.val / 24 % 2 * 24 + t.val % 24) * 8 + (x 1).val % 8 = (x 1).val; omega
    | ⟨2, _⟩ => show t.val / 48 % 3 * 128 + (x 2).val % 128 = (x 2).val; omega
    | ⟨3, _⟩ => show 0 * 128 + (x 3).val = (x 3).val; omega
  rwa [e] at h

/-- The array after the run is the specification's. -/
theorem final11 (c : Dev nD) : (dats m 0 c).arrAt 11 cfg0.N = R11 m c :=
  (dats m 0 c).arrAt_eq_of_cover 11 (R11 m c) (fun t _ => flushed11_eq m c t) covered11

/-! ## Result `x_std` -/

/-- The specification's `x_std` as an array. -/
def R12 (c : Dev nD) : Vec Ideal S2x384x384 .f32 := fun y => Spec.outStd (args m c) (y 0) (y 1) (y 2)

theorem flush12_at : ∀ t : Fin cfg0.N, (cfg0.win 12).flush t = true := by decide +kernel

/-- What point `t` writes back is its block of the specification's array. -/
theorem flushed12_eq (c : Dev nD) (t : Fin cfg0.N) :
    (dats m 0 c).flushed 12 t = ((cfg0.win 12).blk t).view.read (Elt Ideal) (R12 m c) := by
  show (cfg0.win 12).cut (grid0.coords t) ((dats m 0 c).after 12 t) = _
  rw [after_12]
  funext y
  change S1x8x128.Idx at y
  show outAt18 m c t y = R12 m c (((cfg0.win 12).blk t).view.emb y)
  obtain ⟨E, hE⟩ : ∃ E : S2x384x384.Idx, E = (((cfg0.win 12).blk t).view.emb y) := ⟨_, rfl⟩
  have h0 : (E 0).val = t.val / 144 * 1 + (y 0).val := by rw [hE]; exact emb12_at t y 0
  have h1 : (E 1).val = (t.val / 24 % 2 * 24 + t.val % 24) * 8 + (y 1).val := by rw [hE]; exact emb12_at t y 1
  have h2 : (E 2).val = t.val / 48 % 3 * 128 + (y 2).val := by rw [hE]; exact emb12_at t y 2
  have hy : (y 0).val = 0 := Nat.lt_one_iff.mp (y 0).isLt
  rw [← hE]
  have hb : (E 0).val = t.val / 144 := by omega
  have hi : (E 1).val = t.val / 24 % 2 * 192 + t.val % 24 * 8 + (y 1).val := by omega
  have hj : (E 2).val = t.val / 48 % 3 * 128 + (y 2).val := h2
  unfold R12
  exact P18_at m c t (E 0) hb (E 1) (E 2) ⟨(y 1).val, lt_of_lt_of_eq (y 1).isLt trips2_eq.symm⟩ (y 2) hi hj (iblk m c 3 t) (iblk m c 4 t) rfl rfl (X53 m c t) rfl

/-- Every index of the array is in some point's block. -/
theorem covered12 (x : S2x384x384.Idx) : ∃ t : Fin cfg0.N, (cfg0.win 12).flush t = true ∧ x ∈ ((cfg0.win 12).blk t).view.set := by
  have hx0 : (x 0).val < 2 := (x 0).isLt
  have hx1 : (x 1).val < 384 := (x 1).isLt
  have hx2 : (x 2).val < 384 := (x 2).isLt
  have ht := ptOf_val (x 0) (x 1) (x 2)
  generalize ptOf (x 0).val (x 1).val (x 2).val = t at ht
  refine ⟨t, flush12_at _, ?_⟩
  have h := ((cfg0.win 12).blk t).view.emb_mem_set (ix3 0 ⟨(x 1).val % 8, by omega⟩ ⟨(x 2).val % 128, by omega⟩ : S1x8x128.Idx)
  have e : ((cfg0.win 12).blk t).view.emb (ix3 0 ⟨(x 1).val % 8, by omega⟩ ⟨(x 2).val % 128, by omega⟩ : S1x8x128.Idx) = x := by
    funext a
    refine Fin.ext ?_
    rw [emb12_at]
    match a with
    | ⟨0, _⟩ => show t.val / 144 * 1 + 0 = (x 0).val; omega
    | ⟨1, _⟩ => show (t.val / 24 % 2 * 24 + t.val % 24) * 8 + (x 1).val % 8 = (x 1).val; omega
    | ⟨2, _⟩ => show t.val / 48 % 3 * 128 + (x 2).val % 128 = (x 2).val; omega
  rwa [e] at h

/-- The array after the run is the specification's. -/
theorem final12 (c : Dev nD) : (dats m 0 c).arrAt 12 cfg0.N = R12 m c :=
  (dats m 0 c).arrAt_eq_of_cover 12 (R12 m c) (fun t _ => flushed12_eq m c t) covered12

/-! ## Result `q2`, channels before positions -/

/-- The specification's `q2`, channels before positions as an array. -/
def R13 (c : Dev nD) : Vec Ideal S2x384x96x384 .fp8e4m3 := fun y => Spec.outCode (args m c) (y 0) (y 1) (y 2) (y 3)

theorem flush13_at : ∀ t : Fin cfg0.N, (cfg0.win 13).flush t = true := by decide +kernel

/-- What point `t` writes back is its block of the specification's array. -/
theorem flushed13_eq (c : Dev nD) (t : Fin cfg0.N) :
    (dats m 0 c).flushed 13 t = ((cfg0.win 13).blk t).view.read (Elt Ideal) (R13 m c) := by
  show (cfg0.win 13).cut (grid0.coords t) ((dats m 0 c).after 13 t) = _
  rw [after_13]
  funext y
  change S1x8x96x128.Idx at y
  show outAt19 m c t y = R13 m c (((cfg0.win 13).blk t).view.emb y)
  obtain ⟨E, hE⟩ : ∃ E : S2x384x96x384.Idx, E = (((cfg0.win 13).blk t).view.emb y) := ⟨_, rfl⟩
  have h0 : (E 0).val = t.val / 144 * 1 + (y 0).val := by rw [hE]; exact emb13_at t y 0
  have h1 : (E 1).val = (t.val / 24 % 2 * 24 + t.val % 24) * 8 + (y 1).val := by rw [hE]; exact emb13_at t y 1
  have h2 : (E 3).val = t.val / 48 % 3 * 128 + (y 3).val := by rw [hE]; exact emb13_at t y 3
  have h3 : E 2 = y 2 := Fin.ext (by rw [hE]; exact (emb13_at t y 2).trans (by show 0 * 96 + (y 2).val = _; omega))
  have hy : (y 0).val = 0 := Nat.lt_one_iff.mp (y 0).isLt
  rw [← hE]
  have hb : (E 0).val = t.val / 144 := by omega
  have hi : (E 1).val = t.val / 24 % 2 * 192 + t.val % 24 * 8 + (y 1).val := by omega
  have hj : (E 3).val = t.val / 48 % 3 * 128 + (y 3).val := h2
  unfold R13
  rw [h3]
  exact P19_at m c t (E 0) hb (E 1) (E 3) ⟨(y 1).val, lt_of_lt_of_eq (y 1).isLt trips2_eq.symm⟩ (y 3) hi hj (iblk m c 3 t) (iblk m c 4 t) rfl rfl (X53 m c t) rfl (iblk m c 5 t) (iblk m c 6 t) rfl rfl (y 2)

/-- Every index of the array is in some point's block. -/
theorem covered13 (x : S2x384x96x384.Idx) : ∃ t : Fin cfg0.N, (cfg0.win 13).flush t = true ∧ x ∈ ((cfg0.win 13).blk t).view.set := by
  have hx0 : (x 0).val < 2 := (x 0).isLt
  have hx1 : (x 1).val < 384 := (x 1).isLt
  have hx3 : (x 3).val < 384 := (x 3).isLt
  have ht := ptOf_val (x 0) (x 1) (x 3)
  generalize ptOf (x 0).val (x 1).val (x 3).val = t at ht
  refine ⟨t, flush13_at _, ?_⟩
  have h := ((cfg0.win 13).blk t).view.emb_mem_set (ix4 0 ⟨(x 1).val % 8, by omega⟩ (x 2) ⟨(x 3).val % 128, by omega⟩ : S1x8x96x128.Idx)
  have e : ((cfg0.win 13).blk t).view.emb (ix4 0 ⟨(x 1).val % 8, by omega⟩ (x 2) ⟨(x 3).val % 128, by omega⟩ : S1x8x96x128.Idx) = x := by
    funext a
    refine Fin.ext ?_
    rw [emb13_at]
    match a with
    | ⟨0, _⟩ => show t.val / 144 * 1 + 0 = (x 0).val; omega
    | ⟨1, _⟩ => show (t.val / 24 % 2 * 24 + t.val % 24) * 8 + (x 1).val % 8 = (x 1).val; omega
    | ⟨2, _⟩ => show 0 * 96 + (x 2).val = (x 2).val; omega
    | ⟨3, _⟩ => show t.val / 48 % 3 * 128 + (x 3).val % 128 = (x 3).val; omega
  rwa [e] at h

/-- The array after the run is the specification's. -/
theorem final13 (c : Dev nD) : (dats m 0 c).arrAt 13 cfg0.N = R13 m c :=
  (dats m 0 c).arrAt_eq_of_cover 13 (R13 m c) (fun t _ => flushed13_eq m c t) covered13

/-! ## Result `s2` -/

/-- The specification's `s2` as an array. -/
def R14 (c : Dev nD) : Vec Ideal S2x384x384 .f32 := fun y => Spec.outScale (args m c) (y 0) (y 1) (y 2)

theorem flush14_at : ∀ t : Fin cfg0.N, (cfg0.win 14).flush t = true := by decide +kernel

/-- What point `t` writes back is its block of the specification's array. -/
theorem flushed14_eq (c : Dev nD) (t : Fin cfg0.N) :
    (dats m 0 c).flushed 14 t = ((cfg0.win 14).blk t).view.read (Elt Ideal) (R14 m c) := by
  show (cfg0.win 14).cut (grid0.coords t) ((dats m 0 c).after 14 t) = _
  rw [after_14]
  funext y
  change S1x8x128.Idx at y
  show outAt20 m c t y = R14 m c (((cfg0.win 14).blk t).view.emb y)
  obtain ⟨E, hE⟩ : ∃ E : S2x384x384.Idx, E = (((cfg0.win 14).blk t).view.emb y) := ⟨_, rfl⟩
  have h0 : (E 0).val = t.val / 144 * 1 + (y 0).val := by rw [hE]; exact emb14_at t y 0
  have h1 : (E 1).val = (t.val / 24 % 2 * 24 + t.val % 24) * 8 + (y 1).val := by rw [hE]; exact emb14_at t y 1
  have h2 : (E 2).val = t.val / 48 % 3 * 128 + (y 2).val := by rw [hE]; exact emb14_at t y 2
  have hy : (y 0).val = 0 := Nat.lt_one_iff.mp (y 0).isLt
  rw [← hE]
  have hb : (E 0).val = t.val / 144 := by omega
  have hi : (E 1).val = t.val / 24 % 2 * 192 + t.val % 24 * 8 + (y 1).val := by omega
  have hj : (E 2).val = t.val / 48 % 3 * 128 + (y 2).val := h2
  unfold R14
  exact P20_at m c t (E 0) hb (E 1) (E 2) ⟨(y 1).val, lt_of_lt_of_eq (y 1).isLt trips2_eq.symm⟩ (y 2) hi hj (iblk m c 3 t) (iblk m c 4 t) rfl rfl (X53 m c t) rfl (iblk m c 5 t) (iblk m c 6 t) rfl rfl

/-- Every index of the array is in some point's block. -/
theorem covered14 (x : S2x384x384.Idx) : ∃ t : Fin cfg0.N, (cfg0.win 14).flush t = true ∧ x ∈ ((cfg0.win 14).blk t).view.set := by
  have hx0 : (x 0).val < 2 := (x 0).isLt
  have hx1 : (x 1).val < 384 := (x 1).isLt
  have hx2 : (x 2).val < 384 := (x 2).isLt
  have ht := ptOf_val (x 0) (x 1) (x 2)
  generalize ptOf (x 0).val (x 1).val (x 2).val = t at ht
  refine ⟨t, flush14_at _, ?_⟩
  have h := ((cfg0.win 14).blk t).view.emb_mem_set (ix3 0 ⟨(x 1).val % 8, by omega⟩ ⟨(x 2).val % 128, by omega⟩ : S1x8x128.Idx)
  have e : ((cfg0.win 14).blk t).view.emb (ix3 0 ⟨(x 1).val % 8, by omega⟩ ⟨(x 2).val % 128, by omega⟩ : S1x8x128.Idx) = x := by
    funext a
    refine Fin.ext ?_
    rw [emb14_at]
    match a with
    | ⟨0, _⟩ => show t.val / 144 * 1 + 0 = (x 0).val; omega
    | ⟨1, _⟩ => show (t.val / 24 % 2 * 24 + t.val % 24) * 8 + (x 1).val % 8 = (x 1).val; omega
    | ⟨2, _⟩ => show t.val / 48 % 3 * 128 + (x 2).val % 128 = (x 2).val; omega
  rwa [e] at h

/-- The array after the run is the specification's. -/
theorem final14 (c : Dev nD) : (dats m 0 c).arrAt 14 cfg0.N = R14 m c :=
  (dats m 0 c).arrAt_eq_of_cover 14 (R14 m c) (fun t _ => flushed14_eq m c t) covered14

end Cert.KernelIdeal.Hand
end
-- ==== Proof.KernelIdeal.Result.lean ====
module

public import proofs.«01_k».proof.Proof.KernelIdeal.Arrays

@[expose] public section

set_option maxRecDepth 16384

/-! # The kernel's run: its results are the specification's arrays -/

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The kernel runs, its results are the specification's arrays and its arguments are unchanged. -/
theorem run_value : θ_run defs (onTc (τ := τ) (main (F := Ideal))) ⟨m, fun _ => 0, ρ⟩ fun r => ∀ c : Dev nD,
      r.2.mem ((c.tc : Thread nD τ).loc main_v58_0) = R11 m c
      ∧ r.2.mem ((c.tc : Thread nD τ).loc main_v58_1) = R12 m c
      ∧ r.2.mem ((c.tc : Thread nD τ).loc main_v58_2) = R13 m c
      ∧ r.2.mem ((c.tc : Thread nD τ).loc main_v58_3) = R14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h.1 c).1 11).trans (final11 m c), ((h.1 c).1 12).trans (final12 m c), ((h.1 c).1 13).trans (final13 m c), ((h.1 c).1 14).trans (final14 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩) (run_main m ρ)

end Cert.KernelIdeal.Hand
end
-- ==== Proof.Reference.Value.lean ====
module

public import proofs.«01_k».proof.Proof.Gen.ReferenceIdeal.Frame
public import proofs.«01_k».proof.Proof.Spec
public import Idealize.ShloMosaic.Lib.Pointwise
public import Idealize.ShloMosaic.Lib.Pipeline.ValueKit.Basic

@[expose] public section

set_option maxRecDepth 16384

/-! # What the reference's one kernel computes, at an index -/

noncomputable section

namespace Cert.ReferenceIdeal.Hand

open Cert.ReferenceIdeal Cert.ReferenceIdeal.Gen
open Idealize.ShloMosaic Idealize.ShloMosaic.TcCoe

/-- The argument arrays as the specification takes them. -/
def args (x0 : Vec Ideal S2x384x384x128 .bf16) (x1 : Vec Ideal S2x384x384 .f32) (x2 : Vec Ideal S2x384x384x128 .fp8e4m3)
    (x3 : Vec Ideal S2x384x384 .f32) (x4 : Vec Ideal S2x384x384x96 .i8) (x5 : Vec Ideal S2x384x96 .f32)
    (x6 : Vec Ideal S2x384x384x96 .i8) (x7 : Vec Ideal S2x384x96 .f32) (x8 : Vec Ideal S96 .f32) (x9 : Vec Ideal S96 .f32)
    (x10 : Vec Ideal S128x512 .fp8e4m3) (x11 : Vec Ideal S512 .f32) (x12 : Vec Ideal S96x128 .fp8e4m3)
    (x13 : Vec Ideal S128 .f32) : Spec.Args where
  z b i j d := x0 (ix4 b i j d)
  mask b i j := x1 (ix3 b i j)
  q1 b i j d := x2 (ix4 b i j d)
  s1 b i j := x3 (ix3 b i j)
  qa b i k c := x4 (ix4 b i k c)
  sa b i c := x5 (ix3 b i c)
  qb b i k c := x6 (ix4 b i k c)
  sb b i c := x7 (ix3 b i c)
  gamma c := x8 (ix1 c)
  beta c := x9 (ix1 c)
  wIn d k := x10 (ix2 d k)
  sIn k := x11 (ix1 k)
  wOut c d := x12 (ix2 c d)
  sOut d := x13 (ix1 d)

/-! ## Steps over whole arrays -/

/-- A trailing unit axis changes no element. -/
theorem castUnit_at (w : FVec Ideal S2x384x384 .f32) (b : Fin 2) (i j : Fin 384) :
    shapeCast S2x384x384x1 w shapeCasts_S2x384x384_S2x384x384x1 (ix4 b i j 0) = w (ix3 b i j) := by
  pointwise

/-- The reduction by maximum over the channels, of magnitudes. -/
theorem rowMax_at (y : FVec Ideal S2x384x384x96 .f32) (b : Fin 2) (i j : Fin 384) :
    multiReduction .maximumf [3] S2x384x384 (absf y) 0xFF800000#32 reduces_S2x384x384x96_S2x384x384 (.inl rfl) rfl (ix3 b i j)
     = Finset.fold max (Ideal.ofBits FTy.f32 4286578688#32) (fun x => FloatOps.absf (y (ix4 b i j x))) Finset.univ := by
  pointwise

/-- The choice of the scale from the largest magnitude. -/
theorem scaleSelect_at (m : FVec Ideal S2x384x384x1 .f32) (b : Fin 2) (i j : Fin 384) :
    select (cmpf .oeq m (broadcast S2x384x384x1 (FloatOps.ofBits FTy.f32 0#32))) (broadcast S2x384x384x1 (FloatOps.ofBits FTy.f32 1065353216#32))
      (divf m (broadcast S2x384x384x1 (FloatOps.ofBits FTy.f32 1138753536#32))) (ix4 b i j 0)
     = if m (ix4 b i j 0) = 0 then 1 else Ideal.div (m (ix4 b i j 0)) (Ideal.ofBits .f32 1138753536#32) := by
  pointwise

/-- Division of a row by one value for each position. -/
theorem divRow_at (y : FVec Ideal S2x384x384x96 .f32) (m : FVec Ideal S2x384x384x1 .f32) (b : Fin 2) (i j : Fin 384) (c : Fin 96) :
   divf y (broadcastTo S2x384x384x96 m broadcasts_S2x384x384x1_S2x384x384x96) (ix4 b i j c)
     = Ideal.div (y (ix4 b i j c)) (m (ix4 b i j 0)) := by
  pointwise

section
variable (x0 : Vec Ideal S2x384x384x128 .bf16) (x1 : Vec Ideal S2x384x384 .f32) (x2 : Vec Ideal S2x384x384x128 .fp8e4m3)
    (x3 : Vec Ideal S2x384x384 .f32) (x4 : Vec Ideal S2x384x384x96 .i8) (x5 : Vec Ideal S2x384x96 .f32)
    (x6 : Vec Ideal S2x384x384x96 .i8) (x7 : Vec Ideal S2x384x96 .f32) (x8 : Vec Ideal S96 .f32) (x9 : Vec Ideal S96 .f32)
    (x10 : Vec Ideal S128x512 .fp8e4m3) (x11 : Vec Ideal S512 .f32) (x12 : Vec Ideal S96x128 .fp8e4m3)
    (x13 : Vec Ideal S128 .f32)

/-- The product of the codes, batched over channels. -/
theorem pay7_at (b : Fin 2) (c : Fin 96) (i j : Fin 384) :
    k0_pay7 (F := Ideal) x4 x6 (ix4 b c i j)
      = ∑ k : Fin 384, Ideal.ofBits .fp8e4m3 (x4 (ix4 b i k c)) * Ideal.ofBits .fp8e4m3 (x6 (ix4 b j k c)) := by
  pointwise [k0_pay7]

/-- The largest mask entry of a row. -/
theorem pay8_at (b : Fin 2) (i : Fin 384) :
    k0_pay8 (F := Ideal) x1 (ix3 b i 0)
      = Finset.fold max (Ideal.ofBits .f32 4286578688#32) (fun k => x1 (ix3 b i k)) Finset.univ := by
  pointwise [k0_pay8]

theorem pay9_at (b : Fin 2) (i : Fin 384) (c : Fin 96) :
    k0_pay9 (F := Ideal) x1 (ix3 b i c) = k0_pay8 (F := Ideal) x1 (ix3 b i 0) := by
  pointwise [k0_pay9]

section
variable (v22 : FVec Ideal S2x96x384x384 .f32) (v24 : FVec Ideal S2x384x1 .f32) (v25 : FVec Ideal S2x384x96 .f32)

/-- One position's channels: the product with both scales. -/
def row (b : Fin 2) (i j : Fin 384) (c : Fin 96) : EReal :=
  v25 (ix3 b i c) * x5 (ix3 b i c) * (v24 (ix3 b j 0) * x7 (ix3 b j c)) * v22 (ix4 b c i j)

theorem pay10_at (b : Fin 2) (i j : Fin 384) (c : Fin 96) :
    k0_pay10 (F := Ideal) x5 x7 v22 v24 v25 (ix4 b i j c) = Spec.cen (row x5 x7 v22 v24 v25 b i j) c := by
  pointwise [k0_pay10]
  simp only [Spec.cen, row]

theorem pay11_at (b : Fin 2) (i j : Fin 384) :
    k0_pay11 (F := Ideal) x5 x7 v22 v24 v25 (ix4 b i j 0) = Spec.std (row x5 x7 v22 v24 v25 b i j) := by
  pointwise [k0_pay11, pay10_at]
  simp only [Spec.std]

theorem pay12_at (b : Fin 2) (i j : Fin 384) (c : Fin 96) :
    k0_pay12 (F := Ideal) x5 x7 v22 v24 v25 x8 x9 (ix4 b i j c)
      = Spec.norm (fun c => x8 (ix1 c)) (fun c => x9 (ix1 c)) (row x5 x7 v22 v24 v25 b i j) c := by
  pointwise [k0_pay12, pay10_at, pay11_at]
  simp only [Spec.norm]

theorem pay13_at (b : Fin 2) (i j : Fin 384) :
    k0_pay13 (F := Ideal) x5 x7 v22 v24 v25 (ix3 b i j) = Spec.std (row x5 x7 v22 v24 v25 b i j) := by
  pointwise [k0_pay13, pay11_at]

theorem pay14_at (b : Fin 2) (i j : Fin 384) :
    k0_pay14 (F := Ideal) x5 x7 v22 v24 v25 x8 x9 (ix4 b i j 0)
      = Spec.scale (Spec.norm (fun c => x8 (ix1 c)) (fun c => x9 (ix1 c)) (row x5 x7 v22 v24 v25 b i j)) := by
  unfold k0_pay14
  refine (scaleSelect_at _ b i j).trans ?_
  rw [castUnit_at, rowMax_at]
  simp only [pay12_at, Spec.scale, Spec.amax, FloatOps.absf]
  exact if_congr Iff.rfl rfl rfl

theorem pay15_at (b : Fin 2) (i j : Fin 384) (c : Fin 96) :
    k0_pay15 (F := Ideal) x5 x7 v22 v24 v25 x8 x9 (ix4 b i j c)
      = Ideal.div (Spec.norm (fun c => x8 (ix1 c)) (fun c => x9 (ix1 c)) (row x5 x7 v22 v24 v25 b i j) c)
          (Spec.scale (Spec.norm (fun c => x8 (ix1 c)) (fun c => x9 (ix1 c)) (row x5 x7 v22 v24 v25 b i j))) := by
  unfold k0_pay15
  refine (divRow_at _ _ b i j c).trans ?_
  rw [pay12_at, pay14_at]

end

theorem pay6_at (w : Vec Ideal S128x128 .fp8e4m3) (s : Vec Ideal S128 .f32) (b : Fin 2) (i j : Fin 384) (d : Fin 128) :
    k0_pay6 (F := Ideal) x2 w x3 s (ix4 b i j d)
      = (∑ e, x2 (ix4 b i j e) * w (ix2 e d)) * x3 (ix3 b i j) * s (ix1 d) := by
  pointwise [k0_pay6]

theorem pay5_at (b : Fin 2) (i j : Fin 384) (d : Fin 128) :
    k0_pay5 (F := Ideal) x0 (ix4 b i j d) = x0 (ix4 b i j d) := by
  pointwise [k0_pay5]

theorem pay16_at (b : Fin 2) (i j : Fin 384) (c : Fin 96) :
    k0_pay16 (F := Ideal) (ix4 b i j c) = Ideal.ofBits .f32 3286237184#32 := by
  pointwise [k0_pay16]

theorem pay1_at (v71 : FVec Ideal S2x384x384x96 .f32) (cst : Ideal .f32) (v72 : FVec Ideal S2x384x384x96 .f32)
    (b : Fin 2) (i j : Fin 384) (c : Fin 96) :
    k0_pay1 (F := Ideal) v71 cst v72 (ix4 b i j c) = min cst (max (v72 (ix4 b i j c)) (v71 (ix4 b i j c))) := by
  pointwise [k0_pay1]

theorem pay2_at (v69 : FVec Ideal S2x384x384x1 .f32) (b : Fin 2) (i j : Fin 384) :
    k0_pay2 (F := Ideal) v69 (ix3 b i j) = v69 (ix4 b i j 0) := by
  pointwise [k0_pay2]

theorem pay4_at (v71 : FVec Ideal S2x384x384x96 .f32) (cst : Ideal .f32) (v72 : FVec Ideal S2x384x384x96 .f32)
    (b : Fin 2) (i : Fin 384) (c : Fin 96) (j : Fin 384) :
    k0_pay4 (F := Ideal) v71 cst v72 (ix4 b i c j) = min cst (max (v72 (ix4 b i j c)) (v71 (ix4 b i j c))) := by
  pointwise [k0_pay4, pay1_at]

theorem pay3_at (v1 : FVec Ideal S2x384x384x128 .f32) (v19 : FVec Ideal S2x384x384x128 .f32)
    (v69 : FVec Ideal S2x384x384x1 .f32) (v71 : FVec Ideal S2x384x384x96 .f32) (cst : Ideal .f32)
    (v72 : FVec Ideal S2x384x384x96 .f32) (b : Fin 2) (i j : Fin 384) (d : Fin 128) :
    k0_pay3 (F := Ideal) v1 v19 v69 v71 cst v72 x12 x13 (ix4 b i j d)
      = v1 (ix4 b i j d) + Ideal.logistic (v19 (ix4 b i j d))
        * ((∑ c, min cst (max (v72 (ix4 b i j c)) (v71 (ix4 b i j c))) * x12 (ix2 c d)) * v69 (ix4 b i j 0) * x13 (ix1 d)) := by
  pointwise [k0_pay3, pay1_at, pay2_at]

/-! ## The loads and stores -/

theorem ld_whole0 {e : EltTy} (x : Vec Ideal S2x384x384x128 e) : View.ld x r0_0 = x := View.ld_unit_lit _ _ (by decide)
theorem ld_whole1 {e : EltTy} (x : Vec Ideal S2x384x384 e) : View.ld x r0_1 = x := View.ld_unit_lit _ _ (by decide)
theorem ld_whole2 {e : EltTy} (x : Vec Ideal S2x384x96 e) : View.ld x r0_2 = x := View.ld_unit_lit _ _ (by decide)
theorem ld_whole3 {e : EltTy} (x : Vec Ideal S2x384x384x96 e) : View.ld x r0_3 = x := View.ld_unit_lit _ _ (by decide)
theorem ld_whole6 {e : EltTy} (x : Vec Ideal S96 e) : View.ld x r0_6 = x := View.ld_unit_lit _ _ (by decide)
theorem ld_whole7 {e : EltTy} (x : Vec Ideal S96x128 e) : View.ld x r0_7 = x := View.ld_unit_lit _ _ (by decide)
theorem ld_whole8 {e : EltTy} (x : Vec Ideal S128 e) : View.ld x r0_8 = x := View.ld_unit_lit _ _ (by decide)

theorem ld_wIn (w : Vec Ideal S128x128 .fp8e4m3) (hw : w = View.ld x10 r0_4) (d e : Fin 128) :
    w (ix2 d e) = x10 (ix2 d ⟨384 + e, by omega⟩) := by
  subst hw
  exact congrArg x10 (funext fun a => by match a with
    | ⟨0, _⟩ => exact Fin.ext (by show 0 + 1 * d.val = d.val; omega)
    | ⟨1, _⟩ => exact Fin.ext (by show 384 + 1 * e.val = 384 + e.val; omega))

theorem ofBits_eq (φ : FTy) (v : BitVec φ.bits) : FloatOps.ofBits (F := Ideal) φ v = Ideal.ofBits φ v := rfl

theorem ld_sIn (w : Vec Ideal S128 .f32) (hw : w = View.ld x11 r0_5) (e : Fin 128) : w (ix1 e) = x11 (ix1 ⟨384 + e, by omega⟩) := by
  subst hw
  exact congrArg x11 (funext fun a => by match a with
    | ⟨0, _⟩ => exact Fin.ext (by show 384 + 1 * e.val = 384 + e.val; omega))

/-- The row of the product that the reference forms is the specification's. -/
theorem row_eq (b : Fin 2) (i j : Fin 384) :
    row x5 x7 (k0_pay7 (F := Ideal) x4 x6) (k0_pay8 (F := Ideal) x1) (k0_pay9 (F := Ideal) x1) b i j
      = Spec.tri (args x0 x1 x2 x3 x4 x5 x6 x7 x8 x9 x10 x11 x12 x13) b i j := by
  funext c
  simp only [row, pay7_at, pay9_at, pay8_at, Spec.tri, Spec.present, Spec.prod, args]

theorem out_std_at (b : Fin 2) (i j : Fin 384) :
    out0_15 (F := Ideal) x0 x1 x2 x3 x4 x5 x6 x7 x8 x9 x10 x11 x12 x13 (ix3 b i j)
      = Spec.outStd (args x0 x1 x2 x3 x4 x5 x6 x7 x8 x9 x10 x11 x12 x13) b i j := by
  unfold_out out0_15
  rw [View.canon_cons_unit_lit _ _ _ (by decide)]
  simp only [ld_whole0, ld_whole1, ld_whole2, ld_whole3, ld_whole6, ld_whole7, ld_whole8, pay13_at, row_eq x0 x1 x2 x3 x4 x5 x6 x7 x8 x9 x10 x11 x12 x13, Spec.outStd, Spec.outScale, Spec.outCode, Spec.code, Spec.normed, Spec.out, Spec.gate, Spec.proj, args]

theorem out_scale_at (b : Fin 2) (i j : Fin 384) :
    out0_17 (F := Ideal) x0 x1 x2 x3 x4 x5 x6 x7 x8 x9 x10 x11 x12 x13 (ix3 b i j)
      = Spec.outScale (args x0 x1 x2 x3 x4 x5 x6 x7 x8 x9 x10 x11 x12 x13) b i j := by
  unfold_out out0_17
  rw [View.canon_cons_unit_lit _ _ _ (by decide)]
  simp only [ld_whole0, ld_whole1, ld_whole2, ld_whole3, ld_whole6, ld_whole7, ld_whole8, pay2_at, pay14_at, row_eq x0 x1 x2 x3 x4 x5 x6 x7 x8 x9 x10 x11 x12 x13, Spec.outStd, Spec.outScale, Spec.outCode, Spec.code, Spec.normed, Spec.out, Spec.gate, Spec.proj, args]

theorem out_code_at (b : Fin 2) (i : Fin 384) (c : Fin 96) (j : Fin 384) :
    out0_16 (F := Ideal) x0 x1 x2 x3 x4 x5 x6 x7 x8 x9 x10 x11 x12 x13 (ix4 b i c j)
      = Spec.outCode (args x0 x1 x2 x3 x4 x5 x6 x7 x8 x9 x10 x11 x12 x13) b i c j := by
  unfold_out out0_16
  rw [View.canon_cons_unit_lit _ _ _ (by decide)]
  simp only [ld_whole0, ld_whole1, ld_whole2, ld_whole3, ld_whole6, ld_whole7, ld_whole8, pay4_at, pay15_at, pay16_at, ofBits_eq, row_eq x0 x1 x2 x3 x4 x5 x6 x7 x8 x9 x10 x11 x12 x13, Spec.outStd, Spec.outScale, Spec.outCode, Spec.code, Spec.normed, Spec.out, Spec.gate, Spec.proj, args]

theorem out_at (b : Fin 2) (i j : Fin 384) (d : Fin 128) :
    out0_14 (F := Ideal) x0 x1 x2 x3 x4 x5 x6 x7 x8 x9 x10 x11 x12 x13 (ix4 b i j d)
      = Spec.out (args x0 x1 x2 x3 x4 x5 x6 x7 x8 x9 x10 x11 x12 x13) b i j d := by
  unfold_out out0_14
  obtain ⟨w4, h4⟩ : ∃ w : Vec Ideal S128x128 .fp8e4m3, w = View.ld x10 r0_4 := ⟨_, rfl⟩
  obtain ⟨w5, h5⟩ : ∃ w : Vec Ideal S128 .f32, w = View.ld x11 r0_5 := ⟨_, rfl⟩
  rw [← h4, ← h5]
  rw [View.canon_cons_unit_lit _ _ _ (by decide)]
  simp only [ld_whole0, ld_whole1, ld_whole2, ld_whole3, ld_whole6, ld_whole7, ld_whole8, pay3_at, pay5_at, pay6_at, pay14_at, pay15_at, pay16_at, ofBits_eq,
    ld_wIn x10 w4 h4, ld_sIn x11 w5 h5,
    row_eq x0 x1 x2 x3 x4 x5 x6 x7 x8 x9 x10 x11 x12 x13, Spec.outStd, Spec.outScale, Spec.outCode, Spec.code, Spec.normed, Spec.out, Spec.gate, Spec.proj, args]

end

end Cert.ReferenceIdeal.Hand
end
-- ==== Proof.Reference.Result.lean ====
module

public import proofs.«01_k».proof.Proof.Reference.Value
public import proofs.«01_k».proof.Proof.Gen.ReferenceIdeal.Value

@[expose] public section

set_option maxRecDepth 16384

/-! # The reference's run: its results are the specification's arrays -/

noncomputable section

namespace Cert.ReferenceIdeal.Hand

open Cert.ReferenceIdeal Cert.ReferenceIdeal.Gen Idealize.ShloMosaic Idealize.ShloMosaic.TcCoe Idealize.SL.Sem

section
variable (x0 : Vec Ideal S2x384x384x128 .bf16) (x1 : Vec Ideal S2x384x384 .f32) (x2 : Vec Ideal S2x384x384x128 .fp8e4m3)
    (x3 : Vec Ideal S2x384x384 .f32) (x4 : Vec Ideal S2x384x384x96 .i8) (x5 : Vec Ideal S2x384x96 .f32)
    (x6 : Vec Ideal S2x384x384x96 .i8) (x7 : Vec Ideal S2x384x96 .f32) (x8 : Vec Ideal S96 .f32) (x9 : Vec Ideal S96 .f32)
    (x10 : Vec Ideal S128x512 .fp8e4m3) (x11 : Vec Ideal S512 .f32) (x12 : Vec Ideal S96x128 .fp8e4m3)
    (x13 : Vec Ideal S128 .f32)

/-- The reference's `z_out` is the specification's. -/
theorem G14_eq : Value.G14 (F := Ideal) x0 x1 x2 x3 x4 x5 x6 x7 x8 x9 x10 x11 x12 x13 = fun y => Spec.out (args x0 x1 x2 x3 x4 x5 x6 x7 x8 x9 x10 x11 x12 x13) (y 0) (y 1) (y 2) (y 3) := by
  funext y
  have e : ix4 (y 0) (y 1) (y 2) (y 3) = y := funext fun a => match a with
    | ⟨0, _⟩ => rfl
    | ⟨1, _⟩ => rfl
    | ⟨2, _⟩ => rfl
    | ⟨3, _⟩ => rfl
  have h := out_at x0 x1 x2 x3 x4 x5 x6 x7 x8 x9 x10 x11 x12 x13 (y 0) (y 1) (y 2) (y 3)
  rw [Value.out14_eq] at h
  exact (congrArg (Value.G14 (F := Ideal) x0 x1 x2 x3 x4 x5 x6 x7 x8 x9 x10 x11 x12 x13) e.symm).trans h

/-- The reference's `x_std` is the specification's. -/
theorem G15_eq : Value.G15 (F := Ideal) x0 x1 x2 x3 x4 x5 x6 x7 x8 x9 x10 x11 x12 x13 = fun y => Spec.outStd (args x0 x1 x2 x3 x4 x5 x6 x7 x8 x9 x10 x11 x12 x13) (y 0) (y 1) (y 2) := by
  funext y
  have e : ix3 (y 0) (y 1) (y 2) = y := funext fun a => match a with
    | ⟨0, _⟩ => rfl
    | ⟨1, _⟩ => rfl
    | ⟨2, _⟩ => rfl
  have h := out_std_at x0 x1 x2 x3 x4 x5 x6 x7 x8 x9 x10 x11 x12 x13 (y 0) (y 1) (y 2)
  rw [Value.out15_eq] at h
  exact (congrArg (Value.G15 (F := Ideal) x0 x1 x2 x3 x4 x5 x6 x7 x8 x9 x10 x11 x12 x13) e.symm).trans h

/-- The reference's `q2` is the specification's. -/
theorem G16_eq : Value.G16 (F := Ideal) x0 x1 x2 x3 x4 x5 x6 x7 x8 x9 x10 x11 x12 x13 = fun y => Spec.outCode (args x0 x1 x2 x3 x4 x5 x6 x7 x8 x9 x10 x11 x12 x13) (y 0) (y 1) (y 2) (y 3) := by
  funext y
  have e : ix4 (y 0) (y 1) (y 2) (y 3) = y := funext fun a => match a with
    | ⟨0, _⟩ => rfl
    | ⟨1, _⟩ => rfl
    | ⟨2, _⟩ => rfl
    | ⟨3, _⟩ => rfl
  have h := out_code_at x0 x1 x2 x3 x4 x5 x6 x7 x8 x9 x10 x11 x12 x13 (y 0) (y 1) (y 2) (y 3)
  rw [Value.out16_eq] at h
  exact (congrArg (Value.G16 (F := Ideal) x0 x1 x2 x3 x4 x5 x6 x7 x8 x9 x10 x11 x12 x13) e.symm).trans h

/-- The reference's `s2` is the specification's. -/
theorem G17_eq : Value.G17 (F := Ideal) x0 x1 x2 x3 x4 x5 x6 x7 x8 x9 x10 x11 x12 x13 = fun y => Spec.outScale (args x0 x1 x2 x3 x4 x5 x6 x7 x8 x9 x10 x11 x12 x13) (y 0) (y 1) (y 2) := by
  funext y
  have e : ix3 (y 0) (y 1) (y 2) = y := funext fun a => match a with
    | ⟨0, _⟩ => rfl
    | ⟨1, _⟩ => rfl
    | ⟨2, _⟩ => rfl
  have h := out_scale_at x0 x1 x2 x3 x4 x5 x6 x7 x8 x9 x10 x11 x12 x13 (y 0) (y 1) (y 2)
  rw [Value.out17_eq] at h
  exact (congrArg (Value.G17 (F := Ideal) x0 x1 x2 x3 x4 x5 x6 x7 x8 x9 x10 x11 x12 x13) e.symm).trans h

end

variable (m : (ℓ : Loc nD τ sig) → Buf (Elt Ideal) ℓ) (ρ : Dev nD → PrngReg)

/-- Core `c`'s argument arrays as the specification takes them. -/
def margs (c : Dev nD) : Spec.Args :=
  args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The reference runs, its results are the specification's arrays and its arguments are unchanged. -/
theorem run : θ_run defs (onTc (τ := τ) (main (F := Ideal))) ⟨m, fun _ => 0, ρ⟩ fun r => ∀ c : Dev nD,
      r.2.mem ((c.tc : Thread nD τ).loc main_v0_0) = (fun y : S2x384x384x128.Idx => Spec.out (margs m c) (y 0) (y 1) (y 2) (y 3))
      ∧ r.2.mem ((c.tc : Thread nD τ).loc main_v0_1) = (fun y : S2x384x384.Idx => Spec.outStd (margs m c) (y 0) (y 1) (y 2))
      ∧ r.2.mem ((c.tc : Thread nD τ).loc main_v0_2) = (fun y : S2x384x96x384.Idx => Spec.outCode (margs m c) (y 0) (y 1) (y 2) (y 3))
      ∧ r.2.mem ((c.tc : Thread nD τ).loc main_v0_3) = (fun y : S2x384x384.Idx => Spec.outScale (margs m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (G14_eq _ _ _ _ _ _ _ _ _ _ _ _ _ _), (h c).2.1.trans (G15_eq _ _ _ _ _ _ _ _ _ _ _ _ _ _),
    (h c).2.2.1.trans (G16_eq _ _ _ _ _ _ _ _ _ _ _ _ _ _), (h c).2.2.2.1.trans (G17_eq _ _ _ _ _ _ _ _ _ _ _ _ _ _),
    (h c).2.2.2.2⟩) (Value.run m ρ)

end Cert.ReferenceIdeal.Hand
end
-- ==== Proof.Project.Body.lean ====
/- What one grid point of the first call computes: its two loops, as functions of what the operands hold. -/
module

public import proofs.«01_k».proof.Proof.Gen.Project.Skeleton
public import proofs.«01_k».proof.Proof.Gen.Project.Loops
public import proofs.«01_k».proof.Proof.Gen.Project.Frame
public import Idealize.ShloMosaic.Lib.Pipeline.FrameBody
public import Idealize.ShloMosaic.Lib.Tactic

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values a trip stores -/

section Values

/-- The scales of one row's positions, as trip `k` of the first loop computes them. -/
def Psc (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x384 .f32 :=
  k0_pay3 (View.ld x2 (Rect.unit (s := S1x32x384x128) (k0_off1 k) S1x1x384x128.size (k0_off1_inb k))) (View.ld x4 (Rect.unit (s := S128x128) ![0, 0] S128x128.size inb_S128x128_S128x128_0_0)) (View.ld x5 (Rect.unit (s := S128x1) ![0, 0] S128x1.size inb_S128x1_S128x1_0_0)) (View.ld x6 (Rect.unit (s := S128x1) ![0, 0] S128x1.size inb_S128x1_S128x1_0_0))

/-- The normalised row over its scales, before the clipping. -/
def Pq (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S128x384 .f32 :=
  k0_pay4 (View.ld x2 (Rect.unit (s := S1x32x384x128) (k0_off1 k) S1x1x384x128.size (k0_off1_inb k))) (View.ld x4 (Rect.unit (s := S128x128) ![0, 0] S128x128.size inb_S128x128_S128x128_0_0)) (View.ld x5 (Rect.unit (s := S128x1) ![0, 0] S128x1.size inb_S128x1_S128x1_0_0)) (View.ld x6 (Rect.unit (s := S128x1) ![0, 0] S128x1.size inb_S128x1_S128x1_0_0))

/-- The row of codes stored by trip `k`. -/
def P9 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x384x128 .fp8e4m3 := k0_pay7 (Pq x2 x3 x4 x5 x6 x7 x8 k) (Scalar.ofBits .f32 0xC3E00000#32)

/-- The row of scales stored by trip `k`. -/
def P10 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x384 .f32 := k0_pay6 (Psc x2 x3 x4 x5 x6 x7 x8 k)

/-- The product of the weights' codes and the row's. -/
def Pprod (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S384x384 .f32 :=
  k0_pay8 (Pq x2 x3 x4 x5 x6 x7 x8 k) (Scalar.ofBits .f32 0xC3E00000#32) (View.ld x7 (Rect.unit (s := S384x128) ![0, 0] S384x128.size inb_S384x128_S384x128_0_0))

/-- The row of the mask times the row of scales. -/
def Pmask (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x384 .f32 :=
  k0_pay9 (Psc x2 x3 x4 x5 x6 x7 x8 k) (View.ld x3 (Rect.unit (s := S1x32x384) (k0_off2 k) S1x1x384.size (k0_off2_inb k)))

/-- The first gated operand, of one row. -/
def Pa (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S96x384 .f32 :=
  k0_pay10 (Psc x2 x3 x4 x5 x6 x7 x8 k) (Pq x2 x3 x4 x5 x6 x7 x8 k) (Scalar.ofBits .f32 0xC3E00000#32) (View.ld x7 (Rect.unit (s := S384x128) ![0, 0] S384x128.size inb_S384x128_S384x128_0_0)) (View.ld x3 (Rect.unit (s := S1x32x384) (k0_off2 k) S1x1x384.size (k0_off2_inb k))) (View.ld x8 (Rect.unit (s := S384x128) ![0, 0] S96x1.size inb_S384x128_S96x1_0_0)) (View.ld x8 (Rect.unit (s := S384x128) ![96, 0] S96x1.size inb_S384x128_S96x1_96_0))

/-- The largest modulus of each of its channels. -/
def Pamax (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S96x1 .f32 :=
  k0_pay11 (Psc x2 x3 x4 x5 x6 x7 x8 k) (Pq x2 x3 x4 x5 x6 x7 x8 k) (Scalar.ofBits .f32 0xC3E00000#32) (View.ld x7 (Rect.unit (s := S384x128) ![0, 0] S384x128.size inb_S384x128_S384x128_0_0)) (View.ld x3 (Rect.unit (s := S1x32x384) (k0_off2 k) S1x1x384.size (k0_off2_inb k))) (View.ld x8 (Rect.unit (s := S384x128) ![0, 0] S96x1.size inb_S384x128_S96x1_0_0)) (View.ld x8 (Rect.unit (s := S384x128) ![96, 0] S96x1.size inb_S384x128_S96x1_96_0))

/-- The row of the first operand's codes stored by trip `k`. -/
def P11 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x96x384 .fp8e4m3 := k0_pay13 (Pa x2 x3 x4 x5 x6 x7 x8 k) (Pamax x2 x3 x4 x5 x6 x7 x8 k)

/-- The row of the second operand's codes stored by trip `k`. -/
def P12 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x96x384 .fp8e4m3 :=
  k0_pay21 (Pprod x2 x3 x4 x5 x6 x7 x8 k) (Pmask x2 x3 x4 x5 x6 x7 x8 k) (k0_pay15 (View.ld x8 (Rect.unit (s := S384x128) ![192, 0] S96x1.size inb_S384x128_S96x1_192_0))) (k0_pay16 (View.ld x8 (Rect.unit (s := S384x128) ![288, 0] S96x1.size inb_S384x128_S96x1_288_0))) (k0_pay17 (Pprod x2 x3 x4 x5 x6 x7 x8 k)) (k0_pay18 (Psc x2 x3 x4 x5 x6 x7 x8 k))

end Values

/-- The part of result window 0 that trip `k` of the first loop writes. -/
abbrev R9 (k : Fin k0_t1_loop.trips) : Rect S1x32x384x128 := Rect.unit (s := S1x32x384x128) (k0_off1 k) S1x1x384x128.size (k0_off1_inb k)
/-- Two trips of the first loop write different parts of window 0. -/
theorem R9_ne (j k : Fin k0_t1_loop.trips) (h : j.val < k.val) (y : S1x1x384x128.Idx) : (R9 j).emb y ∉ (R9 k).set := by
  intro hm
  obtain ⟨z, hz, he⟩ := (R9 k).mem_set.mp hm 1
  have e1 : ((R9 j).emb y 1).val = k0_off1 j 1 + 1 * (y 1).val := rfl
  have e2 : (R9 k).off 1 + (R9 k).stride 1 * z = k0_off1 k 1 + 1 * z := rfl
  rw [e2] at he; rw [e1, k0_off1_eq, k0_off1_eq] at he
  have h1 : (y 1).val < 1 := (y 1).isLt
  have h2 : z < 1 := hz
  simp only [Matrix.cons_val_one, Matrix.cons_val_zero] at he
  omega

/-- The part of result window 1 that trip `k` of the first loop writes. -/
abbrev R10 (k : Fin k0_t1_loop.trips) : Rect S1x32x384 := Rect.unit (s := S1x32x384) (k0_off2 k) S1x1x384.size (k0_off2_inb k)
/-- Two trips of the first loop write different parts of window 1. -/
theorem R10_ne (j k : Fin k0_t1_loop.trips) (h : j.val < k.val) (y : S1x1x384.Idx) : (R10 j).emb y ∉ (R10 k).set := by
  intro hm
  obtain ⟨z, hz, he⟩ := (R10 k).mem_set.mp hm 1
  have e1 : ((R10 j).emb y 1).val = k0_off2 j 1 + 1 * (y 1).val := rfl
  have e2 : (R10 k).off 1 + (R10 k).stride 1 * z = k0_off2 k 1 + 1 * z := rfl
  rw [e2] at he; rw [e1, k0_off2_eq, k0_off2_eq] at he
  have h1 : (y 1).val < 1 := (y 1).isLt
  have h2 : z < 1 := hz
  simp only [Matrix.cons_val_one, Matrix.cons_val_zero] at he
  omega

/-- The part of result window 2 that trip `k` of the first loop writes. -/
abbrev R11 (k : Fin k0_t1_loop.trips) : Rect S1x32x96x384 := Rect.unit (s := S1x32x96x384) (k0_off3 k) S1x1x96x384.size (k0_off3_inb k)
/-- Two trips of the first loop write different parts of window 2. -/
theorem R11_ne (j k : Fin k0_t1_loop.trips) (h : j.val < k.val) (y : S1x1x96x384.Idx) : (R11 j).emb y ∉ (R11 k).set := by
  intro hm
  obtain ⟨z, hz, he⟩ := (R11 k).mem_set.mp hm 1
  have e1 : ((R11 j).emb y 1).val = k0_off3 j 1 + 1 * (y 1).val := rfl
  have e2 : (R11 k).off 1 + (R11 k).stride 1 * z = k0_off3 k 1 + 1 * z := rfl
  rw [e2] at he; rw [e1, k0_off3_eq, k0_off3_eq] at he
  have h1 : (y 1).val < 1 := (y 1).isLt
  have h2 : z < 1 := hz
  simp only [Matrix.cons_val_one, Matrix.cons_val_zero] at he
  omega

/-- The part of result window 3 that trip `k` of the first loop writes. -/
abbrev R12 (k : Fin k0_t1_loop.trips) : Rect S1x32x96x384 := Rect.unit (s := S1x32x96x384) (k0_off3 k) S1x1x96x384.size (k0_off3_inb k)
/-- Two trips of the first loop write different parts of window 3. -/
theorem R12_ne (j k : Fin k0_t1_loop.trips) (h : j.val < k.val) (y : S1x1x96x384.Idx) : (R12 j).emb y ∉ (R12 k).set := by
  intro hm
  obtain ⟨z, hz, he⟩ := (R12 k).mem_set.mp hm 1
  have e1 : ((R12 j).emb y 1).val = k0_off3 j 1 + 1 * (y 1).val := rfl
  have e2 : (R12 k).off 1 + (R12 k).stride 1 * z = k0_off3 k 1 + 1 * z := rfl
  rw [e2] at he; rw [e1, k0_off3_eq, k0_off3_eq] at he
  have h1 : (y 1).val < 1 := (y 1).isLt
  have h2 : z < 1 := hz
  simp only [Matrix.cons_val_one, Matrix.cons_val_zero] at he
  omega

/-! ## The loops -/

section Loops

variable (c : Dev nD) (i : grid0.Coords) (arg2 : Memref sig .tc .vmem S1x32x384x128 .bf16) (harg2 : arg2.IsWhole) (arg3 : Memref sig .tc .vmem S1x32x384 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .f32) (harg6 : arg6.IsWhole) (arg7 : Memref sig .tc .vmem S384x128 .fp8e4m3) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x96x384 .fp8e4m3) (harg11 : arg11.IsWhole) (arg12 : Memref sig .tc .vmem S1x32x96x384 .fp8e4m3) (harg12 : arg12.IsWhole) (arg13 : Memref sig .tc .vmem S1x96x384 .f32) (harg13 : arg13.IsWhole) (arg14 : Memref sig .tc .vmem S1x96x384 .f32) (harg14 : arg14.IsWhole) (arg15 : Memref sig .tc .vmem S1x1x3x768x128 .i32) (harg15 : arg15.IsWhole) (arg16 : Memref sig .tc .vmem S1x1x3x768x128 .i32) (harg16 : arg16.IsWhole)

/-- Before trip `k` of the first loop: what it reads as it was, the rows before `k` of the four results; the two arrays of
    scales hold anything. -/
def invAt1 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, ⌜∀ (j : Fin k0_t1_loop.trips), j.val < k → ∀ y : S1x1x384x128.Idx, arg9.view.read (Elt F) f ((R9 j).emb y) = P9 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg9.view.loc (c : Thread nD τ) ↦[arg9.view.set]{fullShare} f)) ∗ (∃ f, ⌜∀ (j : Fin k0_t1_loop.trips), j.val < k → ∀ y : S1x1x384.Idx, arg10.view.read (Elt F) f ((R10 j).emb y) = P10 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg10.view.loc (c : Thread nD τ) ↦[arg10.view.set]{fullShare} f)) ∗ (∃ f, ⌜∀ (j : Fin k0_t1_loop.trips), j.val < k → ∀ y : S1x1x96x384.Idx, arg11.view.read (Elt F) f ((R11 j).emb y) = P11 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg11.view.loc (c : Thread nD τ) ↦[arg11.view.set]{fullShare} f)) ∗ (∃ f, ⌜∀ (j : Fin k0_t1_loop.trips), j.val < k → ∀ y : S1x1x96x384.Idx, arg12.view.read (Elt F) f ((R12 j).emb y) = P12 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))

set_option warn.classDefReducibility false in
/-- The first loop's invariant. -/
@[sl_loop] def loopInv1 (arg1 : BitVec 32) (v0 : IVec S96x128 32) (v20 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v20 where
  inv k _ := invAt1 c arg2 arg3 arg4 arg5 arg6 arg7 arg8 arg9 arg10 arg11 arg12 arg13 arg14 X2 X3 X4 X5 X6 X7 X8 k
  step k acc := by
    unfold invAt1 k0_t1_body
    iintro ⟨H2, H3, H4, H5, H6, H7, H8, ⟨%f9, %hf9, H9⟩, ⟨%f10, %hf10, H10⟩, ⟨%f11, %hf11, H11⟩, ⟨%f12, %hf12, H12⟩, ⟨%f13, H13⟩, ⟨%f14, H14⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; swap; · iexact H9
      ipureintro
      intro j hj y
      rcases Nat.lt_succ_iff_lt_or_eq.mp hj with h | h
      · refine Eq.trans (View.read_writes_cons_miss _ _ _ _ _ ?_) ?_; · exact R9_ne j k h y
        exact hf9 j h y
      · obtain rfl : j = k := Fin.ext h
        refine Eq.trans (View.read_writes_cons_emb _ _ (R9 j) _ _ y) ?_
        try simp only [View.readAt_eq_ld]
        unfold P9
        rfl
    isplitl [H10]
    · iexists _
      isplitr; swap; · iexact H10
      ipureintro
      intro j hj y
      rcases Nat.lt_succ_iff_lt_or_eq.mp hj with h | h
      · refine Eq.trans (View.read_writes_cons_miss _ _ _ _ _ ?_) ?_; · exact R10_ne j k h y
        exact hf10 j h y
      · obtain rfl : j = k := Fin.ext h
        refine Eq.trans (View.read_writes_cons_emb _ _ (R10 j) _ _ y) ?_
        try simp only [View.readAt_eq_ld]
        unfold P10
        rfl
    isplitl [H11]
    · iexists _
      isplitr; swap; · iexact H11
      ipureintro
      intro j hj y
      rcases Nat.lt_succ_iff_lt_or_eq.mp hj with h | h
      · refine Eq.trans (View.read_writes_cons_miss _ _ _ _ _ ?_) ?_; · exact R11_ne j k h y
        exact hf11 j h y
      · obtain rfl : j = k := Fin.ext h
        refine Eq.trans (View.read_writes_cons_emb _ _ (R11 j) _ _ y) ?_
        try simp only [View.readAt_eq_ld]
        unfold P11
        rfl
    isplitl [H12]
    · iexists _
      isplitr; swap; · iexact H12
      ipureintro
      intro j hj y
      rcases Nat.lt_succ_iff_lt_or_eq.mp hj with h | h
      · refine Eq.trans (View.read_writes_cons_miss _ _ _ _ _ ?_) ?_; · exact R12_ne j k h y
        exact hf12 j h y
      · obtain rfl : j = k := Fin.ext h
        refine Eq.trans (View.read_writes_cons_emb _ _ (R12 j) _ _ y) ?_
        try simp only [View.readAt_eq_ld]
        unfold P12
        rfl
    isplitl [H13]
    · iexists _; iexact H13
    · iexists _; iexact H14

/-- Before trip `k` of the second loop: the two results it reads as they were; the regrouped words hold anything. -/
def invAt2 (X11 : BufTy.Contents (Elt F) arg11.view.ty) (X12 : BufTy.Contents (Elt F) arg12.view.ty) : sProp 𝕄 :=
  iprop((arg11.view.loc (c : Thread nD τ) ↦[arg11.view.set]{fullShare} X11) ∗ (arg12.view.loc (c : Thread nD τ) ↦[arg12.view.set]{fullShare} X12) ∗ (∃ f, (arg15.view.loc (c : Thread nD τ) ↦[arg15.view.set]{fullShare} f)) ∗ (∃ f, (arg16.view.loc (c : Thread nD τ) ↦[arg16.view.set]{fullShare} f)))

set_option warn.classDefReducibility false in
/-- The second loop's invariant. -/
@[sl_loop] def loopInv2 (X11 : BufTy.Contents (Elt F) arg11.view.ty) (X12 : BufTy.Contents (Elt F) arg12.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := invAt2 c arg11 arg12 arg15 arg16 X11 X12
  step k acc := by
    unfold invAt2 k0_t2_body
    iintro ⟨H11, H12, ⟨%f15, H15⟩, ⟨%f16, H16⟩⟩
    sl_exec
    sl_step
    isplitl [H11]; · iexact H11
    isplitl [H12]; · iexact H12
    isplitl [H15]
    · iexists _; iexact H15
    · iexists _; iexact H16

end Loops

end Cert.Project.Hand

end
-- ==== Proof.Project.Hand.lean ====
/- The first call's run: what each grid point leaves in the windows, and the run of the whole grid. -/
module

public import proofs.«01_k».proof.Proof.Gen.Project.Skeleton
public import proofs.«01_k».proof.Proof.Gen.Project.Loops
public import proofs.«01_k».proof.Proof.Gen.Project.Launch
public import proofs.«01_k».proof.Proof.Gen.Project.Points
public import proofs.«01_k».proof.Proof.Gen.Project.Frame
public import proofs.«01_k».proof.Proof.Project.Body
public import Idealize.ShloMosaic.Lib.Pipeline.FrameBody
public import Idealize.ShloMosaic.Lib.ValueIdx
public import Idealize.ShloMosaic.Lib.Tactic

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix3 ix4)

variable {F : FTy → Type} [FloatOps F]

local notation "𝕄" => MT nD τ sig Unit (Elt F) ℕ (UR sig nD τ) ℕ

theorem trips1_eq : k0_t1_loop.trips = 32 := by decide +kernel

/-- Result window 0 from its 32 rows. -/
def O9 (p : Fin k0_t1_loop.trips → Vec F S1x1x384x128 .fp8e4m3) : Vec F S1x32x384x128 .fp8e4m3 :=
  fun y => p ⟨(y 1).val, lt_of_lt_of_eq (y 1).isLt trips1_eq.symm⟩ (ix4 0 0 (y 2) (y 3))

theorem O9_of (x : Vec F S1x32x384x128 .fp8e4m3) (p : Fin k0_t1_loop.trips → Vec F S1x1x384x128 .fp8e4m3)
    (h : ∀ (j : Fin k0_t1_loop.trips), j.val < k0_t1_loop.trips → ∀ y : S1x1x384x128.Idx, x ((R9 j).emb y) = p j y) : x = O9 p := by
  funext y
  unfold O9
  rw [← h _ (Fin.isLt _)]
  congr 1
  funext a
  refine Fin.ext ?_
  have e : ∀ (j : Fin k0_t1_loop.trips) (z : S1x1x384x128.Idx), ((R9 j).emb z a).val = k0_off1 j a + 1 * (z a).val := fun _ _ => rfl
  rw [e, k0_off1_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 1 from its 32 rows. -/
def O10 (p : Fin k0_t1_loop.trips → Vec F S1x1x384 .f32) : Vec F S1x32x384 .f32 :=
  fun y => p ⟨(y 1).val, lt_of_lt_of_eq (y 1).isLt trips1_eq.symm⟩ (ix3 0 0 (y 2))

theorem O10_of (x : Vec F S1x32x384 .f32) (p : Fin k0_t1_loop.trips → Vec F S1x1x384 .f32)
    (h : ∀ (j : Fin k0_t1_loop.trips), j.val < k0_t1_loop.trips → ∀ y : S1x1x384.Idx, x ((R10 j).emb y) = p j y) : x = O10 p := by
  funext y
  unfold O10
  rw [← h _ (Fin.isLt _)]
  congr 1
  funext a
  refine Fin.ext ?_
  have e : ∀ (j : Fin k0_t1_loop.trips) (z : S1x1x384.Idx), ((R10 j).emb z a).val = k0_off2 j a + 1 * (z a).val := fun _ _ => rfl
  rw [e, k0_off2_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- Result window 2 from its 32 rows. -/
def O11 (p : Fin k0_t1_loop.trips → Vec F S1x1x96x384 .fp8e4m3) : Vec F S1x32x96x384 .fp8e4m3 :=
  fun y => p ⟨(y 1).val, lt_of_lt_of_eq (y 1).isLt trips1_eq.symm⟩ (ix4 0 0 (y 2) (y 3))

theorem O11_of (x : Vec F S1x32x96x384 .fp8e4m3) (p : Fin k0_t1_loop.trips → Vec F S1x1x96x384 .fp8e4m3)
    (h : ∀ (j : Fin k0_t1_loop.trips), j.val < k0_t1_loop.trips → ∀ y : S1x1x96x384.Idx, x ((R11 j).emb y) = p j y) : x = O11 p := by
  funext y
  unfold O11
  rw [← h _ (Fin.isLt _)]
  congr 1
  funext a
  refine Fin.ext ?_
  have e : ∀ (j : Fin k0_t1_loop.trips) (z : S1x1x96x384.Idx), ((R11 j).emb z a).val = k0_off3 j a + 1 * (z a).val := fun _ _ => rfl
  rw [e, k0_off3_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 3 from its 32 rows. -/
def O12 (p : Fin k0_t1_loop.trips → Vec F S1x1x96x384 .fp8e4m3) : Vec F S1x32x96x384 .fp8e4m3 :=
  fun y => p ⟨(y 1).val, lt_of_lt_of_eq (y 1).isLt trips1_eq.symm⟩ (ix4 0 0 (y 2) (y 3))

theorem O12_of (x : Vec F S1x32x96x384 .fp8e4m3) (p : Fin k0_t1_loop.trips → Vec F S1x1x96x384 .fp8e4m3)
    (h : ∀ (j : Fin k0_t1_loop.trips), j.val < k0_t1_loop.trips → ∀ y : S1x1x96x384.Idx, x ((R12 j).emb y) = p j y) : x = O12 p := by
  funext y
  unfold O12
  rw [← h _ (Fin.isLt _)]
  congr 1
  funext a
  refine Fin.ext ?_
  have e : ∀ (j : Fin k0_t1_loop.trips) (z : S1x1x96x384.Idx), ((R12 j).emb z a).val = k0_off3 j a + 1 * (z a).val := fun _ _ => rfl
  rw [e, k0_off3_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- One grid point: the operands as they were, the four claimed windows at their rows, the rest anything. -/
theorem run_pt (c : Dev nD) (i : grid0.Coords) (arg2 : Memref sig .tc .vmem S1x32x384x128 .bf16) (harg2 : arg2.IsWhole) (arg3 : Memref sig .tc .vmem S1x32x384 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .f32) (harg6 : arg6.IsWhole) (arg7 : Memref sig .tc .vmem S384x128 .fp8e4m3) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x96x384 .fp8e4m3) (harg11 : arg11.IsWhole) (arg12 : Memref sig .tc .vmem S1x32x96x384 .fp8e4m3) (harg12 : arg12.IsWhole) (arg13 : Memref sig .tc .vmem S1x96x384 .f32) (harg13 : arg13.IsWhole) (arg14 : Memref sig .tc .vmem S1x96x384 .f32) (harg14 : arg14.IsWhole) (arg15 : Memref sig .tc .vmem S1x1x3x768x128 .i32) (harg15 : arg15.IsWhole) (arg16 : Memref sig .tc .vmem S1x1x3x768x128 .i32) (harg16 : arg16.IsWhole)
    (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (O9 (P9 x2 x3 x4 x5 x6 x7 x8)) ∗ owns (c : Thread nD τ) arg10 fullShare (O10 (P10 x2 x3 x4 x5 x6 x7 x8)) ∗ owns (c : Thread nD τ) arg11 fullShare (O11 (P11 x2 x3 x4 x5 x6 x7 x8)) ∗ owns (c : Thread nD τ) arg12 fullShare (O12 (P12 x2 x3 x4 x5 x6 x7 x8)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0__project_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__project_kernel_eq_skeleton]; unfold cc0__project_kernel_skel
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%d9, %X9, -, H9⟩, ⟨%d10, %X10, -, H10⟩, ⟨%d11, %X11, -, H11⟩, ⟨%d12, %X12, -, H12⟩, ⟨%d13, %X13, -, H13⟩, ⟨%d14, %X14, -, H14⟩, ⟨%d15, %X15, -, H15⟩, ⟨%d16, %X16, -, H16⟩, Hk⟩
  subst h2 h3 h4 h5 h6 h7 h8
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact O9_of _ _ (by assumption)
  isplitl [H10]
  · iexists _; isplitr; swap; · iexact H10
    ipureintro; exact O10_of _ _ (by assumption)
  isplitl [H11]
  · iexists _; isplitr; swap; · iexact H11
    ipureintro; exact O11_of _ _ (by assumption)
  isplitl [H12]
  · iexists _; isplitr; swap; · iexact H12
    ipureintro; exact O12_of _ _ (by assumption)
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  · iexists _; iexists _; isplitr; swap; · iexact H16
    ipureintro; rfl

variable (m : (ℓ : Loc nD τ sig) → Buf (Elt F) ℓ) (ρ : Dev nD → PrngReg)

/-! ## What each point leaves in the result windows -/

/-- Result window 0 after point `t`. -/
def outAt9 (c : Dev nD) (t : Fin cfg0.N) : Vec F S1x32x384x128 .fp8e4m3 := O9 (P9 (iblk m c 0 t) (iblk m c 1 t) (iblk m c 2 t) (iblk m c 3 t) (iblk m c 4 t) (iblk m c 5 t) (iblk m c 6 t))

/-- Result window 1 after point `t`. -/
def outAt10 (c : Dev nD) (t : Fin cfg0.N) : Vec F S1x32x384 .f32 := O10 (P10 (iblk m c 0 t) (iblk m c 1 t) (iblk m c 2 t) (iblk m c 3 t) (iblk m c 4 t) (iblk m c 5 t) (iblk m c 6 t))

/-- Result window 2 after point `t`. -/
def outAt11 (c : Dev nD) (t : Fin cfg0.N) : Vec F S1x32x96x384 .fp8e4m3 := O11 (P11 (iblk m c 0 t) (iblk m c 1 t) (iblk m c 2 t) (iblk m c 3 t) (iblk m c 4 t) (iblk m c 5 t) (iblk m c 6 t))

/-- Result window 3 after point `t`. -/
def outAt12 (c : Dev nD) (t : Fin cfg0.N) : Vec F S1x32x96x384 .fp8e4m3 := O12 (P12 (iblk m c 0 t) (iblk m c 1 t) (iblk m c 2 t) (iblk m c 3 t) (iblk m c 4 t) (iblk m c 5 t) (iblk m c 6 t))

/-- The windows whose contents are not named: the two arrays of scales and the two arrays of regrouped words. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => false
    | ⟨10, _⟩ => false
    | ⟨11, _⟩ => true
    | ⟨12, _⟩ => true
    | ⟨13, _⟩ => true
    | ⟨14, _⟩ => true

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt9 m c t
    | ⟨8, _⟩ => outAt10 m c t
    | ⟨9, _⟩ => outAt11 m c t
    | ⟨10, _⟩ => outAt12 m c t
    | ⟨11, h⟩ => Dat.unnamed ⟨11, h⟩ t
    | ⟨12, h⟩ => Dat.unnamed ⟨12, h⟩ t
    | ⟨13, h⟩ => Dat.unnamed ⟨13, h⟩ t
    | ⟨14, h⟩ => Dat.unnamed ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt9 m c t := by dsimp only [dats]
theorem after_8 (c : Dev nD) (t : Fin cfg0.N) : (dats m 0 c).after 8 t = outAt10 m c t := by dsimp only [dats]
theorem after_9 (c : Dev nD) (t : Fin cfg0.N) : (dats m 0 c).after 9 t = outAt11 m c t := by dsimp only [dats]
theorem after_10 (c : Dev nD) (t : Fin cfg0.N) : (dats m 0 c).after 10 t = outAt12 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl]
  simp only [before_0, before_1, before_2, before_3, before_4, before_5, before_6, after_0, after_1, after_2, after_3, after_4, after_5, after_6, after_7, after_8, after_9, after_10]
  unfold Dat.owesAt Pipeline.owesWithin
  rw [show (dats m 0 c).owed t.castSucc = 0 from rfl, show (dats m 0 c).owed t.succ = 0 from rfl]
  iintro ⟨HΦ, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_pt c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (iblk m c 0 t) (iblk m c 1 t) (iblk m c 2 t) (iblk m c 3 t) (iblk m c 4 t) (iblk m c 5 t) (iblk m c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to an end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Project.Hand

end
-- ==== Proof.ProjectIdeal.Body.lean ====
/- What one grid point of the first call computes: its two loops, as functions of what the operands hold. -/
module

public import proofs.«01_k».proof.Proof.Gen.ProjectIdeal.Skeleton
public import proofs.«01_k».proof.Proof.Gen.ProjectIdeal.Loops
public import proofs.«01_k».proof.Proof.Gen.ProjectIdeal.Frame
public import Idealize.ShloMosaic.Lib.Pipeline.FrameBody
public import Idealize.ShloMosaic.Lib.Tactic

@[expose] public section

set_option maxRecDepth 16384

noncomputable section

namespace Cert.ProjectIdeal.Hand

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values a trip stores -/

section Values

/-- The scales of one row's positions, as trip `k` of the first loop computes them. -/
def Psc (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x384 .f32 :=
  k0_pay3 (View.ld x2 (Rect.unit (s := S1x32x384x128) (k0_off1 k) S1x1x384x128.size (k0_off1_inb k))) (View.ld x4 (Rect.unit (s := S128x128) ![0, 0] S128x128.size inb_S128x128_S128x128_0_0)) (View.ld x5 (Rect.unit (s := S128x1) ![0, 0] S128x1.size inb_S128x1_S128x1_0_0)) (View.ld x6 (Rect.unit (s := S128x1) ![0, 0] S128x1.size inb_S128x1_S128x1_0_0))

/-- The normalised row over its scales, before the clipping. -/
def Pq (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S128x384 .f32 :=
  k0_pay4 (View.ld x2 (Rect.unit (s := S1x32x384x128) (k0_off1 k) S1x1x384x128.size (k0_off1_inb k))) (View.ld x4 (Rect.unit (s := S128x128) ![0, 0] S128x128.size inb_S128x128_S128x128_0_0)) (View.ld x5 (Rect.unit (s := S128x1) ![0, 0] S128x1.size inb_S128x1_S128x1_0_0)) (View.ld x6 (Rect.unit (s := S128x1) ![0, 0] S128x1.size inb_S128x1_S128x1_0_0))

/-- The row of codes stored by trip `k`. -/
def P9 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x384x128 .fp8e4m3 := k0_pay7 (Pq x2 x3 x4 x5 x6 x7 x8 k) (Scalar.ofBits .f32 0xC3E00000#32)

/-- The row of scales stored by trip `k`. -/
def P10 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x384 .f32 := k0_pay6 (Psc x2 x3 x4 x5 x6 x7 x8 k)

/-- The product of the weights' codes and the row's. -/
def Pprod (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S384x384 .f32 :=
  k0_pay8 (Pq x2 x3 x4 x5 x6 x7 x8 k) (Scalar.ofBits .f32 0xC3E00000#32) (View.ld x7 (Rect.unit (s := S384x128) ![0, 0] S384x128.size inb_S384x128_S384x128_0_0))

/-- The row of the mask times the row of scales. -/
def Pmask (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x384 .f32 :=
  k0_pay9 (Psc x2 x3 x4 x5 x6 x7 x8 k) (View.ld x3 (Rect.unit (s := S1x32x384) (k0_off2 k) S1x1x384.size (k0_off2_inb k)))

/-- The first gated operand, of one row. -/
def Pa (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S96x384 .f32 :=
  k0_pay10 (Psc x2 x3 x4 x5 x6 x7 x8 k) (Pq x2 x3 x4 x5 x6 x7 x8 k) (Scalar.ofBits .f32 0xC3E00000#32) (View.ld x7 (Rect.unit (s := S384x128) ![0, 0] S384x128.size inb_S384x128_S384x128_0_0)) (View.ld x3 (Rect.unit (s := S1x32x384) (k0_off2 k) S1x1x384.size (k0_off2_inb k))) (View.ld x8 (Rect.unit (s := S384x128) ![0, 0] S96x1.size inb_S384x128_S96x1_0_0)) (View.ld x8 (Rect.unit (s := S384x128) ![96, 0] S96x1.size inb_S384x128_S96x1_96_0))

/-- The largest modulus of each of its channels. -/
def Pamax (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S96x1 .f32 :=
  k0_pay11 (Psc x2 x3 x4 x5 x6 x7 x8 k) (Pq x2 x3 x4 x5 x6 x7 x8 k) (Scalar.ofBits .f32 0xC3E00000#32) (View.ld x7 (Rect.unit (s := S384x128) ![0, 0] S384x128.size inb_S384x128_S384x128_0_0)) (View.ld x3 (Rect.unit (s := S1x32x384) (k0_off2 k) S1x1x384.size (k0_off2_inb k))) (View.ld x8 (Rect.unit (s := S384x128) ![0, 0] S96x1.size inb_S384x128_S96x1_0_0)) (View.ld x8 (Rect.unit (s := S384x128) ![96, 0] S96x1.size inb_S384x128_S96x1_96_0))

/-- The row of the first operand's codes stored by trip `k`. -/
def P11 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x96x384 .fp8e4m3 := k0_pay13 (Pa x2 x3 x4 x5 x6 x7 x8 k) (Pamax x2 x3 x4 x5 x6 x7 x8 k)

/-- The row of the second operand's codes stored by trip `k`. -/
def P12 (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (k : Fin k0_t1_loop.trips) : FVec F S1x1x96x384 .fp8e4m3 :=
  k0_pay21 (Pprod x2 x3 x4 x5 x6 x7 x8 k) (Pmask x2 x3 x4 x5 x6 x7 x8 k) (k0_pay15 (View.ld x8 (Rect.unit (s := S384x128) ![192, 0] S96x1.size inb_S384x128_S96x1_192_0))) (k0_pay16 (View.ld x8 (Rect.unit (s := S384x128) ![288, 0] S96x1.size inb_S384x128_S96x1_288_0))) (k0_pay17 (Pprod x2 x3 x4 x5 x6 x7 x8 k)) (k0_pay18 (Psc x2 x3 x4 x5 x6 x7 x8 k))

end Values

/-- The part of result window 0 that trip `k` of the first loop writes. -/
abbrev R9 (k : Fin k0_t1_loop.trips) : Rect S1x32x384x128 := Rect.unit (s := S1x32x384x128) (k0_off1 k) S1x1x384x128.size (k0_off1_inb k)
/-- Two trips of the first loop write different parts of window 0. -/
theorem R9_ne (j k : Fin k0_t1_loop.trips) (h : j.val < k.val) (y : S1x1x384x128.Idx) : (R9 j).emb y ∉ (R9 k).set := by
  intro hm
  obtain ⟨z, hz, he⟩ := (R9 k).mem_set.mp hm 1
  have e1 : ((R9 j).emb y 1).val = k0_off1 j 1 + 1 * (y 1).val := rfl
  have e2 : (R9 k).off 1 + (R9 k).stride 1 * z = k0_off1 k 1 + 1 * z := rfl
  rw [e2] at he; rw [e1, k0_off1_eq, k0_off1_eq] at he
  have h1 : (y 1).val < 1 := (y 1).isLt
  have h2 : z < 1 := hz
  simp only [Matrix.cons_val_one, Matrix.cons_val_zero] at he
  omega

/-- The part of result window 1 that trip `k` of the first loop writes. -/
abbrev R10 (k : Fin k0_t1_loop.trips) : Rect S1x32x384 := Rect.unit (s := S1x32x384) (k0_off2 k) S1x1x384.size (k0_off2_inb k)
/-- Two trips of the first loop write different parts of window 1. -/
theorem R10_ne (j k : Fin k0_t1_loop.trips) (h : j.val < k.val) (y : S1x1x384.Idx) : (R10 j).emb y ∉ (R10 k).set := by
  intro hm
  obtain ⟨z, hz, he⟩ := (R10 k).mem_set.mp hm 1
  have e1 : ((R10 j).emb y 1).val = k0_off2 j 1 + 1 * (y 1).val := rfl
  have e2 : (R10 k).off 1 + (R10 k).stride 1 * z = k0_off2 k 1 + 1 * z := rfl
  rw [e2] at he; rw [e1, k0_off2_eq, k0_off2_eq] at he
  have h1 : (y 1).val < 1 := (y 1).isLt
  have h2 : z < 1 := hz
  simp only [Matrix.cons_val_one, Matrix.cons_val_zero] at he
  omega

/-- The part of result window 2 that trip `k` of the first loop writes. -/
abbrev R11 (k : Fin k0_t1_loop.trips) : Rect S1x32x96x384 := Rect.unit (s := S1x32x96x384) (k0_off3 k) S1x1x96x384.size (k0_off3_inb k)
/-- Two trips of the first loop write different parts of window 2. -/
theorem R11_ne (j k : Fin k0_t1_loop.trips) (h : j.val < k.val) (y : S1x1x96x384.Idx) : (R11 j).emb y ∉ (R11 k).set := by
  intro hm
  obtain ⟨z, hz, he⟩ := (R11 k).mem_set.mp hm 1
  have e1 : ((R11 j).emb y 1).val = k0_off3 j 1 + 1 * (y 1).val := rfl
  have e2 : (R11 k).off 1 + (R11 k).stride 1 * z = k0_off3 k 1 + 1 * z := rfl
  rw [e2] at he; rw [e1, k0_off3_eq, k0_off3_eq] at he
  have h1 : (y 1).val < 1 := (y 1).isLt
  have h2 : z < 1 := hz
  simp only [Matrix.cons_val_one, Matrix.cons_val_zero] at he
  omega

/-- The part of result window 3 that trip `k` of the first loop writes. -/
abbrev R12 (k : Fin k0_t1_loop.trips) : Rect S1x32x96x384 := Rect.unit (s := S1x32x96x384) (k0_off3 k) S1x1x96x384.size (k0_off3_inb k)
/-- Two trips of the first loop write different parts of window 3. -/
theorem R12_ne (j k : Fin k0_t1_loop.trips) (h : j.val < k.val) (y : S1x1x96x384.Idx) : (R12 j).emb y ∉ (R12 k).set := by
  intro hm
  obtain ⟨z, hz, he⟩ := (R12 k).mem_set.mp hm 1
  have e1 : ((R12 j).emb y 1).val = k0_off3 j 1 + 1 * (y 1).val := rfl
  have e2 : (R12 k).off 1 + (R12 k).stride 1 * z = k0_off3 k 1 + 1 * z := rfl
  rw [e2] at he; rw [e1, k0_off3_eq, k0_off3_eq] at he
  have h1 : (y 1).val < 1 := (y 1).isLt
  have h2 : z < 1 := hz
  simp only [Matrix.cons_val_one, Matrix.cons_val_zero] at he
  omega

/-! ## The loops -/

section Loops

variable (c : Dev nD) (i : grid0.Coords) (arg2 : Memref sig .tc .vmem S1x32x384x128 .bf16) (harg2 : arg2.IsWhole) (arg3 : Memref sig .tc .vmem S1x32x384 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .f32) (harg6 : arg6.IsWhole) (arg7 : Memref sig .tc .vmem S384x128 .fp8e4m3) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x96x384 .fp8e4m3) (harg11 : arg11.IsWhole) (arg12 : Memref sig .tc .vmem S1x32x96x384 .fp8e4m3) (harg12 : arg12.IsWhole) (arg13 : Memref sig .tc .vmem S1x96x384 .f32) (harg13 : arg13.IsWhole) (arg14 : Memref sig .tc .vmem S1x96x384 .f32) (harg14 : arg14.IsWhole) (arg15 : Memref sig .tc .vmem S1x1x3x768x128 .i32) (harg15 : arg15.IsWhole) (arg16 : Memref sig .tc .vmem S1x1x3x768x128 .i32) (harg16 : arg16.IsWhole)

/-- Before trip `k` of the first loop: what it reads as it was, the rows before `k` of the four results; the two arrays of
    scales hold anything. -/
def invAt1 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, ⌜∀ (j : Fin k0_t1_loop.trips), j.val < k → ∀ y : S1x1x384x128.Idx, arg9.view.read (Elt F) f ((R9 j).emb y) = P9 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg9.view.loc (c : Thread nD τ) ↦[arg9.view.set]{fullShare} f)) ∗ (∃ f, ⌜∀ (j : Fin k0_t1_loop.trips), j.val < k → ∀ y : S1x1x384.Idx, arg10.view.read (Elt F) f ((R10 j).emb y) = P10 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg10.view.loc (c : Thread nD τ) ↦[arg10.view.set]{fullShare} f)) ∗ (∃ f, ⌜∀ (j : Fin k0_t1_loop.trips), j.val < k → ∀ y : S1x1x96x384.Idx, arg11.view.read (Elt F) f ((R11 j).emb y) = P11 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg11.view.loc (c : Thread nD τ) ↦[arg11.view.set]{fullShare} f)) ∗ (∃ f, ⌜∀ (j : Fin k0_t1_loop.trips), j.val < k → ∀ y : S1x1x96x384.Idx, arg12.view.read (Elt F) f ((R12 j).emb y) = P12 (arg2.view.read (Elt F) X2) (arg3.view.read (Elt F) X3) (arg4.view.read (Elt F) X4) (arg5.view.read (Elt F) X5) (arg6.view.read (Elt F) X6) (arg7.view.read (Elt F) X7) (arg8.view.read (Elt F) X8) j y⌝ ∗ (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))

set_option warn.classDefReducibility false in
/-- The first loop's invariant. -/
@[sl_loop] def loopInv1 (arg1 : BitVec 32) (v0 : IVec S96x128 32) (v20 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v20 where
  inv k _ := invAt1 c arg2 arg3 arg4 arg5 arg6 arg7 arg8 arg9 arg10 arg11 arg12 arg13 arg14 X2 X3 X4 X5 X6 X7 X8 k
  step k acc := by
    unfold invAt1 k0_t1_body
    iintro ⟨H2, H3, H4, H5, H6, H7, H8, ⟨%f9, %hf9, H9⟩, ⟨%f10, %hf10, H10⟩, ⟨%f11, %hf11, H11⟩, ⟨%f12, %hf12, H12⟩, ⟨%f13, H13⟩, ⟨%f14, H14⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitr; swap; · iexact H9
      ipureintro
      intro j hj y
      rcases Nat.lt_succ_iff_lt_or_eq.mp hj with h | h
      · refine Eq.trans (View.read_writes_cons_miss _ _ _ _ _ ?_) ?_; · exact R9_ne j k h y
        exact hf9 j h y
      · obtain rfl : j = k := Fin.ext h
        refine Eq.trans (View.read_writes_cons_emb _ _ (R9 j) _ _ y) ?_
        try simp only [View.readAt_eq_ld]
        unfold P9
        rfl
    isplitl [H10]
    · iexists _
      isplitr; swap; · iexact H10
      ipureintro
      intro j hj y
      rcases Nat.lt_succ_iff_lt_or_eq.mp hj with h | h
      · refine Eq.trans (View.read_writes_cons_miss _ _ _ _ _ ?_) ?_; · exact R10_ne j k h y
        exact hf10 j h y
      · obtain rfl : j = k := Fin.ext h
        refine Eq.trans (View.read_writes_cons_emb _ _ (R10 j) _ _ y) ?_
        try simp only [View.readAt_eq_ld]
        unfold P10
        rfl
    isplitl [H11]
    · iexists _
      isplitr; swap; · iexact H11
      ipureintro
      intro j hj y
      rcases Nat.lt_succ_iff_lt_or_eq.mp hj with h | h
      · refine Eq.trans (View.read_writes_cons_miss _ _ _ _ _ ?_) ?_; · exact R11_ne j k h y
        exact hf11 j h y
      · obtain rfl : j = k := Fin.ext h
        refine Eq.trans (View.read_writes_cons_emb _ _ (R11 j) _ _ y) ?_
        try simp only [View.readAt_eq_ld]
        unfold P11
        rfl
    isplitl [H12]
    · iexists _
      isplitr; swap; · iexact H12
      ipureintro
      intro j hj y
      rcases Nat.lt_succ_iff_lt_or_eq.mp hj with h | h
      · refine Eq.trans (View.read_writes_cons_miss _ _ _ _ _ ?_) ?_; · exact R12_ne j k h y
        exact hf12 j h y
      · obtain rfl : j = k := Fin.ext h
        refine Eq.trans (View.read_writes_cons_emb _ _ (R12 j) _ _ y) ?_
        try simp only [View.readAt_eq_ld]
        unfold P12
        rfl
    isplitl [H13]
    · iexists _; iexact H13
    · iexists _; iexact H14

/-- Before trip `k` of the second loop: the two results it reads as they were; the regrouped words hold anything. -/
def invAt2 (X11 : BufTy.Contents (Elt F) arg11.view.ty) (X12 : BufTy.Contents (Elt F) arg12.view.ty) : sProp 𝕄 :=
  iprop((arg11.view.loc (c : Thread nD τ) ↦[arg11.view.set]{fullShare} X11) ∗ (arg12.view.loc (c : Thread nD τ) ↦[arg12.view.set]{fullShare} X12) ∗ (∃ f, (arg15.view.loc (c : Thread nD τ) ↦[arg15.view.set]{fullShare} f)) ∗ (∃ f, (arg16.view.loc (c : Thread nD τ) ↦[arg16.view.set]{fullShare} f)))

set_option warn.classDefReducibility false in
/-- The second loop's invariant. -/
@[sl_loop] def loopInv2 (X11 : BufTy.Contents (Elt F) arg11.view.ty) (X12 : BufTy.Contents (Elt F) arg12.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 where
  inv k _ := invAt2 c arg11 arg12 arg15 arg16 X11 X12
  step k acc := by
    unfold invAt2 k0_t2_body
    iintro ⟨H11, H12, ⟨%f15, H15⟩, ⟨%f16, H16⟩⟩
    sl_exec
    sl_step
    isplitl [H11]; · iexact H11
    isplitl [H12]; · iexact H12
    isplitl [H15]
    · iexists _; iexact H15
    · iexists _; iexact H16

end Loops

end Cert.ProjectIdeal.Hand

end
-- ==== Proof.ProjectIdeal.Hand.lean ====
/- The first call's run: what each grid point leaves in the windows, and the run of the whole grid. -/
module

public import proofs.«01_k».proof.Proof.Gen.ProjectIdeal.Skeleton
public import proofs.«01_k».proof.Proof.Gen.ProjectIdeal.Loops
public import proofs.«01_k».proof.Proof.Gen.ProjectIdeal.Launch
public import proofs.«01_k».proof.Proof.Gen.ProjectIdeal.Points
public import proofs.«01_k».proof.Proof.Gen.ProjectIdeal.Frame
public import proofs.«01_k».proof.Proof.ProjectIdeal.Body
public import Idealize.ShloMosaic.Lib.Pipeline.FrameBody
public import Idealize.ShloMosaic.Lib.ValueIdx
public import Idealize.ShloMosaic.Lib.Tactic

@[expose] public section

set_option maxRecDepth 16384

noncomputable section

namespace Cert.ProjectIdeal.Hand

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix3 ix4)

variable {F : FTy → Type} [FloatOps F] [Named F]

local notation "𝕄" => MT nD τ sig Unit (Elt F) ℕ (UR sig nD τ) ℕ

theorem trips1_eq : k0_t1_loop.trips = 32 := by decide +kernel

/-- Result window 0 from its 32 rows. -/
def O9 (p : Fin k0_t1_loop.trips → Vec F S1x1x384x128 .fp8e4m3) : Vec F S1x32x384x128 .fp8e4m3 :=
  fun y => p ⟨(y 1).val, lt_of_lt_of_eq (y 1).isLt trips1_eq.symm⟩ (ix4 0 0 (y 2) (y 3))

theorem O9_of (x : Vec F S1x32x384x128 .fp8e4m3) (p : Fin k0_t1_loop.trips → Vec F S1x1x384x128 .fp8e4m3)
    (h : ∀ (j : Fin k0_t1_loop.trips), j.val < k0_t1_loop.trips → ∀ y : S1x1x384x128.Idx, x ((R9 j).emb y) = p j y) : x = O9 p := by
  funext y
  unfold O9
  rw [← h _ (Fin.isLt _)]
  congr 1
  funext a
  refine Fin.ext ?_
  have e : ∀ (j : Fin k0_t1_loop.trips) (z : S1x1x384x128.Idx), ((R9 j).emb z a).val = k0_off1 j a + 1 * (z a).val := fun _ _ => rfl
  rw [e, k0_off1_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 1 from its 32 rows. -/
def O10 (p : Fin k0_t1_loop.trips → Vec F S1x1x384 .f32) : Vec F S1x32x384 .f32 :=
  fun y => p ⟨(y 1).val, lt_of_lt_of_eq (y 1).isLt trips1_eq.symm⟩ (ix3 0 0 (y 2))

theorem O10_of (x : Vec F S1x32x384 .f32) (p : Fin k0_t1_loop.trips → Vec F S1x1x384 .f32)
    (h : ∀ (j : Fin k0_t1_loop.trips), j.val < k0_t1_loop.trips → ∀ y : S1x1x384.Idx, x ((R10 j).emb y) = p j y) : x = O10 p := by
  funext y
  unfold O10
  rw [← h _ (Fin.isLt _)]
  congr 1
  funext a
  refine Fin.ext ?_
  have e : ∀ (j : Fin k0_t1_loop.trips) (z : S1x1x384.Idx), ((R10 j).emb z a).val = k0_off2 j a + 1 * (z a).val := fun _ _ => rfl
  rw [e, k0_off2_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega

/-- Result window 2 from its 32 rows. -/
def O11 (p : Fin k0_t1_loop.trips → Vec F S1x1x96x384 .fp8e4m3) : Vec F S1x32x96x384 .fp8e4m3 :=
  fun y => p ⟨(y 1).val, lt_of_lt_of_eq (y 1).isLt trips1_eq.symm⟩ (ix4 0 0 (y 2) (y 3))

theorem O11_of (x : Vec F S1x32x96x384 .fp8e4m3) (p : Fin k0_t1_loop.trips → Vec F S1x1x96x384 .fp8e4m3)
    (h : ∀ (j : Fin k0_t1_loop.trips), j.val < k0_t1_loop.trips → ∀ y : S1x1x96x384.Idx, x ((R11 j).emb y) = p j y) : x = O11 p := by
  funext y
  unfold O11
  rw [← h _ (Fin.isLt _)]
  congr 1
  funext a
  refine Fin.ext ?_
  have e : ∀ (j : Fin k0_t1_loop.trips) (z : S1x1x96x384.Idx), ((R11 j).emb z a).val = k0_off3 j a + 1 * (z a).val := fun _ _ => rfl
  rw [e, k0_off3_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- Result window 3 from its 32 rows. -/
def O12 (p : Fin k0_t1_loop.trips → Vec F S1x1x96x384 .fp8e4m3) : Vec F S1x32x96x384 .fp8e4m3 :=
  fun y => p ⟨(y 1).val, lt_of_lt_of_eq (y 1).isLt trips1_eq.symm⟩ (ix4 0 0 (y 2) (y 3))

theorem O12_of (x : Vec F S1x32x96x384 .fp8e4m3) (p : Fin k0_t1_loop.trips → Vec F S1x1x96x384 .fp8e4m3)
    (h : ∀ (j : Fin k0_t1_loop.trips), j.val < k0_t1_loop.trips → ∀ y : S1x1x96x384.Idx, x ((R12 j).emb y) = p j y) : x = O12 p := by
  funext y
  unfold O12
  rw [← h _ (Fin.isLt _)]
  congr 1
  funext a
  refine Fin.ext ?_
  have e : ∀ (j : Fin k0_t1_loop.trips) (z : S1x1x96x384.Idx), ((R12 j).emb z a).val = k0_off3 j a + 1 * (z a).val := fun _ _ => rfl
  rw [e, k0_off3_eq]
  have h0 : (y 0).val = 0 := Nat.lt_one_iff.mp (y 0).isLt
  fin_cases a
  · show (y 0).val = 0 + 1 * 0; omega
  · show (y 1).val = (y 1).val + 1 * 0; omega
  · show (y 2).val = 0 + 1 * (y 2).val; omega
  · show (y 3).val = 0 + 1 * (y 3).val; omega

/-- One grid point: the operands as they were, the four claimed windows at their rows, the rest anything. -/
theorem run_pt (c : Dev nD) (i : grid0.Coords) (arg2 : Memref sig .tc .vmem S1x32x384x128 .bf16) (harg2 : arg2.IsWhole) (arg3 : Memref sig .tc .vmem S1x32x384 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .f32) (harg6 : arg6.IsWhole) (arg7 : Memref sig .tc .vmem S384x128 .fp8e4m3) (harg7 : arg7.IsWhole) (arg8 : Memref sig .tc .vmem S384x128 .f32) (harg8 : arg8.IsWhole) (arg9 : Memref sig .tc .vmem S1x32x384x128 .fp8e4m3) (harg9 : arg9.IsWhole) (arg10 : Memref sig .tc .vmem S1x32x384 .f32) (harg10 : arg10.IsWhole) (arg11 : Memref sig .tc .vmem S1x32x96x384 .fp8e4m3) (harg11 : arg11.IsWhole) (arg12 : Memref sig .tc .vmem S1x32x96x384 .fp8e4m3) (harg12 : arg12.IsWhole) (arg13 : Memref sig .tc .vmem S1x96x384 .f32) (harg13 : arg13.IsWhole) (arg14 : Memref sig .tc .vmem S1x96x384 .f32) (harg14 : arg14.IsWhole) (arg15 : Memref sig .tc .vmem S1x1x3x768x128 .i32) (harg15 : arg15.IsWhole) (arg16 : Memref sig .tc .vmem S1x1x3x768x128 .i32) (harg16 : arg16.IsWhole)
    (x2 : Vec F S1x32x384x128 .bf16) (x3 : Vec F S1x32x384 .f32) (x4 : Vec F S128x128 .bf16) (x5 : Vec F S128x1 .f32) (x6 : Vec F S128x1 .f32) (x7 : Vec F S384x128 .fp8e4m3) (x8 : Vec F S384x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (O9 (P9 x2 x3 x4 x5 x6 x7 x8)) ∗ owns (c : Thread nD τ) arg10 fullShare (O10 (P10 x2 x3 x4 x5 x6 x7 x8)) ∗ owns (c : Thread nD τ) arg11 fullShare (O11 (P11 x2 x3 x4 x5 x6 x7 x8)) ∗ owns (c : Thread nD τ) arg12 fullShare (O12 (P12 x2 x3 x4 x5 x6 x7 x8)) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ (cc0__project_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__project_kernel_eq_skeleton]; unfold cc0__project_kernel_skel
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%d9, %X9, -, H9⟩, ⟨%d10, %X10, -, H10⟩, ⟨%d11, %X11, -, H11⟩, ⟨%d12, %X12, -, H12⟩, ⟨%d13, %X13, -, H13⟩, ⟨%d14, %X14, -, H14⟩, ⟨%d15, %X15, -, H15⟩, ⟨%d16, %X16, -, H16⟩, Hk⟩
  subst h2 h3 h4 h5 h6 h7 h8
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; exact O9_of _ _ (by assumption)
  isplitl [H10]
  · iexists _; isplitr; swap; · iexact H10
    ipureintro; exact O10_of _ _ (by assumption)
  isplitl [H11]
  · iexists _; isplitr; swap; · iexact H11
    ipureintro; exact O11_of _ _ (by assumption)
  isplitl [H12]
  · iexists _; isplitr; swap; · iexact H12
    ipureintro; exact O12_of _ _ (by assumption)
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  · iexists _; iexists _; isplitr; swap; · iexact H16
    ipureintro; rfl

variable (m : (ℓ : Loc nD τ sig) → Buf (Elt F) ℓ) (ρ : Dev nD → PrngReg)

/-! ## What each point leaves in the result windows -/

/-- Result window 0 after point `t`. -/
def outAt9 (c : Dev nD) (t : Fin cfg0.N) : Vec F S1x32x384x128 .fp8e4m3 := O9 (P9 (iblk m c 0 t) (iblk m c 1 t) (iblk m c 2 t) (iblk m c 3 t) (iblk m c 4 t) (iblk m c 5 t) (iblk m c 6 t))

/-- Result window 1 after point `t`. -/
def outAt10 (c : Dev nD) (t : Fin cfg0.N) : Vec F S1x32x384 .f32 := O10 (P10 (iblk m c 0 t) (iblk m c 1 t) (iblk m c 2 t) (iblk m c 3 t) (iblk m c 4 t) (iblk m c 5 t) (iblk m c 6 t))

/-- Result window 2 after point `t`. -/
def outAt11 (c : Dev nD) (t : Fin cfg0.N) : Vec F S1x32x96x384 .fp8e4m3 := O11 (P11 (iblk m c 0 t) (iblk m c 1 t) (iblk m c 2 t) (iblk m c 3 t) (iblk m c 4 t) (iblk m c 5 t) (iblk m c 6 t))

/-- Result window 3 after point `t`. -/
def outAt12 (c : Dev nD) (t : Fin cfg0.N) : Vec F S1x32x96x384 .fp8e4m3 := O12 (P12 (iblk m c 0 t) (iblk m c 1 t) (iblk m c 2 t) (iblk m c 3 t) (iblk m c 4 t) (iblk m c 5 t) (iblk m c 6 t))

/-- The windows whose contents are not named: the two arrays of scales and the two arrays of regrouped words. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => false
    | ⟨8, _⟩ => false
    | ⟨9, _⟩ => false
    | ⟨10, _⟩ => false
    | ⟨11, _⟩ => true
    | ⟨12, _⟩ => true
    | ⟨13, _⟩ => true
    | ⟨14, _⟩ => true

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt9 m c t
    | ⟨8, _⟩ => outAt10 m c t
    | ⟨9, _⟩ => outAt11 m c t
    | ⟨10, _⟩ => outAt12 m c t
    | ⟨11, h⟩ => Dat.unnamed ⟨11, h⟩ t
    | ⟨12, h⟩ => Dat.unnamed ⟨12, h⟩ t
    | ⟨13, h⟩ => Dat.unnamed ⟨13, h⟩ t
    | ⟨14, h⟩ => Dat.unnamed ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt9 m c t := by dsimp only [dats]
theorem after_8 (c : Dev nD) (t : Fin cfg0.N) : (dats m 0 c).after 8 t = outAt10 m c t := by dsimp only [dats]
theorem after_9 (c : Dev nD) (t : Fin cfg0.N) : (dats m 0 c).after 9 t = outAt11 m c t := by dsimp only [dats]
theorem after_10 (c : Dev nD) (t : Fin cfg0.N) : (dats m 0 c).after 10 t = outAt12 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl]
  simp only [before_0, before_1, before_2, before_3, before_4, before_5, before_6, after_0, after_1, after_2, after_3, after_4, after_5, after_6, after_7, after_8, after_9, after_10]
  unfold Dat.owesAt Pipeline.owesWithin
  rw [show (dats m 0 c).owed t.castSucc = 0 from rfl, show (dats m 0 c).owed t.succ = 0 from rfl]
  iintro ⟨HΦ, ⟨%WW, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_pt c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (iblk m c 0 t) (iblk m c 1 t) (iblk m c 2 t) (iblk m c 3 t) (iblk m c 4 t) (iblk m c 5 t) (iblk m c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [HW]
  · iexists WW; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to an end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.ProjectIdeal.Hand

end
-- ==== Proof.ProjectSpec.lean ====
module

public import proofs.«01_k».proof.Proof.SpecLemmas

@[expose] public section

/-! # What the first call computes, over the extended reals

The layer norm of a position's channels, the quantiser, the projection of the codes and its gating, written once on
arrays of extended reals. -/

noncomputable section

namespace Cert.ProjectSpec

open Idealize.ShloMosaic

/-- The call's argument arrays by their values. -/
structure Args where
  z : Fin 2 → Fin 384 → Fin 384 → Fin 128 → EReal
  mask : Fin 2 → Fin 384 → Fin 384 → EReal
  gamma : Fin 128 → EReal
  beta : Fin 128 → EReal
  wIn : Fin 128 → Fin 512 → EReal
  sIn : Fin 512 → EReal

/-! ## One position's channels -/

/-- The channels less their mean. -/
def cen (x : Fin 128 → EReal) (c : Fin 128) : EReal :=
  x c - Ideal.div (∑ k, x k) (Ideal.ofBits .f32 1124073472#32)

/-- The standard deviation of the channels: the root of the mean square of `cen` plus the norm's epsilon. -/
def std (x : Fin 128 → EReal) : EReal :=
  Ideal.sqrt (Ideal.div (∑ k, cen x k * cen x k) (Ideal.ofBits .f32 1124073472#32) + Ideal.ofBits .f32 925353388#32)

/-- The layer norm of the channels. -/
def norm (g b : Fin 128 → EReal) (x : Fin 128 → EReal) (c : Fin 128) : EReal :=
  Ideal.div (cen x c) (std x) * g c + b c

/-- The largest magnitude of a row. -/
def amax {n : ℕ} (y : Fin n → EReal) : EReal :=
  Finset.fold max (Ideal.ofBits .f32 4286578688#32) (fun c => max (y c) (-(y c))) Finset.univ

/-- The quantiser's scale: 1 where all is zero, else the largest magnitude over 448. -/
def scale {n : ℕ} (y : Fin n → EReal) : EReal :=
  if amax y = 0 then 1 else Ideal.div (amax y) (Ideal.ofBits .f32 1138753536#32)

/-- The quantiser's codes: the row over its scale, clipped to ±448. -/
def code {n : ℕ} (y : Fin n → EReal) (c : Fin n) : EReal :=
  min (Ideal.ofBits .f32 1138753536#32) (max (Ideal.ofBits .f32 3286237184#32) (Ideal.div (y c) (scale y)))

/-! ## The whole call -/

variable (A : Args)

/-- The layer norm of a position. -/
def normed (b : Fin 2) (i j : Fin 384) : Fin 128 → EReal := norm A.gamma A.beta (A.z b i j)

/-- The projection of a position's codes, with both scales. -/
def proj (b : Fin 2) (i j k : Fin 384) : EReal :=
  (∑ e, code (normed A b i j) e * A.wIn e ⟨k, by omega⟩) * scale (normed A b i j) * A.sIn ⟨k, by omega⟩

/-- The first gated operand: columns 0 to 95, gated by columns 96 to 191. -/
def gatedA (b : Fin 2) (i : Fin 384) (c : Fin 96) (j : Fin 384) : EReal :=
  A.mask b i j * Ideal.logistic (proj A b i j ⟨96 + c, by omega⟩) * proj A b i j ⟨c, by omega⟩

/-- The second gated operand: columns 192 to 287, gated by columns 288 to 383. -/
def gatedB (b : Fin 2) (i : Fin 384) (c : Fin 96) (j : Fin 384) : EReal :=
  A.mask b i j * Ideal.logistic (proj A b i j ⟨288 + c, by omega⟩) * proj A b i j ⟨192 + c, by omega⟩

/-- Result `q1`. -/
def outQ (b : Fin 2) (i j : Fin 384) (d : Fin 128) : EReal := code (normed A b i j) d

/-- Result `s1`. -/
def outS (b : Fin 2) (i j : Fin 384) : EReal := scale (normed A b i j)

/-- Result `a`, channels before positions: one scale for each row and channel. -/
def outA (b : Fin 2) (i : Fin 384) (c : Fin 96) (j : Fin 384) : EReal := code (gatedA A b i c) j

/-- Result `b`, channels before positions. -/
def outB (b : Fin 2) (i : Fin 384) (c : Fin 96) (j : Fin 384) : EReal := code (gatedB A b i c) j

/-! ## Dividing and multiplying by the reciprocal agree -/

theorem ofBits_128 : Ideal.ofBits .f32 1124073472#32 = ((128 : ℝ) : EReal) := by
  simp [Ideal.ofBits, Ideal.ieee, -EReal.coe_mul]; norm_num

/-- The root of the mean square of `u` plus the norm's epsilon. -/
def root (u : Fin 128 → EReal) : EReal :=
  Ideal.sqrt (Ideal.div (∑ k, u k * u k) (Ideal.ofBits .f32 1124073472#32) + Ideal.ofBits .f32 925353388#32)

/-- It is never zero. -/
theorem root_ne_zero (u : Fin 128 → EReal) : root u ≠ 0 := by
  unfold root
  refine Spec.sqrt_ne_zero _ (lt_of_lt_of_le Spec.eps_pos (le_add_of_nonneg_left ?_))
  rw [ofBits_128, Ideal.div_coe (by norm_num)]
  refine mul_nonneg (Finset.sum_nonneg fun k _ => Spec.mul_self_nonneg _) ?_
  exact_mod_cast (by norm_num : (0 : ℝ) ≤ 1 / 128)

/-- The scale is never zero. -/
theorem scale_ne_zero {n : ℕ} (y : Fin n → EReal) : scale y ≠ 0 := by
  unfold scale
  split_ifs with h
  · exact one_ne_zero
  · rw [Spec.div_448]
    refine mul_ne_zero h ?_
    exact_mod_cast (by norm_num : (1 / 448 : ℝ) ≠ 0)

/-! ## Centring by a product -/

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The channels times the identity less 1/128. -/
def dev (x : Fin 128 → EReal) (c : Fin 128) : EReal :=
  ∑ k, ((((if c = k then 1 else 0 : ℝ) - 1 / 128 : ℝ) : EReal)) * x k

/-- On finite channels the product with the identity less 1/128 subtracts the mean. -/
theorem cen_of_finite (x : Fin 128 → EReal) (hx : ∀ k, ∃ r : ℝ, x k = r) (c : Fin 128) :
    dev x c = cen x c := by
  unfold dev
  choose r hr using hx
  obtain rfl : x = fun k => (r k : EReal) := funext hr
  unfold cen
  rw [ofBits_128, Ideal.div_coe (by norm_num), ← coe_sum, ← EReal.coe_mul, ← EReal.coe_sub]
  simp only [← EReal.coe_mul]
  rw [← coe_sum]
  congr 1
  simp only [sub_mul, Finset.sum_sub_distrib, ite_mul, one_mul, zero_mul, Finset.sum_ite_eq, Finset.mem_univ, if_true,
    ← Finset.mul_sum]
  rw [mul_comm]

/-! ## Centring where a channel is infinite -/

/-- An infinite value. -/
def Inf (a : EReal) : Prop := a = ⊤ ∨ a = ⊥

theorem real_of_not_inf {a : EReal} (h : ¬ Inf a) : ∃ r : ℝ, a = r := by
  induction a with
  | bot => exact absurd (Or.inr rfl) h
  | top => exact absurd (Or.inl rfl) h
  | coe r => exact ⟨r, rfl⟩

theorem inf_add {a : EReal} (h : Inf a) (b : EReal) : Inf (a + b) := by
  rcases h with rfl | rfl
  · by_cases hb : b = ⊥
    · exact Or.inr (by rw [hb, EReal.add_bot])
    · exact Or.inl (EReal.top_add_of_ne_bot hb)
  · exact Or.inr (EReal.bot_add b)

theorem inf_coe_mul {r : ℝ} (hr : r ≠ 0) {a : EReal} (h : Inf a) : Inf ((r : EReal) * a) := by
  rcases lt_or_gt_of_ne hr with hn | hp <;> rcases h with rfl | rfl
  · exact Or.inr (EReal.coe_mul_top_of_neg hn)
  · exact Or.inl (EReal.coe_mul_bot_of_neg hn)
  · exact Or.inl (EReal.coe_mul_top_of_pos hp)
  · exact Or.inr (EReal.coe_mul_bot_of_pos hp)

/-- A sum with an infinite term is infinite. -/
theorem inf_sum {n : ℕ} (f : Fin n → EReal) (k : Fin n) (h : Inf (f k)) : Inf (∑ e, f e) := by
  rw [← Finset.add_sum_erase _ f (Finset.mem_univ k)]
  exact inf_add h _

theorem inf_mul_self {a : EReal} (h : Inf a) : a * a = ⊤ := by
  rcases h with rfl | rfl
  · exact EReal.top_mul_top
  · exact EReal.bot_mul_bot

/-- Where every entry is infinite the quotient by the root is zero. -/
theorem quotient_inf (u : Fin 128 → EReal) (h : ∀ k, Inf (u k)) (c : Fin 128) : Ideal.div (u c) (root u) = 0 := by
  have hs : ∑ k, u k * u k = ⊤ := by
    rcases inf_sum (fun k => u k * u k) 0 (Or.inl (inf_mul_self (h 0))) with e | e
    · exact e
    · have hn : 0 ≤ ∑ k, u k * u k := Finset.sum_nonneg fun k _ => Spec.mul_self_nonneg _
      rw [e] at hn
      exact absurd hn (by simp)
  have hr : root u = ⊤ := by
    unfold root
    rw [hs, ofBits_128, Ideal.div_coe (by norm_num), mul_comm, EReal.coe_mul_top_of_pos (by norm_num),
      EReal.top_add_of_ne_bot (ne_of_gt (lt_trans EReal.bot_lt_zero Spec.eps_pos))]
    rfl
  rw [hr, Ideal.div, if_neg (by simp), EReal.inv_top, mul_zero]

theorem inf_dev (x : Fin 128 → EReal) (k : Fin 128) (h : Inf (x k)) (c : Fin 128) : Inf (dev x c) := by
  refine inf_sum _ k (inf_coe_mul ?_ h)
  split_ifs <;> norm_num

theorem inf_cen (x : Fin 128 → EReal) (k : Fin 128) (h : Inf (x k)) (c : Fin 128) : Inf (cen x c) := by
  unfold cen
  rw [ofBits_128, Ideal.div_coe (by norm_num), sub_eq_add_neg, add_comm, mul_comm]
  refine inf_add ?_ _
  have e := inf_coe_mul (r := 1 / 128) (by norm_num) (inf_sum x k h)
  rcases e with e | e
  · exact Or.inr (by rw [e, EReal.neg_top])
  · exact Or.inl (by rw [e, EReal.neg_bot])

/-- Over all extended reals the two ways of centring give the same quotient by the deviation: on finite channels the
    centred values are equal, and where a channel is infinite both are infinite throughout and both quotients are zero. -/
theorem quotient_dev (x : Fin 128 → EReal) (c : Fin 128) : Ideal.div (dev x c) (root (dev x)) = Ideal.div (cen x c) (std x) := by
  by_cases h : ∃ k, Inf (x k)
  · obtain ⟨k, hk⟩ := h
    rw [quotient_inf _ (inf_dev x k hk)]
    exact (quotient_inf _ (inf_cen x k hk) c).symm
  · have e : dev x = cen x := funext (cen_of_finite x fun k => real_of_not_inf fun hk => h ⟨k, hk⟩)
    rw [e]
    rfl

end Cert.ProjectSpec
end
-- ==== Proof.ProjectIdeal.Row.lean ====
module

public import proofs.«01_k».proof.Proof.ProjectIdeal.Hand
public import proofs.«01_k».proof.Proof.ProjectSpec
public import Idealize.ShloMosaic.Lib.Pointwise
public import Idealize.ShloMosaic.PureOps.IdealRules

@[expose] public section

set_option maxRecDepth 16384

/-! # What one trip of the row loop of the first call computes, at an index -/

noncomputable section

namespace Cert.ProjectIdeal.Hand

open Cert.ProjectIdeal Cert.ProjectIdeal.Gen
open Idealize.ShloMosaic Idealize.ShloMosaic.TcCoe

/-- The named constant is the real number 1/448. -/
theorem inv_max : Named.named (F := Ideal) (φ := .f32) κ "inv_max" 991054117#32 = ((1 / 448 : ℝ) : EReal) :=
  IdealRules.named_const.ideal_named_scalar _ _ _ _ rfl

section
variable (x : Vec Ideal S1x1x384x128 .bf16) (C : Vec Ideal S128x128 .bf16) (g : Vec Ideal S128x1 .f32) (o : Vec Ideal S128x1 .f32)

/-- A position's channels times the centring matrix. -/
def ucen (l : Fin 384) (c : Fin 128) : EReal := ∑ k, C (ix2 c k) * x (ix4 0 0 l k)

theorem pay2_raw (c : Fin 128) (l : Fin 384) :
    k0_pay2 (F := Ideal) x C g o (ix2 c l)
      = ucen x C l c * Ideal.div 1 (Ideal.sqrt (Ideal.div (∑ k, ucen x C l k * ucen x C l k) (Ideal.ofBits .f32 1124073472#32)
          + Ideal.ofBits .f32 925353388#32)) * g (ix2 c 0) + o (ix2 c 0) := by
  pointwise [k0_pay2]
  simp only [ucen]

theorem pay2_at (gam bet : Fin 128 → EReal) (y : Fin 128 → EReal) (l : Fin 384) (hu : ∀ c, ucen x C l c = ProjectSpec.dev y c)
    (hg : ∀ c, g (ix2 c 0) = gam c) (ho : ∀ c, o (ix2 c 0) = bet c) (c : Fin 128) :
    k0_pay2 (F := Ideal) x C g o (ix2 c l) = ProjectSpec.norm gam bet y c := by
  rw [pay2_raw]
  simp only [hu, hg, ho]
  rw [show Ideal.sqrt (Ideal.div (∑ k, ProjectSpec.dev y k * ProjectSpec.dev y k) (Ideal.ofBits .f32 1124073472#32)
          + Ideal.ofBits .f32 925353388#32) = ProjectSpec.root (ProjectSpec.dev y) from rfl,
    Spec.mul_div_one _ _ (ProjectSpec.root_ne_zero _), ProjectSpec.quotient_dev]
  rfl

theorem pay3_at (l : Fin 384) :
    k0_pay3 (F := Ideal) x C g o (ix2 0 l) = ProjectSpec.scale (fun c => k0_pay2 (F := Ideal) x C g o (ix2 c l)) := by
  pointwise [k0_pay3]
  simp only [ProjectSpec.scale, ProjectSpec.amax, Spec.div_448, inv_max, FloatOps.absf]

theorem pay4_at (c : Fin 128) (l : Fin 384) :
    k0_pay4 (F := Ideal) x C g o (ix2 c l)
      = Ideal.div (k0_pay2 (F := Ideal) x C g o (ix2 c l)) (ProjectSpec.scale (fun c => k0_pay2 (F := Ideal) x C g o (ix2 c l))) := by
  pointwise [k0_pay4, pay3_at]
  exact Spec.mul_div_one _ _ (ProjectSpec.scale_ne_zero _)

end

section
variable (v57 : FVec Ideal S1x384 .f32) (v61 : FVec Ideal S128x384 .f32) (cst : Ideal .f32) (v78 : Vec Ideal S384x128 .fp8e4m3)
  (v82 : Vec Ideal S1x1x384 .f32) (v85 v87 : Vec Ideal S96x1 .f32)

theorem pay5_at (c : Fin 128) (l : Fin 384) :
    k0_pay5 (F := Ideal) v61 cst (ix2 c l) = min (Ideal.ofBits .f32 1138753536#32) (max cst (v61 (ix2 c l))) := by
  pointwise [k0_pay5]

theorem pay6_at (l : Fin 384) : k0_pay6 (F := Ideal) v57 (ix3 0 0 l) = v57 (ix2 0 l) := by
  pointwise [k0_pay6]

theorem pay7_at (l : Fin 384) (c : Fin 128) :
    k0_pay7 (F := Ideal) v61 cst (ix4 0 0 l c) = min (Ideal.ofBits .f32 1138753536#32) (max cst (v61 (ix2 c l))) := by
  pointwise [k0_pay7, pay5_at]

theorem pay8_at (k l : Fin 384) :
    k0_pay8 (F := Ideal) v61 cst v78 (ix2 k l)
      = ∑ e, v78 (ix2 k e) * min (Ideal.ofBits .f32 1138753536#32) (max cst (v61 (ix2 e l))) := by
  pointwise [k0_pay8, pay5_at]

theorem pay9_at (l : Fin 384) : k0_pay9 (F := Ideal) v57 v82 (ix2 0 l) = v82 (ix3 0 0 l) * v57 (ix2 0 l) := by
  pointwise [k0_pay9]

theorem pay10_at (c : Fin 96) (l : Fin 384) :
    k0_pay10 (F := Ideal) v57 v61 cst v78 v82 v85 v87 (ix2 c l)
      = k0_pay8 (F := Ideal) v61 cst v78 (ix2 ⟨c, by omega⟩ l) * (v82 (ix3 0 0 l) * v57 (ix2 0 l))
        * Ideal.logistic (k0_pay8 (F := Ideal) v61 cst v78 (ix2 ⟨96 + c, by omega⟩ l) * v57 (ix2 0 l) * v87 (ix2 c 0))
        * v85 (ix2 c 0) := by
  unfold k0_pay10
  generalize k0_pay8 (F := Ideal) v61 cst v78 = P
  pointwise [pay9_at]

theorem pay11_at (c : Fin 96) :
    k0_pay11 (F := Ideal) v57 v61 cst v78 v82 v85 v87 (ix2 c 0)
      = ProjectSpec.amax (fun l => k0_pay10 (F := Ideal) v57 v61 cst v78 v82 v85 v87 (ix2 c l)) := by
  unfold k0_pay11
  generalize k0_pay10 (F := Ideal) v57 v61 cst v78 v82 v85 v87 = y
  pointwise
  simp only [ProjectSpec.amax, FloatOps.absf]

end

theorem pay12_at (v103 : FVec Ideal S96x1 .f32) (c : Fin 96) :
    k0_pay12 (F := Ideal) v103 (ix2 c 0) = if v103 (ix2 c 0) = 0 then 1 else Ideal.div (v103 (ix2 c 0)) (Ideal.ofBits .f32 1138753536#32) := by
  pointwise [k0_pay12]
  simp only [Spec.div_448, inv_max]

theorem pay13_at (v100 : FVec Ideal S96x384 .f32) (v103 : FVec Ideal S96x1 .f32) (c : Fin 96) (l : Fin 384)
    (h : v103 (ix2 c 0) = ProjectSpec.amax (fun l => v100 (ix2 c l))) :
    k0_pay13 (F := Ideal) v100 v103 (ix4 0 0 c l) = ProjectSpec.code (fun l => v100 (ix2 c l)) l := by
  pointwise [k0_pay13, pay12_at]
  rw [h, show (if ProjectSpec.amax (fun l => v100 (ix2 c l)) = 0 then (1 : EReal)
      else Ideal.div (ProjectSpec.amax (fun l => v100 (ix2 c l))) (Ideal.ofBits .f32 1138753536#32))
      = ProjectSpec.scale (fun l => v100 (ix2 c l)) from rfl, Spec.mul_div_one _ _ (ProjectSpec.scale_ne_zero _)]
  rfl

section
variable (v80 : FVec Ideal S384x384 .f32) (v84 : FVec Ideal S1x384 .f32) (v57 : FVec Ideal S1x384 .f32) (w s : Vec Ideal S96x1 .f32)

/-- The second gated operand of one row. -/
def bRow : FVec Ideal S96x384 .f32 := k0_pay19 (F := Ideal) v80 v84 (k0_pay15 w) (k0_pay16 s) (k0_pay17 v80) (k0_pay18 v57)

theorem pay19_at (c : Fin 96) (l : Fin 384) :
    bRow v80 v84 v57 w s (ix2 c l)
      = v80 (ix2 ⟨192 + c, by omega⟩ l) * v84 (ix2 0 l)
        * Ideal.logistic (v80 (ix2 ⟨288 + c, by omega⟩ l) * v57 (ix2 0 l) * s (ix2 c 0)) * w (ix2 c 0) := by
  pointwise [bRow, k0_pay19, k0_pay15, k0_pay16, k0_pay17, k0_pay18]

theorem pay20_at (c : Fin 96) :
    k0_pay20 (F := Ideal) v80 v84 (k0_pay15 w) (k0_pay16 s) (k0_pay17 v80) (k0_pay18 v57) (ix2 c 0)
      = ProjectSpec.scale (fun l => bRow v80 v84 v57 w s (ix2 c l)) := by
  unfold k0_pay20
  rw [show k0_pay19 (F := Ideal) v80 v84 (k0_pay15 w) (k0_pay16 s) (k0_pay17 v80) (k0_pay18 v57) = bRow v80 v84 v57 w s from rfl]
  generalize bRow v80 v84 v57 w s = y
  pointwise
  simp only [ProjectSpec.scale, ProjectSpec.amax, Spec.div_448, inv_max, FloatOps.absf]

theorem pay21_at (c : Fin 96) (l : Fin 384) :
    k0_pay21 (F := Ideal) v80 v84 (k0_pay15 w) (k0_pay16 s) (k0_pay17 v80) (k0_pay18 v57) (ix4 0 0 c l)
      = ProjectSpec.code (fun l => bRow v80 v84 v57 w s (ix2 c l)) l := by
  have h := pay20_at v80 v84 v57 w s c
  unfold k0_pay21
  rw [show k0_pay19 (F := Ideal) v80 v84 (k0_pay15 w) (k0_pay16 s) (k0_pay17 v80) (k0_pay18 v57) = bRow v80 v84 v57 w s from rfl]
  revert h
  generalize bRow v80 v84 v57 w s = y
  generalize k0_pay20 (F := Ideal) v80 v84 (k0_pay15 w) (k0_pay16 s) (k0_pay17 v80) (k0_pay18 v57) = q
  intro h
  pointwise
  rw [h, Spec.mul_div_one _ _ (ProjectSpec.scale_ne_zero _)]
  rfl

end

end Cert.ProjectIdeal.Hand
end
-- ==== Proof.ProjectIdeal.Host.lean ====
module

public import proofs.«01_k».proof.Proof.ProjectIdeal.Hand
public import proofs.«01_k».proof.Proof.ProjectSpec
public import Idealize.ShloMosaic.Lib.StableHlo.ReadAt
public import Idealize.ShloMosaic.Lib.Pointwise

@[expose] public section

set_option maxRecDepth 16384

/-! # The arrays that the host prepares for the first call, at an index -/

noncomputable section

namespace Cert.ProjectIdeal.Hand

open Cert.ProjectIdeal Cert.ProjectIdeal.Gen
open Idealize.ShloMosaic Idealize.ShloMosaic.TcCoe

variable (m : (ℓ : Loc nD τ sig) → Buf (Elt Ideal) ℓ)

/-- Core `c`'s argument arrays as the specification takes them. -/
def args (c : Dev nD) : ProjectSpec.Args where
  z b i j d := (m ((c : Thread nD τ).loc main_arg0) : Vec Ideal S2x384x384x128 .bf16) (ix4 b i j d)
  mask b i j := (m ((c : Thread nD τ).loc main_arg1) : Vec Ideal S2x384x384 .f32) (ix3 b i j)
  gamma d := (m ((c : Thread nD τ).loc main_arg2) : Vec Ideal S128 .f32) (ix1 d)
  beta d := (m ((c : Thread nD τ).loc main_arg3) : Vec Ideal S128 .f32) (ix1 d)
  wIn d k := (m ((c : Thread nD τ).loc main_arg4) : Vec Ideal S128x512 .fp8e4m3) (ix2 d k)
  sIn k := (m ((c : Thread nD τ).loc main_arg5) : Vec Ideal S512 .f32) (ix1 k)

theorem ofBits_inv_128 : Ideal.ofBits .f32 1006632960#32 = ((1 / 128 : ℝ) : EReal) := by
  simp [Ideal.ofBits, Ideal.ieee, -EReal.coe_mul]; norm_num

/-- Where the column's number is the row's. -/
theorem diag_at : ∀ a k : Fin 128, IntOp.cmpi .eq (IntOp.addi (BitVec.ofNat 32 a.val) 0#32) (BitVec.ofNat 32 k.val)
    = if a = k then 1#1 else 0#1 := by decide +kernel

theorem centre_raw (c : Dev nD) (a k : Fin 128) :
    (V m c main_v8 : Vec Ideal S128x128 .bf16) (ix2 a k)
      = FloatOps.uitofp (F := Ideal) .f32 (IntOp.cmpi .eq (IntOp.addi (BitVec.ofNat 32 a.val) 0#32) (BitVec.ofNat 32 k.val))
        - Ideal.ofBits .f32 1006632960#32 := by
  show StableHlo.after hostOps0 _ (Proc.devRef .tc main_v8) _ = _
  after_reads_at

/-- The centring matrix: the identity less 1/128. -/
theorem centre_at (c : Dev nD) (a k : Fin 128) :
    (V m c main_v8 : Vec Ideal S128x128 .bf16) (ix2 a k) = (((if a = k then 1 else 0 : ℝ) - 1 / 128 : ℝ) : EReal) := by
  rw [centre_raw, diag_at, ofBits_inv_128, EReal.coe_sub]
  congr 1
  split_ifs
  · show (((1#1 : BitVec 1).toNat : ℝ) : EReal) = _
    norm_num
  · show (((0#1 : BitVec 1).toNat : ℝ) : EReal) = _
    norm_num

/-- The column of normalisation gains. -/
theorem gamma_at (c : Dev nD) (d : Fin 128) : (V m c main_v13 : Vec Ideal S128x1 .f32) (ix2 d 0) = (args m c).gamma d := by
  show StableHlo.after hostOps0 _ (Proc.devRef .tc main_v13) _ = _
  after_reads_at
  rfl

/-- The column of normalisation offsets. -/
theorem beta_at (c : Dev nD) (d : Fin 128) : (V m c main_v14 : Vec Ideal S128x1 .f32) (ix2 d 0) = (args m c).beta d := by
  show StableHlo.after hostOps0 _ (Proc.devRef .tc main_v14) _ = _
  after_reads_at
  rfl

/-- The first 384 columns of the weights, transposed. -/
theorem wIn_at (c : Dev nD) (k : Fin 384) (e : Fin 128) :
    (V m c main_v15 : Vec Ideal S384x128 .fp8e4m3) (ix2 k e) = (args m c).wIn e ⟨k, by omega⟩ := by
  show StableHlo.after hostOps0 _ (Proc.devRef .tc main_v15) _ = _
  after_reads_at
  rfl

/-- The weights' scales, one for each row. -/
theorem sIn_at (c : Dev nD) (k : Fin 384) (l : Fin 128) :
    (V m c main_v12 : Vec Ideal S384x128 .f32) (ix2 k l) = (args m c).sIn ⟨k, by omega⟩ := by
  show StableHlo.after hostOps0 _ (Proc.devRef .tc main_v12) _ = _
  after_reads_at
  rfl

end Cert.ProjectIdeal.Hand
end
-- ==== Proof.ProjectIdeal.Blocks.lean ====
module

public import proofs.«01_k».proof.Proof.ProjectIdeal.Host

@[expose] public section

set_option maxRecDepth 16384

/-! # What each point of the first call reads through the windows, at an index -/

noncomputable section

namespace Cert.ProjectIdeal.Hand

open Cert.ProjectIdeal Cert.ProjectIdeal.Gen
open Idealize.ShloMosaic Idealize.ShloMosaic.TcCoe

variable (m : (ℓ : Loc nD τ sig) → Buf (Elt Ideal) ℓ)

/-- A load at an offset reads the element at the offset plus the index. -/
theorem ld_at {S : Shape} {e : EltTy} (x : Vec Ideal S e) (off size : Fin S.rank → ℕ) (inb : ∀ a, off a + size a ≤ S.size a)
    (y : (⟨S.rank, size⟩ : Shape).Idx) (z : S.Idx) (h : ∀ a, (z a).val = off a + (y a).val) :
    View.ld x (Rect.unit (s := S) off size inb) y = x z := by
  show x _ = x z
  congr 1
  funext a
  refine Fin.ext ?_
  rw [h a]
  show off a + 1 * (y a).val = _
  rw [Nat.one_mul]

/-! ## The windows' blocks: batch, row block -/

theorem idx0_at : ∀ t : Fin cfg0.N, win0_0.index t = ![t.val / 12, t.val % 12, 0, 0] :=
  (by decide +kernel : ∀ t : Fin grid0.N, _)
theorem idx1_at : ∀ t : Fin cfg0.N, win0_1.index t = ![t.val / 12, t.val % 12, 0] :=
  (by decide +kernel : ∀ t : Fin grid0.N, _)
theorem idx2_at : ∀ t : Fin cfg0.N, win0_2.index t = ![0, 0] :=
  (by decide +kernel : ∀ t : Fin grid0.N, _)
theorem idx3_at : ∀ t : Fin cfg0.N, win0_3.index t = ![0, 0] :=
  (by decide +kernel : ∀ t : Fin grid0.N, _)
theorem idx4_at : ∀ t : Fin cfg0.N, win0_4.index t = ![0, 0] :=
  (by decide +kernel : ∀ t : Fin grid0.N, _)
theorem idx5_at : ∀ t : Fin cfg0.N, win0_5.index t = ![0, 0] :=
  (by decide +kernel : ∀ t : Fin grid0.N, _)
theorem idx6_at : ∀ t : Fin cfg0.N, win0_6.index t = ![0, 0] :=
  (by decide +kernel : ∀ t : Fin grid0.N, _)
theorem idx7_at : ∀ t : Fin cfg0.N, win0_7.index t = ![t.val / 12, t.val % 12, 0, 0] :=
  (by decide +kernel : ∀ t : Fin grid0.N, _)
theorem idx8_at : ∀ t : Fin cfg0.N, win0_8.index t = ![t.val / 12, t.val % 12, 0] :=
  (by decide +kernel : ∀ t : Fin grid0.N, _)
theorem idx9_at : ∀ t : Fin cfg0.N, win0_9.index t = ![t.val / 12, t.val % 12, 0, 0] :=
  (by decide +kernel : ∀ t : Fin grid0.N, _)
theorem idx10_at : ∀ t : Fin cfg0.N, win0_10.index t = ![t.val / 12, t.val % 12, 0, 0] :=
  (by decide +kernel : ∀ t : Fin grid0.N, _)

/-- An index of a window's block is an index of its array at the block's offset. -/
theorem emb0_at (t : Fin cfg0.N) (j : S1x32x384x128.Idx) (a : Fin 4) : ((((cfg0.win 0).blk t).view.emb j) a).val = (![t.val / 12, t.val % 12, 0, 0] : Fin 4 → ℕ) a * S1x32x384x128.size a + (j a).val := by
  have e := congrFun (idx0_at t) a
  rw [← e]
  show win0_0.index t a * S1x32x384x128.size a + 1 * (j a).val = _
  rw [Nat.one_mul]
theorem emb1_at (t : Fin cfg0.N) (j : S1x32x384.Idx) (a : Fin 3) : ((((cfg0.win 1).blk t).view.emb j) a).val = (![t.val / 12, t.val % 12, 0] : Fin 3 → ℕ) a * S1x32x384.size a + (j a).val := by
  have e := congrFun (idx1_at t) a
  rw [← e]
  show win0_1.index t a * S1x32x384.size a + 1 * (j a).val = _
  rw [Nat.one_mul]
theorem emb2_at (t : Fin cfg0.N) (j : S128x128.Idx) (a : Fin 2) : ((((cfg0.win 2).blk t).view.emb j) a).val = (![0, 0] : Fin 2 → ℕ) a * S128x128.size a + (j a).val := by
  have e := congrFun (idx2_at t) a
  rw [← e]
  show win0_2.index t a * S128x128.size a + 1 * (j a).val = _
  rw [Nat.one_mul]
theorem emb3_at (t : Fin cfg0.N) (j : S128x1.Idx) (a : Fin 2) : ((((cfg0.win 3).blk t).view.emb j) a).val = (![0, 0] : Fin 2 → ℕ) a * S128x1.size a + (j a).val := by
  have e := congrFun (idx3_at t) a
  rw [← e]
  show win0_3.index t a * S128x1.size a + 1 * (j a).val = _
  rw [Nat.one_mul]
theorem emb4_at (t : Fin cfg0.N) (j : S128x1.Idx) (a : Fin 2) : ((((cfg0.win 4).blk t).view.emb j) a).val = (![0, 0] : Fin 2 → ℕ) a * S128x1.size a + (j a).val := by
  have e := congrFun (idx4_at t) a
  rw [← e]
  show win0_4.index t a * S128x1.size a + 1 * (j a).val = _
  rw [Nat.one_mul]
theorem emb5_at (t : Fin cfg0.N) (j : S384x128.Idx) (a : Fin 2) : ((((cfg0.win 5).blk t).view.emb j) a).val = (![0, 0] : Fin 2 → ℕ) a * S384x128.size a + (j a).val := by
  have e := congrFun (idx5_at t) a
  rw [← e]
  show win0_5.index t a * S384x128.size a + 1 * (j a).val = _
  rw [Nat.one_mul]
theorem emb6_at (t : Fin cfg0.N) (j : S384x128.Idx) (a : Fin 2) : ((((cfg0.win 6).blk t).view.emb j) a).val = (![0, 0] : Fin 2 → ℕ) a * S384x128.size a + (j a).val := by
  have e := congrFun (idx6_at t) a
  rw [← e]
  show win0_6.index t a * S384x128.size a + 1 * (j a).val = _
  rw [Nat.one_mul]
theorem emb7_at (t : Fin cfg0.N) (j : S1x32x384x128.Idx) (a : Fin 4) : ((((cfg0.win 7).blk t).view.emb j) a).val = (![t.val / 12, t.val % 12, 0, 0] : Fin 4 → ℕ) a * S1x32x384x128.size a + (j a).val := by
  have e := congrFun (idx7_at t) a
  rw [← e]
  show win0_7.index t a * S1x32x384x128.size a + 1 * (j a).val = _
  rw [Nat.one_mul]
theorem emb8_at (t : Fin cfg0.N) (j : S1x32x384.Idx) (a : Fin 3) : ((((cfg0.win 8).blk t).view.emb j) a).val = (![t.val / 12, t.val % 12, 0] : Fin 3 → ℕ) a * S1x32x384.size a + (j a).val := by
  have e := congrFun (idx8_at t) a
  rw [← e]
  show win0_8.index t a * S1x32x384.size a + 1 * (j a).val = _
  rw [Nat.one_mul]
theorem emb9_at (t : Fin cfg0.N) (j : S1x32x96x384.Idx) (a : Fin 4) : ((((cfg0.win 9).blk t).view.emb j) a).val = (![t.val / 12, t.val % 12, 0, 0] : Fin 4 → ℕ) a * S1x32x96x384.size a + (j a).val := by
  have e := congrFun (idx9_at t) a
  rw [← e]
  show win0_9.index t a * S1x32x96x384.size a + 1 * (j a).val = _
  rw [Nat.one_mul]
theorem emb10_at (t : Fin cfg0.N) (j : S1x32x96x384.Idx) (a : Fin 4) : ((((cfg0.win 10).blk t).view.emb j) a).val = (![t.val / 12, t.val % 12, 0, 0] : Fin 4 → ℕ) a * S1x32x96x384.size a + (j a).val := by
  have e := congrFun (idx10_at t) a
  rw [← e]
  show win0_10.index t a * S1x32x96x384.size a + 1 * (j a).val = _
  rw [Nat.one_mul]

/-- The block of the input. -/
theorem iblk0_at (c : Dev nD) (t : Fin cfg0.N) (b : Fin 2) (hb : b.val = t.val / 12) (i : Fin 384) (r : Fin 32) (hi : i.val = t.val % 12 * 32 + r.val) (l : Fin 384) (d : Fin 128) :
    iblk m c 0 t (ix4 0 r l d) = (args m c).z b i l d := by
  have e' : ((cfg0.win 0).blk t).view.emb (ix4 0 r l d : S1x32x384x128.Idx) = ix4 b i l d := by
    funext a
    refine Fin.ext ?_
    rw [emb0_at]
    match a with
    | ⟨0, _⟩ => show t.val / 12 * 1 + 0 = b.val; omega
    | ⟨1, _⟩ => show (t.val % 12) * 32 + r.val = i.val; omega
    | ⟨2, _⟩ => show 0 * 384 + l.val = l.val; omega
    | ⟨3, _⟩ => show 0 * 128 + d.val = d.val; omega
  show V m c main_arg0 (((cfg0.win 0).blk t).view.emb (ix4 0 r l d : S1x32x384x128.Idx)) = _
  rw [e']
  rw [V_main_arg0]; rfl

/-- The block of the mask. -/
theorem iblk1_at (c : Dev nD) (t : Fin cfg0.N) (b : Fin 2) (hb : b.val = t.val / 12) (i : Fin 384) (r : Fin 32) (hi : i.val = t.val % 12 * 32 + r.val) (l : Fin 384) :
    iblk m c 1 t (ix3 0 r l) = (args m c).mask b i l := by
  have e' : ((cfg0.win 1).blk t).view.emb (ix3 0 r l : S1x32x384.Idx) = ix3 b i l := by
    funext a
    refine Fin.ext ?_
    rw [emb1_at]
    match a with
    | ⟨0, _⟩ => show t.val / 12 * 1 + 0 = b.val; omega
    | ⟨1, _⟩ => show (t.val % 12) * 32 + r.val = i.val; omega
    | ⟨2, _⟩ => show 0 * 384 + l.val = l.val; omega
  show V m c main_arg1 (((cfg0.win 1).blk t).view.emb (ix3 0 r l : S1x32x384.Idx)) = _
  rw [e']
  rw [V_main_arg1]; rfl

/-- The centring matrix. -/
theorem iblk2_at (c : Dev nD) (t : Fin cfg0.N) (a k : Fin 128) :
    iblk m c 2 t (ix2 a k) = (((if a = k then 1 else 0 : ℝ) - 1 / 128 : ℝ) : EReal) := by
  have e' : ((cfg0.win 2).blk t).view.emb (ix2 a k : S128x128.Idx) = ix2 a k := by
    funext x
    refine Fin.ext ?_
    rw [emb2_at]
    match x with
    | ⟨0, _⟩ => show 0 * 128 + a.val = a.val; omega
    | ⟨1, _⟩ => show 0 * 128 + k.val = k.val; omega
  show V m c main_v8 (((cfg0.win 2).blk t).view.emb (ix2 a k : S128x128.Idx)) = _
  rw [e']
  exact centre_at m c a k

/-- The column `gamma`. -/
theorem iblk3_at (c : Dev nD) (t : Fin cfg0.N) (d : Fin 128) :
    iblk m c 3 t (ix2 d 0) = (args m c).gamma d := by
  have e' : ((cfg0.win 3).blk t).view.emb (ix2 d 0 : S128x1.Idx) = ix2 d 0 := by
    funext a
    refine Fin.ext ?_
    rw [emb3_at]
    match a with
    | ⟨0, _⟩ => show 0 * 128 + d.val = d.val; omega
    | ⟨1, _⟩ => show 0 * 1 + 0 = 0; omega
  show V m c main_v13 (((cfg0.win 3).blk t).view.emb (ix2 d 0 : S128x1.Idx)) = _
  rw [e']
  exact gamma_at m c d

/-- The column `beta`. -/
theorem iblk4_at (c : Dev nD) (t : Fin cfg0.N) (d : Fin 128) :
    iblk m c 4 t (ix2 d 0) = (args m c).beta d := by
  have e' : ((cfg0.win 4).blk t).view.emb (ix2 d 0 : S128x1.Idx) = ix2 d 0 := by
    funext a
    refine Fin.ext ?_
    rw [emb4_at]
    match a with
    | ⟨0, _⟩ => show 0 * 128 + d.val = d.val; omega
    | ⟨1, _⟩ => show 0 * 1 + 0 = 0; omega
  show V m c main_v14 (((cfg0.win 4).blk t).view.emb (ix2 d 0 : S128x1.Idx)) = _
  rw [e']
  exact beta_at m c d

/-- The weights. -/
theorem iblk5_at (c : Dev nD) (t : Fin cfg0.N) (k : Fin 384) (e : Fin 128) :
    iblk m c 5 t (ix2 k e) = (args m c).wIn e ⟨k, by omega⟩ := by
  have e' : ((cfg0.win 5).blk t).view.emb (ix2 k e : S384x128.Idx) = ix2 k e := by
    funext a
    refine Fin.ext ?_
    rw [emb5_at]
    match a with
    | ⟨0, _⟩ => show 0 * 384 + k.val = k.val; omega
    | ⟨1, _⟩ => show 0 * 128 + e.val = e.val; omega
  show V m c main_v15 (((cfg0.win 5).blk t).view.emb (ix2 k e : S384x128.Idx)) = _
  rw [e']
  exact wIn_at m c k e

/-- The weights' scales. -/
theorem iblk6_at (c : Dev nD) (t : Fin cfg0.N) (k : Fin 384) (l : Fin 128) :
    iblk m c 6 t (ix2 k l) = (args m c).sIn ⟨k, by omega⟩ := by
  have e' : ((cfg0.win 6).blk t).view.emb (ix2 k l : S384x128.Idx) = ix2 k l := by
    funext a
    refine Fin.ext ?_
    rw [emb6_at]
    match a with
    | ⟨0, _⟩ => show 0 * 384 + k.val = k.val; omega
    | ⟨1, _⟩ => show 0 * 128 + l.val = l.val; omega
  show V m c main_v12 (((cfg0.win 6).blk t).view.emb (ix2 k l : S384x128.Idx)) = _
  rw [e']
  exact sIn_at m c k l

end Cert.ProjectIdeal.Hand
end
-- ==== Proof.ProjectIdeal.Value.lean ====
module

public import proofs.«01_k».proof.Proof.ProjectIdeal.Row
public import proofs.«01_k».proof.Proof.ProjectIdeal.Blocks
public import Idealize.ShloMosaic.Lib.Pipeline.ValueKit.Basic

@[expose] public section

set_option maxRecDepth 16384

/-! # What each point of the first call leaves in the result windows, at an index -/

noncomputable section

namespace Cert.ProjectIdeal.Hand

open Cert.ProjectIdeal Cert.ProjectIdeal.Gen
open Idealize.ShloMosaic Idealize.ShloMosaic.TcCoe

variable (m : (ℓ : Loc nD τ sig) → Buf (Elt Ideal) ℓ)

/-- A row of a position block. -/
theorem ldRow_at (k : Fin k0_t1_loop.trips) {e : EltTy} (x : Vec Ideal S1x32x384x128 e) (l : Fin 384) (d : Fin 128) (r : Fin 32) (hr : r.val = k.val) :
    View.ld x (Rect.unit (s := S1x32x384x128) (k0_off1 k) S1x1x384x128.size (k0_off1_inb k)) (ix4 0 0 l d) = x (ix4 0 r l d) := by
  refine ld_at x _ _ _ _ _ fun a => ?_
  rw [k0_off1_eq]
  match a with
  | ⟨0, _⟩ => rfl
  | ⟨1, _⟩ => exact hr
  | ⟨2, _⟩ => exact (Nat.zero_add _).symm
  | ⟨3, _⟩ => exact (Nat.zero_add _).symm

/-- A row of a mask block. -/
theorem ldMask_at (k : Fin k0_t1_loop.trips) {e : EltTy} (x : Vec Ideal S1x32x384 e) (l : Fin 384) (r : Fin 32) (hr : r.val = k.val) :
    View.ld x (Rect.unit (s := S1x32x384) (k0_off2 k) S1x1x384.size (k0_off2_inb k)) (ix3 0 0 l) = x (ix3 0 r l) := by
  refine ld_at x _ _ _ _ _ fun a => ?_
  rw [k0_off2_eq]
  match a with
  | ⟨0, _⟩ => rfl
  | ⟨1, _⟩ => exact hr
  | ⟨2, _⟩ => exact (Nat.zero_add _).symm

/-- Part of a column of the scales. -/
theorem ldCol_at (n : ℕ) (inb : ∀ a, (![n, 0] : Fin 2 → ℕ) a + S96x1.size a ≤ S384x128.size a) (x : Vec Ideal S384x128 .f32) (c : Fin 96) (h : n + c.val < 384) :
    View.ld x (Rect.unit (s := S384x128) ![n, 0] S96x1.size inb) (ix2 c 0) = x (ix2 ⟨n + c.val, h⟩ 0) := by
  refine ld_at x _ _ _ _ _ fun a => ?_
  match a with
  | ⟨0, _⟩ => rfl
  | ⟨1, _⟩ => rfl

/-- The kernel's order of the gating's factors and the specification's. -/
theorem gate_reorder (S M s L q : EReal) : S * (M * s) * L * q = M * L * (S * s * q) := by
  ac_rfl

theorem trips1_le (k : Fin k0_t1_loop.trips) : k.val < 32 := lt_of_lt_of_eq k.isLt trips1_eq

section
variable (c : Dev nD) (t : Fin cfg0.N) (b : Fin 2) (hb : b.val = t.val / 12) (i : Fin 384)
  (k : Fin k0_t1_loop.trips) (hi : i.val = t.val % 12 * 32 + k.val)
  (x2 : Vec Ideal S1x32x384x128 .bf16) (x3 : Vec Ideal S1x32x384 .f32) (x4 : Vec Ideal S128x128 .bf16) (x5 x6 : Vec Ideal S128x1 .f32)
  (x7 : Vec Ideal S384x128 .fp8e4m3) (x8 : Vec Ideal S384x128 .f32)
  (h2 : x2 = iblk m c 0 t) (h3 : x3 = iblk m c 1 t) (h4 : x4 = iblk m c 2 t) (h5 : x5 = iblk m c 3 t) (h6 : x6 = iblk m c 4 t)
  (h7 : x7 = iblk m c 5 t) (h8 : x8 = iblk m c 6 t)

include hb hi h2 h4 h5 h6

/-- The layer norm that trip `k` computes. -/
theorem norm_eq (l : Fin 384) :
    (fun d => k0_pay2 (F := Ideal) (View.ld x2 (Rect.unit (s := S1x32x384x128) (k0_off1 k) S1x1x384x128.size (k0_off1_inb k)))
      (View.ld x4 (Rect.unit (s := S128x128) ![0, 0] S128x128.size inb_S128x128_S128x128_0_0))
      (View.ld x5 (Rect.unit (s := S128x1) ![0, 0] S128x1.size inb_S128x1_S128x1_0_0))
      (View.ld x6 (Rect.unit (s := S128x1) ![0, 0] S128x1.size inb_S128x1_S128x1_0_0)) (ix2 d l)) = ProjectSpec.normed (args m c) b i l := by
  rw [View.ld_unit_lit _ x4 (by decide), View.ld_unit_lit _ x5 (by decide), View.ld_unit_lit _ x6 (by decide)]
  funext d
  refine pay2_at _ x4 x5 x6 (args m c).gamma (args m c).beta ((args m c).z b i l) l (fun d => ?_) (fun d => ?_) (fun d => ?_) d
  · unfold ucen ProjectSpec.dev
    refine Finset.sum_congr rfl fun e _ => ?_
    rw [ldRow_at k x2 l e ⟨k.val, trips1_le k⟩ rfl, h2, h4, iblk0_at m c t b hb i ⟨k.val, trips1_le k⟩ hi l e, iblk2_at]
  · rw [h5, iblk3_at]
  · rw [h6, iblk4_at]

/-- The scales that trip `k` computes. -/
theorem Psc_at (l : Fin 384) : Psc x2 x3 x4 x5 x6 x7 x8 k (ix2 0 l) = ProjectSpec.scale (ProjectSpec.normed (args m c) b i l) := by
  unfold Psc
  rw [pay3_at, norm_eq m c t b hb i k hi x2 x4 x5 x6 h2 h4 h5 h6 l]

/-- The layer norm over its scale. -/
theorem Pq_at (d : Fin 128) (l : Fin 384) : Pq x2 x3 x4 x5 x6 x7 x8 k (ix2 d l)
    = Ideal.div (ProjectSpec.normed (args m c) b i l d) (ProjectSpec.scale (ProjectSpec.normed (args m c) b i l)) := by
  unfold Pq
  have e := norm_eq m c t b hb i k hi x2 x4 x5 x6 h2 h4 h5 h6 l
  rw [pay4_at, e, ← congrFun e d]

/-- The codes that trip `k` stores. -/
theorem P9_at (l : Fin 384) (d : Fin 128) : P9 x2 x3 x4 x5 x6 x7 x8 k (ix4 0 0 l d) = ProjectSpec.outQ (args m c) b i l d := by
  unfold P9
  rw [pay7_at, Pq_at m c t b hb i k hi x2 x3 x4 x5 x6 x7 x8 h2 h4 h5 h6 d l]
  rfl

/-- The scales that trip `k` stores. -/
theorem P10_at (l : Fin 384) : P10 x2 x3 x4 x5 x6 x7 x8 k (ix3 0 0 l) = ProjectSpec.outS (args m c) b i l := by
  unfold P10
  rw [pay6_at, Psc_at m c t b hb i k hi x2 x3 x4 x5 x6 x7 x8 h2 h4 h5 h6 l]
  rfl

include h7

/-- The product with the weights. -/
theorem Pprod_at (n l : Fin 384) : Pprod x2 x3 x4 x5 x6 x7 x8 k (ix2 n l)
    = ∑ e, ProjectSpec.code (ProjectSpec.normed (args m c) b i l) e * (args m c).wIn e ⟨n, by omega⟩ := by
  unfold Pprod
  rw [pay8_at]
  refine Finset.sum_congr rfl fun e _ => ?_
  rw [View.ld_unit_lit _ x7 (by decide), Pq_at m c t b hb i k hi x2 x3 x4 x5 x6 x7 x8 h2 h4 h5 h6 e l, h7, iblk5_at, mul_comm]
  rfl

include h3 h8

/-- The first gated operand. -/
theorem Pa_at (ch : Fin 96) (l : Fin 384) : Pa x2 x3 x4 x5 x6 x7 x8 k (ix2 ch l) = ProjectSpec.gatedA (args m c) b i ch l := by
  unfold Pa
  rw [pay10_at, show k0_pay8 (F := Ideal) (Pq x2 x3 x4 x5 x6 x7 x8 k) (Scalar.ofBits .f32 0xC3E00000#32)
      (View.ld x7 (Rect.unit (s := S384x128) ![0, 0] S384x128.size inb_S384x128_S384x128_0_0)) = Pprod x2 x3 x4 x5 x6 x7 x8 k from rfl,
    Pprod_at m c t b hb i k hi x2 x3 x4 x5 x6 x7 x8 h2 h4 h5 h6 h7, Pprod_at m c t b hb i k hi x2 x3 x4 x5 x6 x7 x8 h2 h4 h5 h6 h7,
    Psc_at m c t b hb i k hi x2 x3 x4 x5 x6 x7 x8 h2 h4 h5 h6 l, ldMask_at k x3 l ⟨k.val, trips1_le k⟩ rfl,
    ldCol_at 0 _ x8 ch (by omega), ldCol_at 96 _ x8 ch (by omega), h3, h8, iblk1_at m c t b hb i ⟨k.val, trips1_le k⟩ hi l,
    iblk6_at, iblk6_at, gate_reorder]
  unfold ProjectSpec.gatedA ProjectSpec.proj
  simp only [Nat.zero_add]

/-- The first operand's codes that trip `k` stores. -/
theorem P11_at (ch : Fin 96) (l : Fin 384) : P11 x2 x3 x4 x5 x6 x7 x8 k (ix4 0 0 ch l) = ProjectSpec.outA (args m c) b i ch l := by
  unfold P11
  rw [pay13_at _ _ ch l (show Pamax x2 x3 x4 x5 x6 x7 x8 k (ix2 ch 0)
      = ProjectSpec.amax (fun l => Pa x2 x3 x4 x5 x6 x7 x8 k (ix2 ch l)) from pay11_at _ _ _ _ _ _ _ ch)]
  unfold ProjectSpec.outA
  refine congrArg (fun y => ProjectSpec.code y l) (funext fun l => ?_)
  exact Pa_at m c t b hb i k hi x2 x3 x4 x5 x6 x7 x8 h2 h3 h4 h5 h6 h7 h8 ch l

/-- The second operand's codes that trip `k` stores. -/
theorem P12_at (ch : Fin 96) (l : Fin 384) : P12 x2 x3 x4 x5 x6 x7 x8 k (ix4 0 0 ch l) = ProjectSpec.outB (args m c) b i ch l := by
  unfold P12
  rw [pay21_at]
  unfold ProjectSpec.outB
  refine congrArg (fun y => ProjectSpec.code y l) (funext fun l => ?_)
  rw [pay19_at,
    Pprod_at m c t b hb i k hi x2 x3 x4 x5 x6 x7 x8 h2 h4 h5 h6 h7, Pprod_at m c t b hb i k hi x2 x3 x4 x5 x6 x7 x8 h2 h4 h5 h6 h7]
  unfold Pmask
  rw [pay9_at, Psc_at m c t b hb i k hi x2 x3 x4 x5 x6 x7 x8 h2 h4 h5 h6 l, ldMask_at k x3 l ⟨k.val, trips1_le k⟩ rfl,
    ldCol_at 192 _ x8 ch (by omega), ldCol_at 288 _ x8 ch (by omega), h3, h8, iblk1_at m c t b hb i ⟨k.val, trips1_le k⟩ hi l,
    iblk6_at, iblk6_at, gate_reorder]
  rfl

end

end Cert.ProjectIdeal.Hand
end
-- ==== Proof.ProjectIdeal.Arrays.lean ====
module

public import proofs.«01_k».proof.Proof.ProjectIdeal.Value
public import Idealize.ShloMosaic.Lib.Pipeline.Value

@[expose] public section

set_option maxRecDepth 16384

/-! # The result arrays of the first call after the run -/

noncomputable section

namespace Cert.ProjectIdeal.Hand

open Cert.ProjectIdeal Cert.ProjectIdeal.Gen
open Idealize.ShloMosaic Idealize.ShloMosaic.TcCoe
open Idealize.ShloMosaic.Pipeline (Dat)

variable (m : (ℓ : Loc nD τ sig) → Buf (Elt Ideal) ℓ)

theorem N_eq : cfg0.N = 24 := by decide +kernel

/-- The grid point that computes row `i` of batch `b`. -/
def ptOf (b i : ℕ) : Fin cfg0.N := ⟨(b * 12 + i / 32) % 24, lt_of_lt_of_eq (Nat.mod_lt _ (by decide)) N_eq.symm⟩

theorem ptOf_val (b : Fin 2) (i : Fin 384) : (ptOf b.val i.val).val = b.val * 12 + i.val / 32 :=
  Nat.mod_eq_of_lt (by omega)

/-! ## Result `q1` -/

/-- The specification's `q1` as an array. -/
def Z7 (c : Dev nD) : Vec Ideal S2x384x384x128 .fp8e4m3 := fun y => ProjectSpec.outQ (args m c) (y 0) (y 1) (y 2) (y 3)

theorem flush7_at : ∀ t : Fin cfg0.N, (cfg0.win 7).flush t = true := by decide +kernel

/-- What point `t` writes back is its block of the specification's array. -/
theorem flushed7_eq (c : Dev nD) (t : Fin cfg0.N) :
    (dats m 0 c).flushed 7 t = ((cfg0.win 7).blk t).view.read (Elt Ideal) (Z7 m c) := by
  show (cfg0.win 7).cut (grid0.coords t) ((dats m 0 c).after 7 t) = _
  rw [after_7]
  funext y
  change S1x32x384x128.Idx at y
  show outAt9 m c t y = Z7 m c (((cfg0.win 7).blk t).view.emb y)
  obtain ⟨E, hE⟩ : ∃ E : S2x384x384x128.Idx, E = (((cfg0.win 7).blk t).view.emb y) := ⟨_, rfl⟩
  have h0 : (E 0).val = t.val / 12 * 1 + (y 0).val := by rw [hE]; exact emb7_at t y 0
  have h1 : (E 1).val = t.val % 12 * 32 + (y 1).val := by rw [hE]; exact emb7_at t y 1
  have h2 : E 2 = y 2 := Fin.ext (by rw [hE]; exact (emb7_at t y 2).trans (by show 0 * 384 + (y 2).val = _; omega))
  have h3 : E 3 = y 3 := Fin.ext (by rw [hE]; exact (emb7_at t y 3).trans (by show 0 * 128 + (y 3).val = _; omega))
  have hy : (y 0).val = 0 := Nat.lt_one_iff.mp (y 0).isLt
  rw [← hE]
  have hb : (E 0).val = t.val / 12 := by omega
  unfold Z7
  rw [h2, h3]
  exact P9_at m c t (E 0) hb (E 1) ⟨(y 1).val, lt_of_lt_of_eq (y 1).isLt trips1_eq.symm⟩ h1 (iblk m c 0 t) (iblk m c 1 t) (iblk m c 2 t) (iblk m c 3 t) (iblk m c 4 t) (iblk m c 5 t) (iblk m c 6 t) rfl rfl rfl rfl (y 2) (y 3)

/-- Every index of the array is in some point's block. -/
theorem covered7 (x : S2x384x384x128.Idx) : ∃ t : Fin cfg0.N, (cfg0.win 7).flush t = true ∧ x ∈ ((cfg0.win 7).blk t).view.set := by
  have hx0 : (x 0).val < 2 := (x 0).isLt
  have hx1 : (x 1).val < 384 := (x 1).isLt
  have ht := ptOf_val (x 0) (x 1)
  generalize ptOf (x 0).val (x 1).val = t at ht
  refine ⟨t, flush7_at _, ?_⟩
  have h := ((cfg0.win 7).blk t).view.emb_mem_set (ix4 0 ⟨(x 1).val % 32, by omega⟩ (x 2) (x 3) : S1x32x384x128.Idx)
  have e : ((cfg0.win 7).blk t).view.emb (ix4 0 ⟨(x 1).val % 32, by omega⟩ (x 2) (x 3) : S1x32x384x128.Idx) = x := by
    funext a
    refine Fin.ext ?_
    rw [emb7_at]
    match a with
    | ⟨0, _⟩ => show t.val / 12 * 1 + 0 = (x 0).val; omega
    | ⟨1, _⟩ => show t.val % 12 * 32 + (x 1).val % 32 = (x 1).val; omega
    | ⟨2, _⟩ => show 0 * 384 + (x 2).val = (x 2).val; omega
    | ⟨3, _⟩ => show 0 * 128 + (x 3).val = (x 3).val; omega
  rwa [e] at h

/-- The array after the run is the specification's. -/
theorem final7 (c : Dev nD) : (dats m 0 c).arrAt 7 cfg0.N = Z7 m c :=
  (dats m 0 c).arrAt_eq_of_cover 7 (Z7 m c) (fun t _ => flushed7_eq m c t) covered7

/-! ## Result `s1` -/

/-- The specification's `s1` as an array. -/
def Z8 (c : Dev nD) : Vec Ideal S2x384x384 .f32 := fun y => ProjectSpec.outS (args m c) (y 0) (y 1) (y 2)

theorem flush8_at : ∀ t : Fin cfg0.N, (cfg0.win 8).flush t = true := by decide +kernel

/-- What point `t` writes back is its block of the specification's array. -/
theorem flushed8_eq (c : Dev nD) (t : Fin cfg0.N) :
    (dats m 0 c).flushed 8 t = ((cfg0.win 8).blk t).view.read (Elt Ideal) (Z8 m c) := by
  show (cfg0.win 8).cut (grid0.coords t) ((dats m 0 c).after 8 t) = _
  rw [after_8]
  funext y
  change S1x32x384.Idx at y
  show outAt10 m c t y = Z8 m c (((cfg0.win 8).blk t).view.emb y)
  obtain ⟨E, hE⟩ : ∃ E : S2x384x384.Idx, E = (((cfg0.win 8).blk t).view.emb y) := ⟨_, rfl⟩
  have h0 : (E 0).val = t.val / 12 * 1 + (y 0).val := by rw [hE]; exact emb8_at t y 0
  have h1 : (E 1).val = t.val % 12 * 32 + (y 1).val := by rw [hE]; exact emb8_at t y 1
  have h2 : E 2 = y 2 := Fin.ext (by rw [hE]; exact (emb8_at t y 2).trans (by show 0 * 384 + (y 2).val = _; omega))
  have hy : (y 0).val = 0 := Nat.lt_one_iff.mp (y 0).isLt
  rw [← hE]
  have hb : (E 0).val = t.val / 12 := by omega
  unfold Z8
  rw [h2]
  exact P10_at m c t (E 0) hb (E 1) ⟨(y 1).val, lt_of_lt_of_eq (y 1).isLt trips1_eq.symm⟩ h1 (iblk m c 0 t) (iblk m c 1 t) (iblk m c 2 t) (iblk m c 3 t) (iblk m c 4 t) (iblk m c 5 t) (iblk m c 6 t) rfl rfl rfl rfl (y 2)

/-- Every index of the array is in some point's block. -/
theorem covered8 (x : S2x384x384.Idx) : ∃ t : Fin cfg0.N, (cfg0.win 8).flush t = true ∧ x ∈ ((cfg0.win 8).blk t).view.set := by
  have hx0 : (x 0).val < 2 := (x 0).isLt
  have hx1 : (x 1).val < 384 := (x 1).isLt
  have ht := ptOf_val (x 0) (x 1)
  generalize ptOf (x 0).val (x 1).val = t at ht
  refine ⟨t, flush8_at _, ?_⟩
  have h := ((cfg0.win 8).blk t).view.emb_mem_set (ix3 0 ⟨(x 1).val % 32, by omega⟩ (x 2) : S1x32x384.Idx)
  have e : ((cfg0.win 8).blk t).view.emb (ix3 0 ⟨(x 1).val % 32, by omega⟩ (x 2) : S1x32x384.Idx) = x := by
    funext a
    refine Fin.ext ?_
    rw [emb8_at]
    match a with
    | ⟨0, _⟩ => show t.val / 12 * 1 + 0 = (x 0).val; omega
    | ⟨1, _⟩ => show t.val % 12 * 32 + (x 1).val % 32 = (x 1).val; omega
    | ⟨2, _⟩ => show 0 * 384 + (x 2).val = (x 2).val; omega
  rwa [e] at h

/-- The array after the run is the specification's. -/
theorem final8 (c : Dev nD) : (dats m 0 c).arrAt 8 cfg0.N = Z8 m c :=
  (dats m 0 c).arrAt_eq_of_cover 8 (Z8 m c) (fun t _ => flushed8_eq m c t) covered8

/-! ## Result `a` -/

/-- The specification's `a` as an array. -/
def Z9 (c : Dev nD) : Vec Ideal S2x384x96x384 .fp8e4m3 := fun y => ProjectSpec.outA (args m c) (y 0) (y 1) (y 2) (y 3)

theorem flush9_at : ∀ t : Fin cfg0.N, (cfg0.win 9).flush t = true := by decide +kernel

/-- What point `t` writes back is its block of the specification's array. -/
theorem flushed9_eq (c : Dev nD) (t : Fin cfg0.N) :
    (dats m 0 c).flushed 9 t = ((cfg0.win 9).blk t).view.read (Elt Ideal) (Z9 m c) := by
  show (cfg0.win 9).cut (grid0.coords t) ((dats m 0 c).after 9 t) = _
  rw [after_9]
  funext y
  change S1x32x96x384.Idx at y
  show outAt11 m c t y = Z9 m c (((cfg0.win 9).blk t).view.emb y)
  obtain ⟨E, hE⟩ : ∃ E : S2x384x96x384.Idx, E = (((cfg0.win 9).blk t).view.emb y) := ⟨_, rfl⟩
  have h0 : (E 0).val = t.val / 12 * 1 + (y 0).val := by rw [hE]; exact emb9_at t y 0
  have h1 : (E 1).val = t.val % 12 * 32 + (y 1).val := by rw [hE]; exact emb9_at t y 1
  have h2 : E 2 = y 2 := Fin.ext (by rw [hE]; exact (emb9_at t y 2).trans (by show 0 * 96 + (y 2).val = _; omega))
  have h3 : E 3 = y 3 := Fin.ext (by rw [hE]; exact (emb9_at t y 3).trans (by show 0 * 384 + (y 3).val = _; omega))
  have hy : (y 0).val = 0 := Nat.lt_one_iff.mp (y 0).isLt
  rw [← hE]
  have hb : (E 0).val = t.val / 12 := by omega
  unfold Z9
  rw [h2, h3]
  exact P11_at m c t (E 0) hb (E 1) ⟨(y 1).val, lt_of_lt_of_eq (y 1).isLt trips1_eq.symm⟩ h1 (iblk m c 0 t) (iblk m c 1 t) (iblk m c 2 t) (iblk m c 3 t) (iblk m c 4 t) (iblk m c 5 t) (iblk m c 6 t) rfl rfl rfl rfl rfl rfl rfl (y 2) (y 3)

/-- Every index of the array is in some point's block. -/
theorem covered9 (x : S2x384x96x384.Idx) : ∃ t : Fin cfg0.N, (cfg0.win 9).flush t = true ∧ x ∈ ((cfg0.win 9).blk t).view.set := by
  have hx0 : (x 0).val < 2 := (x 0).isLt
  have hx1 : (x 1).val < 384 := (x 1).isLt
  have ht := ptOf_val (x 0) (x 1)
  generalize ptOf (x 0).val (x 1).val = t at ht
  refine ⟨t, flush9_at _, ?_⟩
  have h := ((cfg0.win 9).blk t).view.emb_mem_set (ix4 0 ⟨(x 1).val % 32, by omega⟩ (x 2) (x 3) : S1x32x96x384.Idx)
  have e : ((cfg0.win 9).blk t).view.emb (ix4 0 ⟨(x 1).val % 32, by omega⟩ (x 2) (x 3) : S1x32x96x384.Idx) = x := by
    funext a
    refine Fin.ext ?_
    rw [emb9_at]
    match a with
    | ⟨0, _⟩ => show t.val / 12 * 1 + 0 = (x 0).val; omega
    | ⟨1, _⟩ => show t.val % 12 * 32 + (x 1).val % 32 = (x 1).val; omega
    | ⟨2, _⟩ => show 0 * 96 + (x 2).val = (x 2).val; omega
    | ⟨3, _⟩ => show 0 * 384 + (x 3).val = (x 3).val; omega
  rwa [e] at h

/-- The array after the run is the specification's. -/
theorem final9 (c : Dev nD) : (dats m 0 c).arrAt 9 cfg0.N = Z9 m c :=
  (dats m 0 c).arrAt_eq_of_cover 9 (Z9 m c) (fun t _ => flushed9_eq m c t) covered9

/-! ## Result `b` -/

/-- The specification's `b` as an array. -/
def Z10 (c : Dev nD) : Vec Ideal S2x384x96x384 .fp8e4m3 := fun y => ProjectSpec.outB (args m c) (y 0) (y 1) (y 2) (y 3)

theorem flush10_at : ∀ t : Fin cfg0.N, (cfg0.win 10).flush t = true := by decide +kernel

/-- What point `t` writes back is its block of the specification's array. -/
theorem flushed10_eq (c : Dev nD) (t : Fin cfg0.N) :
    (dats m 0 c).flushed 10 t = ((cfg0.win 10).blk t).view.read (Elt Ideal) (Z10 m c) := by
  show (cfg0.win 10).cut (grid0.coords t) ((dats m 0 c).after 10 t) = _
  rw [after_10]
  funext y
  change S1x32x96x384.Idx at y
  show outAt12 m c t y = Z10 m c (((cfg0.win 10).blk t).view.emb y)
  obtain ⟨E, hE⟩ : ∃ E : S2x384x96x384.Idx, E = (((cfg0.win 10).blk t).view.emb y) := ⟨_, rfl⟩
  have h0 : (E 0).val = t.val / 12 * 1 + (y 0).val := by rw [hE]; exact emb10_at t y 0
  have h1 : (E 1).val = t.val % 12 * 32 + (y 1).val := by rw [hE]; exact emb10_at t y 1
  have h2 : E 2 = y 2 := Fin.ext (by rw [hE]; exact (emb10_at t y 2).trans (by show 0 * 96 + (y 2).val = _; omega))
  have h3 : E 3 = y 3 := Fin.ext (by rw [hE]; exact (emb10_at t y 3).trans (by show 0 * 384 + (y 3).val = _; omega))
  have hy : (y 0).val = 0 := Nat.lt_one_iff.mp (y 0).isLt
  rw [← hE]
  have hb : (E 0).val = t.val / 12 := by omega
  unfold Z10
  rw [h2, h3]
  exact P12_at m c t (E 0) hb (E 1) ⟨(y 1).val, lt_of_lt_of_eq (y 1).isLt trips1_eq.symm⟩ h1 (iblk m c 0 t) (iblk m c 1 t) (iblk m c 2 t) (iblk m c 3 t) (iblk m c 4 t) (iblk m c 5 t) (iblk m c 6 t) rfl rfl rfl rfl rfl rfl rfl (y 2) (y 3)

/-- Every index of the array is in some point's block. -/
theorem covered10 (x : S2x384x96x384.Idx) : ∃ t : Fin cfg0.N, (cfg0.win 10).flush t = true ∧ x ∈ ((cfg0.win 10).blk t).view.set := by
  have hx0 : (x 0).val < 2 := (x 0).isLt
  have hx1 : (x 1).val < 384 := (x 1).isLt
  have ht := ptOf_val (x 0) (x 1)
  generalize ptOf (x 0).val (x 1).val = t at ht
  refine ⟨t, flush10_at _, ?_⟩
  have h := ((cfg0.win 10).blk t).view.emb_mem_set (ix4 0 ⟨(x 1).val % 32, by omega⟩ (x 2) (x 3) : S1x32x96x384.Idx)
  have e : ((cfg0.win 10).blk t).view.emb (ix4 0 ⟨(x 1).val % 32, by omega⟩ (x 2) (x 3) : S1x32x96x384.Idx) = x := by
    funext a
    refine Fin.ext ?_
    rw [emb10_at]
    match a with
    | ⟨0, _⟩ => show t.val / 12 * 1 + 0 = (x 0).val; omega
    | ⟨1, _⟩ => show t.val % 12 * 32 + (x 1).val % 32 = (x 1).val; omega
    | ⟨2, _⟩ => show 0 * 96 + (x 2).val = (x 2).val; omega
    | ⟨3, _⟩ => show 0 * 384 + (x 3).val = (x 3).val; omega
  rwa [e] at h

/-- The array after the run is the specification's. -/
theorem final10 (c : Dev nD) : (dats m 0 c).arrAt 10 cfg0.N = Z10 m c :=
  (dats m 0 c).arrAt_eq_of_cover 10 (Z10 m c) (fun t _ => flushed10_eq m c t) covered10

end Cert.ProjectIdeal.Hand
end
-- ==== Proof.ProjectIdeal.Result.lean ====
module

public import proofs.«01_k».proof.Proof.ProjectIdeal.Arrays

@[expose] public section

set_option maxRecDepth 16384

/-! # The first call's run: its results are the specification's arrays -/

noncomputable section

namespace Cert.ProjectIdeal.Hand

open Cert.ProjectIdeal Cert.ProjectIdeal.Gen
open Idealize.ShloMosaic Idealize.ShloMosaic.TcCoe
open Idealize.SL.Sem

variable (m : (ℓ : Loc nD τ sig) → Buf (Elt Ideal) ℓ) (ρ : Dev nD → PrngReg)

/-- On a finite input the first call runs, its results are the specification's arrays and its arguments are unchanged. -/
theorem run_value :
    θ_run defs (onTc (τ := τ) (main (F := Ideal))) ⟨m, fun _ => 0, ρ⟩ fun r => ∀ c : Dev nD,
      r.2.mem ((c.tc : Thread nD τ).loc main_v16_0) = Z7 m c
      ∧ r.2.mem ((c.tc : Thread nD τ).loc main_v16_1) = Z8 m c
      ∧ r.2.mem ((c.tc : Thread nD τ).loc main_v16_2) = Z9 m c
      ∧ r.2.mem ((c.tc : Thread nD τ).loc main_v16_3) = Z10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(((dats m 0 c).toRForget_arrAt_iff (show fgt 7 = false from rfl) _ _).mp ((h.1 c).1 7)).trans (final7 m c),
      (((dats m 0 c).toRForget_arrAt_iff (show fgt 8 = false from rfl) _ _).mp ((h.1 c).1 8)).trans (final8 m c),
      (((dats m 0 c).toRForget_arrAt_iff (show fgt 9 = false from rfl) _ _).mp ((h.1 c).1 9)).trans (final9 m c),
      (((dats m 0 c).toRForget_arrAt_iff (show fgt 10 = false from rfl) _ _).mp ((h.1 c).1 10)).trans (final10 m c),
      (h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.ProjectIdeal.Hand
end
-- ==== Proof.ProjectReference.Value.lean ====
module

public import proofs.«01_k».proof.Proof.Gen.ProjectReferenceIdeal.Frame
public import proofs.«01_k».proof.Proof.ProjectSpec
public import Idealize.ShloMosaic.Lib.Pointwise
public import Idealize.ShloMosaic.Lib.Pipeline.ValueKit.Basic

@[expose] public section

set_option maxRecDepth 16384

/-! # What the first call's reference computes, at an index -/

noncomputable section

namespace Cert.ProjectReferenceIdeal.Hand

open Cert.ProjectReferenceIdeal Cert.ProjectReferenceIdeal.Gen
open Idealize.ShloMosaic Idealize.ShloMosaic.TcCoe

/-- The argument arrays as the specification takes them. -/
def args (x0 : Vec Ideal S2x384x384x128 .bf16) (x1 : Vec Ideal S2x384x384 .f32) (x2 : Vec Ideal S128 .f32)
    (x3 : Vec Ideal S128 .f32) (x4 : Vec Ideal S128x512 .fp8e4m3) (x5 : Vec Ideal S512 .f32) : ProjectSpec.Args where
  z b i j d := x0 (ix4 b i j d)
  mask b i j := x1 (ix3 b i j)
  gamma c := x2 (ix1 c)
  beta c := x3 (ix1 c)
  wIn d k := x4 (ix2 d k)
  sIn k := x5 (ix1 k)

/-! ## Steps over whole arrays -/

/-- A trailing unit axis changes no element. -/
theorem castUnit_at (w : FVec Ideal S2x384x384 .f32) (b : Fin 2) (i j : Fin 384) :
    shapeCast S2x384x384x1 w shapeCasts_S2x384x384_S2x384x384x1 (ix4 b i j 0) = w (ix3 b i j) := by
  pointwise

/-- A unit axis for the positions changes no element. -/
theorem castRow_at (w : FVec Ideal S2x384x96 .f32) (b : Fin 2) (i : Fin 384) (c : Fin 96) :
    shapeCast S2x384x1x96 w shapeCasts_S2x384x96_S2x384x1x96 (ix4 b i 0 c) = w (ix3 b i c) := by
  pointwise

/-- The reduction by maximum over the channels, of magnitudes. -/
theorem rowMax_at (y : FVec Ideal S2x384x384x128 .f32) (b : Fin 2) (i j : Fin 384) :
    multiReduction .maximumf [3] S2x384x384 (absf y) 0xFF800000#32 reduces_S2x384x384x128_S2x384x384 (.inl rfl) rfl (ix3 b i j)
     = Finset.fold max (Ideal.ofBits FTy.f32 4286578688#32) (fun x => FloatOps.absf (y (ix4 b i j x))) Finset.univ := by
  pointwise

/-- The reduction by maximum over the positions, of magnitudes. -/
theorem colMax_at (y : FVec Ideal S2x384x384x96 .f32) (b : Fin 2) (i : Fin 384) (c : Fin 96) :
    multiReduction .maximumf [2] S2x384x96 (absf y) 0xFF800000#32 reduces_S2x384x384x96_S2x384x96 (.inl rfl) rfl (ix3 b i c)
     = Finset.fold max (Ideal.ofBits FTy.f32 4286578688#32) (fun x => FloatOps.absf (y (ix4 b i x c))) Finset.univ := by
  pointwise

/-- The choice of the scale from the largest magnitude of a position. -/
theorem scaleSelect_at (m : FVec Ideal S2x384x384x1 .f32) (b : Fin 2) (i j : Fin 384) :
    select (cmpf .oeq m (broadcast S2x384x384x1 (FloatOps.ofBits FTy.f32 0#32))) (broadcast S2x384x384x1 (FloatOps.ofBits FTy.f32 1065353216#32))
      (divf m (broadcast S2x384x384x1 (FloatOps.ofBits FTy.f32 1138753536#32))) (ix4 b i j 0)
     = if m (ix4 b i j 0) = 0 then 1 else Ideal.div (m (ix4 b i j 0)) (Ideal.ofBits .f32 1138753536#32) := by
  pointwise

/-- The choice of the scale from the largest magnitude of a row's channel. -/
theorem scaleSelectRow_at (m : FVec Ideal S2x384x1x96 .f32) (b : Fin 2) (i : Fin 384) (c : Fin 96) :
    select (cmpf .oeq m (broadcast S2x384x1x96 (FloatOps.ofBits FTy.f32 0#32))) (broadcast S2x384x1x96 (FloatOps.ofBits FTy.f32 1065353216#32))
      (divf m (broadcast S2x384x1x96 (FloatOps.ofBits FTy.f32 1138753536#32))) (ix4 b i 0 c)
     = if m (ix4 b i 0 c) = 0 then 1 else Ideal.div (m (ix4 b i 0 c)) (Ideal.ofBits .f32 1138753536#32) := by
  pointwise

/-- Clipping of the quotient by one value for each position. -/
theorem clipDiv_at (y : FVec Ideal S2x384x384x128 .f32) (m : FVec Ideal S2x384x384x1 .f32) (b : Fin 2) (i j : Fin 384) (c : Fin 128) :
    minimumf (broadcast S2x384x384x128 (Scalar.ofBits (F := Ideal) .f32 0x43E00000#32)) (maximumf (broadcast S2x384x384x128 (Scalar.ofBits .f32 0xC3E00000#32))
      (divf y (broadcastTo S2x384x384x128 m broadcasts_S2x384x384x1_S2x384x384x128))) (ix4 b i j c)
     = min (Ideal.ofBits .f32 1138753536#32) (max (Ideal.ofBits .f32 3286237184#32) (Ideal.div (y (ix4 b i j c)) (m (ix4 b i j 0)))) := by
  pointwise

/-- Clipping of the quotient by one value for each row and channel. -/
theorem clipDivRow_at (y : FVec Ideal S2x384x384x96 .f32) (m : FVec Ideal S2x384x1x96 .f32) (b : Fin 2) (i j : Fin 384) (c : Fin 96) :
    minimumf (broadcast S2x384x384x96 (Scalar.ofBits (F := Ideal) .f32 0x43E00000#32)) (maximumf (broadcast S2x384x384x96 (Scalar.ofBits .f32 0xC3E00000#32))
      (divf y (broadcastTo S2x384x384x96 m broadcasts_S2x384x1x96_S2x384x384x96))) (ix4 b i j c)
     = min (Ideal.ofBits .f32 1138753536#32) (max (Ideal.ofBits .f32 3286237184#32) (Ideal.div (y (ix4 b i j c)) (m (ix4 b i 0 c)))) := by
  pointwise

/-- A swap of positions and channels. -/
theorem swap_at (w : FVec Ideal S2x384x384x96 .fp8e4m3) (b : Fin 2) (i : Fin 384) (c : Fin 96) (j : Fin 384) :
    k0_pay1 (F := Ideal) w (ix4 b i c j) = w (ix4 b i j c) := by
  pointwise [k0_pay1]

/-- The same swap, of any codes. -/
theorem swapRaw_at (w : FVec Ideal S2x384x384x96 .fp8e4m3) (b : Fin 2) (i : Fin 384) (c : Fin 96) (j : Fin 384) :
    transpose S2x384x96x384 [0, 1, 3, 2] w transposes_S2x384x384x96_p0_1_3_2_S2x384x96x384 (ix4 b i c j) = w (ix4 b i j c) := by
  pointwise

section
variable (x0 : Vec Ideal S2x384x384x128 .bf16) (x1 : Vec Ideal S2x384x384 .f32) (x2 : Vec Ideal S128 .f32)
    (x3 : Vec Ideal S128 .f32) (x4 : Vec Ideal S128x512 .fp8e4m3) (x5 : Vec Ideal S512 .f32)

theorem pay3_at (b : Fin 2) (i j : Fin 384) (c : Fin 128) :
    k0_pay3 (F := Ideal) x0 x2 x3 (ix4 b i j c) = ProjectSpec.normed (args x0 x1 x2 x3 x4 x5) b i j c := by
  pointwise [k0_pay3]
  simp only [ProjectSpec.normed, ProjectSpec.norm, ProjectSpec.cen, ProjectSpec.std, args]

theorem pay4_at (b : Fin 2) (i j : Fin 384) :
    k0_pay4 (F := Ideal) x0 x2 x3 (ix4 b i j 0) = ProjectSpec.scale (ProjectSpec.normed (args x0 x1 x2 x3 x4 x5) b i j) := by
  unfold k0_pay4
  refine (scaleSelect_at _ b i j).trans ?_
  rw [castUnit_at, rowMax_at]
  simp only [pay3_at x0 x1 x2 x3 x4 x5, ProjectSpec.scale, ProjectSpec.amax, FloatOps.absf]
  exact if_congr Iff.rfl rfl rfl

theorem pay5_at (b : Fin 2) (i j : Fin 384) (c : Fin 128) :
    k0_pay5 (F := Ideal) x0 x2 x3 (ix4 b i j c) = ProjectSpec.code (ProjectSpec.normed (args x0 x1 x2 x3 x4 x5) b i j) c := by
  unfold k0_pay5
  refine (clipDiv_at _ _ b i j c).trans ?_
  rw [pay3_at x0 x1 x2 x3 x4 x5, pay4_at x0 x1 x2 x3 x4 x5, ProjectSpec.code]

theorem pay6_at (b : Fin 2) (i j : Fin 384) :
    k0_pay6 (F := Ideal) x0 x2 x3 (ix3 b i j) = ProjectSpec.scale (ProjectSpec.normed (args x0 x1 x2 x3 x4 x5) b i j) := by
  have e : k0_pay6 (F := Ideal) x0 x2 x3 (ix3 b i j) = k0_pay4 (F := Ideal) x0 x2 x3 (ix4 b i j 0) := by
    unfold k0_pay6
    generalize k0_pay4 (F := Ideal) x0 x2 x3 = w
    pointwise
  rw [e, pay4_at x0 x1 x2 x3 x4 x5]

section
variable (v41 : FVec Ideal S2x384x384x128 .fp8e4m3) (v42 : FVec Ideal S2x384x384 .f32) (v43 : Vec Ideal S128x384 .fp8e4m3)
  (v48 : Vec Ideal S384 .f32)

theorem pay7_at (b : Fin 2) (i j k : Fin 384) :
    k0_pay7 (F := Ideal) v41 v42 v43 v48 (ix4 b i j k)
      = (∑ e, v41 (ix4 b i j e) * v43 (ix2 e k)) * v42 (ix3 b i j) * v48 (ix1 k) := by
  pointwise [k0_pay7]

theorem gatedA_at (P : FVec Ideal S2x384x384x384 .f32) (b : Fin 2) (i j : Fin 384) (c : Fin 96) :
    mulf (mulf (broadcastTo S2x384x384x96 (k0_pay8 x1) broadcasts_S2x384x384x1_S2x384x384x96)
        (logistic (extractStridedSlice S2x384x384x96 ![0, 0, 0, 96] P slices_S2x384x384x384_o0_0_0_96_S2x384x384x96)))
      (extractStridedSlice S2x384x384x96 ![0, 0, 0, 0] P slices_S2x384x384x384_o0_0_0_0_S2x384x384x96) (ix4 b i j c)
      = x1 (ix3 b i j) * Ideal.logistic (P (ix4 b i j ⟨96 + c, by omega⟩)) * P (ix4 b i j ⟨c, by omega⟩) := by
  pointwise [k0_pay8]

theorem gatedB_at (P : FVec Ideal S2x384x384x384 .f32) (b : Fin 2) (i j : Fin 384) (c : Fin 96) :
    mulf (mulf (broadcastTo S2x384x384x96 (k0_pay8 x1) broadcasts_S2x384x384x1_S2x384x384x96)
        (logistic (extractStridedSlice S2x384x384x96 ![0, 0, 0, 288] P slices_S2x384x384x384_o0_0_0_288_S2x384x384x96)))
      (extractStridedSlice S2x384x384x96 ![0, 0, 0, 192] P slices_S2x384x384x384_o0_0_0_192_S2x384x384x96) (ix4 b i j c)
      = x1 (ix3 b i j) * Ideal.logistic (P (ix4 b i j ⟨288 + c, by omega⟩)) * P (ix4 b i j ⟨192 + c, by omega⟩) := by
  pointwise [k0_pay8]

theorem pay10_at (b : Fin 2) (i j : Fin 384) (c : Fin 96) :
    k0_pay10 (F := Ideal) v41 v42 v43 v48 x1 (ix4 b i j c)
      = x1 (ix3 b i j) * Ideal.logistic (k0_pay7 (F := Ideal) v41 v42 v43 v48 (ix4 b i j ⟨288 + c, by omega⟩))
        * k0_pay7 (F := Ideal) v41 v42 v43 v48 (ix4 b i j ⟨192 + c, by omega⟩) := by
  unfold k0_pay10
  exact gatedB_at x1 _ b i j c

/-- The clipped quotient of one row's channel by its scale. -/
theorem quantise_at (y : FVec Ideal S2x384x384x96 .f32) (b : Fin 2) (i j : Fin 384) (c : Fin 96) :
    minimumf (broadcast S2x384x384x96 (Scalar.ofBits (F := Ideal) .f32 0x43E00000#32)) (maximumf (broadcast S2x384x384x96 (Scalar.ofBits .f32 0xC3E00000#32))
      (divf y (broadcastTo S2x384x384x96
        (select (cmpf .oeq (shapeCast S2x384x1x96 (multiReduction .maximumf [2] S2x384x96 (absf y) 0xFF800000#32 reduces_S2x384x384x96_S2x384x96 (.inl rfl) rfl) shapeCasts_S2x384x96_S2x384x1x96)
            (broadcast S2x384x1x96 (FloatOps.ofBits FTy.f32 0#32))) (broadcast S2x384x1x96 (FloatOps.ofBits FTy.f32 1065353216#32))
          (divf (shapeCast S2x384x1x96 (multiReduction .maximumf [2] S2x384x96 (absf y) 0xFF800000#32 reduces_S2x384x384x96_S2x384x96 (.inl rfl) rfl) shapeCasts_S2x384x96_S2x384x1x96)
            (broadcast S2x384x1x96 (FloatOps.ofBits FTy.f32 1138753536#32))))
        broadcasts_S2x384x1x96_S2x384x384x96))) (ix4 b i j c)
     = ProjectSpec.code (fun j => y (ix4 b i j c)) j := by
  refine (clipDivRow_at _ _ b i j c).trans ?_
  rw [scaleSelectRow_at, castRow_at, colMax_at]
  simp only [ProjectSpec.code, ProjectSpec.scale, ProjectSpec.amax, FloatOps.absf]

theorem pay9_at (b : Fin 2) (i j : Fin 384) (c : Fin 96) :
    k0_pay9 (F := Ideal) v41 v42 v43 v48 x1 (ix4 b i j c)
      = ProjectSpec.code (fun j => x1 (ix3 b i j) * Ideal.logistic (k0_pay7 (F := Ideal) v41 v42 v43 v48 (ix4 b i j ⟨96 + c, by omega⟩))
        * k0_pay7 (F := Ideal) v41 v42 v43 v48 (ix4 b i j ⟨c, by omega⟩)) j := by
  unfold k0_pay9
  refine (quantise_at _ b i j c).trans ?_
  congr 1
  funext j
  exact gatedA_at x1 _ b i j c

theorem pay2_at (b : Fin 2) (i : Fin 384) (c : Fin 96) (j : Fin 384) :
    k0_pay2 (F := Ideal) (k0_pay10 (F := Ideal) v41 v42 v43 v48 x1) (k0_pay11 (F := Ideal) v41 v42 v43 v48 x1)
        (k0_pay12 (F := Ideal) v41 v42 v43 v48 x1) (Scalar.ofBits .f32 0x43E00000#32) (ix4 b i c j)
      = ProjectSpec.code (fun j => x1 (ix3 b i j) * Ideal.logistic (k0_pay7 (F := Ideal) v41 v42 v43 v48 (ix4 b i j ⟨288 + c, by omega⟩))
        * k0_pay7 (F := Ideal) v41 v42 v43 v48 (ix4 b i j ⟨192 + c, by omega⟩)) j := by
  have e : (fun j => x1 (ix3 b i j) * Ideal.logistic (k0_pay7 (F := Ideal) v41 v42 v43 v48 (ix4 b i j ⟨288 + c, by omega⟩))
        * k0_pay7 (F := Ideal) v41 v42 v43 v48 (ix4 b i j ⟨192 + c, by omega⟩))
      = fun j => k0_pay10 (F := Ideal) v41 v42 v43 v48 x1 (ix4 b i j c) :=
    funext fun j => (pay10_at x1 v41 v42 v43 v48 b i j c).symm
  rw [e]
  unfold k0_pay12 k0_pay11
  generalize k0_pay10 (F := Ideal) v41 v42 v43 v48 x1 = y
  unfold k0_pay2
  refine (swapRaw_at _ b i c j).trans ?_
  exact quantise_at y b i j c

end

/-! ## The loads and stores -/

theorem ld_whole0 {e : EltTy} (x : Vec Ideal S2x384x384x128 e) : View.ld x r0_0 = x := View.ld_unit_lit _ _ (by decide)
theorem ld_whole1 {e : EltTy} (x : Vec Ideal S128 e) : View.ld x r0_1 = x := View.ld_unit_lit _ _ (by decide)
theorem ld_whole4 {e : EltTy} (x : Vec Ideal S2x384x384 e) : View.ld x r0_4 = x := View.ld_unit_lit _ _ (by decide)

theorem ld_wIn (w : Vec Ideal S128x384 .fp8e4m3) (hw : w = View.ld x4 r0_2) (d : Fin 128) (e : Fin 384) :
    w (ix2 d e) = x4 (ix2 d ⟨e, by omega⟩) := by
  subst hw
  exact congrArg x4 (funext fun a => by match a with
    | ⟨0, _⟩ => exact Fin.ext (by show 0 + 1 * d.val = d.val; omega)
    | ⟨1, _⟩ => exact Fin.ext (by show 0 + 1 * e.val = e.val; omega))

theorem ld_sIn (w : Vec Ideal S384 .f32) (hw : w = View.ld x5 r0_3) (e : Fin 384) : w (ix1 e) = x5 (ix1 ⟨e, by omega⟩) := by
  subst hw
  exact congrArg x5 (funext fun a => by match a with
    | ⟨0, _⟩ => exact Fin.ext (by show 0 + 1 * e.val = e.val; omega))

/-- The projection that the reference forms is the specification's. -/
theorem proj_eq (b : Fin 2) (i j k : Fin 384) :
    k0_pay7 (F := Ideal) (k0_pay5 (F := Ideal) x0 x2 x3) (k0_pay6 (F := Ideal) x0 x2 x3) (View.ld x4 r0_2) (View.ld x5 r0_3) (ix4 b i j k)
      = ProjectSpec.proj (args x0 x1 x2 x3 x4 x5) b i j k := by
  obtain ⟨w4, h4⟩ : ∃ w : Vec Ideal S128x384 .fp8e4m3, w = View.ld x4 r0_2 := ⟨_, rfl⟩
  obtain ⟨w5, h5⟩ : ∃ w : Vec Ideal S384 .f32, w = View.ld x5 r0_3 := ⟨_, rfl⟩
  rw [← h4, ← h5, pay7_at]
  simp only [pay5_at x0 x1 x2 x3 x4 x5, pay6_at x0 x1 x2 x3 x4 x5, ld_wIn x4 w4 h4, ld_sIn x5 w5 h5, ProjectSpec.proj]
  rfl

theorem out_q_at (b : Fin 2) (i j : Fin 384) (d : Fin 128) :
    out0_6 (F := Ideal) x0 x1 x2 x3 x4 x5 (ix4 b i j d) = ProjectSpec.outQ (args x0 x1 x2 x3 x4 x5) b i j d := by
  unfold out0_6 k0_pay13
  rw [View.canon_cons_unit_lit _ _ _ (by decide), ld_whole0, ld_whole1, ld_whole1, pay5_at x0 x1 x2 x3 x4 x5, ProjectSpec.outQ]

theorem out_s_at (b : Fin 2) (i j : Fin 384) :
    out0_7 (F := Ideal) x0 x1 x2 x3 x4 x5 (ix3 b i j) = ProjectSpec.outS (args x0 x1 x2 x3 x4 x5) b i j := by
  unfold out0_7 k0_pay14
  rw [View.canon_cons_unit_lit _ _ _ (by decide), ld_whole0, ld_whole1, ld_whole1, pay6_at x0 x1 x2 x3 x4 x5, ProjectSpec.outS]

theorem out_a_at (b : Fin 2) (i : Fin 384) (c : Fin 96) (j : Fin 384) :
    out0_8 (F := Ideal) x0 x1 x2 x3 x4 x5 (ix4 b i c j) = ProjectSpec.outA (args x0 x1 x2 x3 x4 x5) b i c j := by
  unfold out0_8 k0_pay13 k0_pay14
  rw [View.canon_cons_unit_lit _ _ _ (by decide), ld_whole0, ld_whole1, ld_whole1, ld_whole4, swap_at, pay9_at]
  simp only [proj_eq x0 x1 x2 x3 x4 x5]
  rfl

theorem out_b_at (b : Fin 2) (i : Fin 384) (c : Fin 96) (j : Fin 384) :
    out0_9 (F := Ideal) x0 x1 x2 x3 x4 x5 (ix4 b i c j) = ProjectSpec.outB (args x0 x1 x2 x3 x4 x5) b i c j := by
  unfold out0_9 k0_pay13 k0_pay14
  rw [View.canon_cons_unit_lit _ _ _ (by decide), ld_whole0, ld_whole1, ld_whole1, ld_whole4, pay2_at]
  simp only [proj_eq x0 x1 x2 x3 x4 x5]
  rfl

end

end Cert.ProjectReferenceIdeal.Hand
end
-- ==== Proof.ProjectReference.Result.lean ====
module

public import proofs.«01_k».proof.Proof.ProjectReference.Value
public import Idealize.ShloMosaic.Lib.Pipeline.Value

@[expose] public section

set_option maxRecDepth 16384

/-! # The first call's reference: its results are the specification's arrays -/

noncomputable section

namespace Cert.ProjectReferenceIdeal.Hand

open Cert.ProjectReferenceIdeal Cert.ProjectReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Core `c`'s argument arrays as the specification takes them. -/
def margs (c : Dev nD) : ProjectSpec.Args :=
  args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-! ## Every window is a whole array -/

theorem idx0 : ∀ (t : Fin cfg0.N) (a : Fin 4), win0_0.index t a = 0 := (by decide +kernel : ∀ (t : Fin grid0.N) (a : Fin 4), _)
theorem emb0 (t : Fin cfg0.N) (j : S2x384x384x128.Idx) : ((cfg0.win 0).blk t).view.emb j = j := funext fun a => Fin.ext <| match a with
  | ⟨0, h⟩ => by
    have e := idx0 t ⟨0, h⟩
    show win0_0.index t ⟨0, h⟩ * 2 + 1 * (j ⟨0, h⟩).val = (j ⟨0, h⟩).val
    rw [e]; omega
  | ⟨1, h⟩ => by
    have e := idx0 t ⟨1, h⟩
    show win0_0.index t ⟨1, h⟩ * 384 + 1 * (j ⟨1, h⟩).val = (j ⟨1, h⟩).val
    rw [e]; omega
  | ⟨2, h⟩ => by
    have e := idx0 t ⟨2, h⟩
    show win0_0.index t ⟨2, h⟩ * 384 + 1 * (j ⟨2, h⟩).val = (j ⟨2, h⟩).val
    rw [e]; omega
  | ⟨3, h⟩ => by
    have e := idx0 t ⟨3, h⟩
    show win0_0.index t ⟨3, h⟩ * 128 + 1 * (j ⟨3, h⟩).val = (j ⟨3, h⟩).val
    rw [e]; omega

theorem idx1 : ∀ (t : Fin cfg0.N) (a : Fin 3), win0_1.index t a = 0 := (by decide +kernel : ∀ (t : Fin grid0.N) (a : Fin 3), _)
theorem emb1 (t : Fin cfg0.N) (j : S2x384x384.Idx) : ((cfg0.win 1).blk t).view.emb j = j := funext fun a => Fin.ext <| match a with
  | ⟨0, h⟩ => by
    have e := idx1 t ⟨0, h⟩
    show win0_1.index t ⟨0, h⟩ * 2 + 1 * (j ⟨0, h⟩).val = (j ⟨0, h⟩).val
    rw [e]; omega
  | ⟨1, h⟩ => by
    have e := idx1 t ⟨1, h⟩
    show win0_1.index t ⟨1, h⟩ * 384 + 1 * (j ⟨1, h⟩).val = (j ⟨1, h⟩).val
    rw [e]; omega
  | ⟨2, h⟩ => by
    have e := idx1 t ⟨2, h⟩
    show win0_1.index t ⟨2, h⟩ * 384 + 1 * (j ⟨2, h⟩).val = (j ⟨2, h⟩).val
    rw [e]; omega

theorem idx2 : ∀ (t : Fin cfg0.N) (a : Fin 1), win0_2.index t a = 0 := (by decide +kernel : ∀ (t : Fin grid0.N) (a : Fin 1), _)
theorem emb2 (t : Fin cfg0.N) (j : S128.Idx) : ((cfg0.win 2).blk t).view.emb j = j := funext fun a => Fin.ext <| match a with
  | ⟨0, h⟩ => by
    have e := idx2 t ⟨0, h⟩
    show win0_2.index t ⟨0, h⟩ * 128 + 1 * (j ⟨0, h⟩).val = (j ⟨0, h⟩).val
    rw [e]; omega

theorem idx3 : ∀ (t : Fin cfg0.N) (a : Fin 1), win0_3.index t a = 0 := (by decide +kernel : ∀ (t : Fin grid0.N) (a : Fin 1), _)
theorem emb3 (t : Fin cfg0.N) (j : S128.Idx) : ((cfg0.win 3).blk t).view.emb j = j := funext fun a => Fin.ext <| match a with
  | ⟨0, h⟩ => by
    have e := idx3 t ⟨0, h⟩
    show win0_3.index t ⟨0, h⟩ * 128 + 1 * (j ⟨0, h⟩).val = (j ⟨0, h⟩).val
    rw [e]; omega

theorem idx4 : ∀ (t : Fin cfg0.N) (a : Fin 2), win0_4.index t a = 0 := (by decide +kernel : ∀ (t : Fin grid0.N) (a : Fin 2), _)
theorem emb4 (t : Fin cfg0.N) (j : S128x512.Idx) : ((cfg0.win 4).blk t).view.emb j = j := funext fun a => Fin.ext <| match a with
  | ⟨0, h⟩ => by
    have e := idx4 t ⟨0, h⟩
    show win0_4.index t ⟨0, h⟩ * 128 + 1 * (j ⟨0, h⟩).val = (j ⟨0, h⟩).val
    rw [e]; omega
  | ⟨1, h⟩ => by
    have e := idx4 t ⟨1, h⟩
    show win0_4.index t ⟨1, h⟩ * 512 + 1 * (j ⟨1, h⟩).val = (j ⟨1, h⟩).val
    rw [e]; omega

theorem idx5 : ∀ (t : Fin cfg0.N) (a : Fin 1), win0_5.index t a = 0 := (by decide +kernel : ∀ (t : Fin grid0.N) (a : Fin 1), _)
theorem emb5 (t : Fin cfg0.N) (j : S512.Idx) : ((cfg0.win 5).blk t).view.emb j = j := funext fun a => Fin.ext <| match a with
  | ⟨0, h⟩ => by
    have e := idx5 t ⟨0, h⟩
    show win0_5.index t ⟨0, h⟩ * 512 + 1 * (j ⟨0, h⟩).val = (j ⟨0, h⟩).val
    rw [e]; omega

theorem idx6 : ∀ (t : Fin cfg0.N) (a : Fin 4), win0_6.index t a = 0 := (by decide +kernel : ∀ (t : Fin grid0.N) (a : Fin 4), _)
theorem emb6 (t : Fin cfg0.N) (j : S2x384x384x128.Idx) : ((cfg0.win 6).blk t).view.emb j = j := funext fun a => Fin.ext <| match a with
  | ⟨0, h⟩ => by
    have e := idx6 t ⟨0, h⟩
    show win0_6.index t ⟨0, h⟩ * 2 + 1 * (j ⟨0, h⟩).val = (j ⟨0, h⟩).val
    rw [e]; omega
  | ⟨1, h⟩ => by
    have e := idx6 t ⟨1, h⟩
    show win0_6.index t ⟨1, h⟩ * 384 + 1 * (j ⟨1, h⟩).val = (j ⟨1, h⟩).val
    rw [e]; omega
  | ⟨2, h⟩ => by
    have e := idx6 t ⟨2, h⟩
    show win0_6.index t ⟨2, h⟩ * 384 + 1 * (j ⟨2, h⟩).val = (j ⟨2, h⟩).val
    rw [e]; omega
  | ⟨3, h⟩ => by
    have e := idx6 t ⟨3, h⟩
    show win0_6.index t ⟨3, h⟩ * 128 + 1 * (j ⟨3, h⟩).val = (j ⟨3, h⟩).val
    rw [e]; omega

theorem idx7 : ∀ (t : Fin cfg0.N) (a : Fin 3), win0_7.index t a = 0 := (by decide +kernel : ∀ (t : Fin grid0.N) (a : Fin 3), _)
theorem emb7 (t : Fin cfg0.N) (j : S2x384x384.Idx) : ((cfg0.win 7).blk t).view.emb j = j := funext fun a => Fin.ext <| match a with
  | ⟨0, h⟩ => by
    have e := idx7 t ⟨0, h⟩
    show win0_7.index t ⟨0, h⟩ * 2 + 1 * (j ⟨0, h⟩).val = (j ⟨0, h⟩).val
    rw [e]; omega
  | ⟨1, h⟩ => by
    have e := idx7 t ⟨1, h⟩
    show win0_7.index t ⟨1, h⟩ * 384 + 1 * (j ⟨1, h⟩).val = (j ⟨1, h⟩).val
    rw [e]; omega
  | ⟨2, h⟩ => by
    have e := idx7 t ⟨2, h⟩
    show win0_7.index t ⟨2, h⟩ * 384 + 1 * (j ⟨2, h⟩).val = (j ⟨2, h⟩).val
    rw [e]; omega

theorem idx8 : ∀ (t : Fin cfg0.N) (a : Fin 4), win0_8.index t a = 0 := (by decide +kernel : ∀ (t : Fin grid0.N) (a : Fin 4), _)
theorem emb8 (t : Fin cfg0.N) (j : S2x384x96x384.Idx) : ((cfg0.win 8).blk t).view.emb j = j := funext fun a => Fin.ext <| match a with
  | ⟨0, h⟩ => by
    have e := idx8 t ⟨0, h⟩
    show win0_8.index t ⟨0, h⟩ * 2 + 1 * (j ⟨0, h⟩).val = (j ⟨0, h⟩).val
    rw [e]; omega
  | ⟨1, h⟩ => by
    have e := idx8 t ⟨1, h⟩
    show win0_8.index t ⟨1, h⟩ * 384 + 1 * (j ⟨1, h⟩).val = (j ⟨1, h⟩).val
    rw [e]; omega
  | ⟨2, h⟩ => by
    have e := idx8 t ⟨2, h⟩
    show win0_8.index t ⟨2, h⟩ * 96 + 1 * (j ⟨2, h⟩).val = (j ⟨2, h⟩).val
    rw [e]; omega
  | ⟨3, h⟩ => by
    have e := idx8 t ⟨3, h⟩
    show win0_8.index t ⟨3, h⟩ * 384 + 1 * (j ⟨3, h⟩).val = (j ⟨3, h⟩).val
    rw [e]; omega

theorem idx9 : ∀ (t : Fin cfg0.N) (a : Fin 4), win0_9.index t a = 0 := (by decide +kernel : ∀ (t : Fin grid0.N) (a : Fin 4), _)
theorem emb9 (t : Fin cfg0.N) (j : S2x384x96x384.Idx) : ((cfg0.win 9).blk t).view.emb j = j := funext fun a => Fin.ext <| match a with
  | ⟨0, h⟩ => by
    have e := idx9 t ⟨0, h⟩
    show win0_9.index t ⟨0, h⟩ * 2 + 1 * (j ⟨0, h⟩).val = (j ⟨0, h⟩).val
    rw [e]; omega
  | ⟨1, h⟩ => by
    have e := idx9 t ⟨1, h⟩
    show win0_9.index t ⟨1, h⟩ * 384 + 1 * (j ⟨1, h⟩).val = (j ⟨1, h⟩).val
    rw [e]; omega
  | ⟨2, h⟩ => by
    have e := idx9 t ⟨2, h⟩
    show win0_9.index t ⟨2, h⟩ * 96 + 1 * (j ⟨2, h⟩).val = (j ⟨2, h⟩).val
    rw [e]; omega
  | ⟨3, h⟩ => by
    have e := idx9 t ⟨3, h⟩
    show win0_9.index t ⟨3, h⟩ * 384 + 1 * (j ⟨3, h⟩).val = (j ⟨3, h⟩).val
    rw [e]; omega

theorem iblk0_eq (c : Dev nD) (t : Fin cfg0.N) : iblk m c 0 t = m ((c.tc : Thread nD τ).loc main_arg0) := by
  funext j
  show V m c main_arg0 (((cfg0.win 0).blk t).view.emb j) = V m c main_arg0 j
  rw [emb0]
theorem iblk1_eq (c : Dev nD) (t : Fin cfg0.N) : iblk m c 1 t = m ((c.tc : Thread nD τ).loc main_arg1) := by
  funext j
  show V m c main_arg1 (((cfg0.win 1).blk t).view.emb j) = V m c main_arg1 j
  rw [emb1]
theorem iblk2_eq (c : Dev nD) (t : Fin cfg0.N) : iblk m c 2 t = m ((c.tc : Thread nD τ).loc main_arg2) := by
  funext j
  show V m c main_arg2 (((cfg0.win 2).blk t).view.emb j) = V m c main_arg2 j
  rw [emb2]
theorem iblk3_eq (c : Dev nD) (t : Fin cfg0.N) : iblk m c 3 t = m ((c.tc : Thread nD τ).loc main_arg3) := by
  funext j
  show V m c main_arg3 (((cfg0.win 3).blk t).view.emb j) = V m c main_arg3 j
  rw [emb3]
theorem iblk4_eq (c : Dev nD) (t : Fin cfg0.N) : iblk m c 4 t = m ((c.tc : Thread nD τ).loc main_arg4) := by
  funext j
  show V m c main_arg4 (((cfg0.win 4).blk t).view.emb j) = V m c main_arg4 j
  rw [emb4]
theorem iblk5_eq (c : Dev nD) (t : Fin cfg0.N) : iblk m c 5 t = m ((c.tc : Thread nD τ).loc main_arg5) := by
  funext j
  show V m c main_arg5 (((cfg0.win 5).blk t).view.emb j) = V m c main_arg5 j
  rw [emb5]

/-! ## The result arrays -/

/-- The specification's array. -/
def Z6 (c : Dev nD) : Vec Ideal S2x384x384x128 .fp8e4m3 := fun y => ProjectSpec.outQ (margs m c) (y 0) (y 1) (y 2) (y 3)

theorem flushed6_eq (c : Dev nD) (t : Fin cfg0.N) :
    (dats m 0 c).flushed 6 t = ((cfg0.win 6).blk t).view.read (Elt Ideal) (Z6 m c) := by
  show (cfg0.win 6).cut (grid0.coords t) ((dats m 0 c).after 6 t) = _
  rw [after0_6, iblk0_eq, iblk1_eq, iblk2_eq, iblk3_eq, iblk4_eq, iblk5_eq]
  funext y
  change S2x384x384x128.Idx at y
  have h := out_q_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2) (y 3)
  have e : ix4 (y 0) (y 1) (y 2) (y 3) = y := funext fun a => match a with
    | ⟨0, _⟩ => rfl
    | ⟨1, _⟩ => rfl
    | ⟨2, _⟩ => rfl
    | ⟨3, _⟩ => rfl
  have hE := emb6 t y
  generalize out0_6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X at h ⊢
  show X y = Z6 m c (((cfg0.win 6).blk t).view.emb y)
  rw [hE]
  exact (congrArg X e.symm).trans h

theorem covered6 (i : S2x384x384x128.Idx) : ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

theorem final6 (c : Dev nD) : (dats m 0 c).arrAt 6 cfg0.N = Z6 m c :=
  (dats m 0 c).arrAt_eq_of_cover 6 (Z6 m c) (fun t _ => flushed6_eq m c t) covered6

/-- The specification's array. -/
def Z7 (c : Dev nD) : Vec Ideal S2x384x384 .f32 := fun y => ProjectSpec.outS (margs m c) (y 0) (y 1) (y 2)

theorem flushed7_eq (c : Dev nD) (t : Fin cfg0.N) :
    (dats m 0 c).flushed 7 t = ((cfg0.win 7).blk t).view.read (Elt Ideal) (Z7 m c) := by
  show (cfg0.win 7).cut (grid0.coords t) ((dats m 0 c).after 7 t) = _
  rw [after0_7, iblk0_eq, iblk1_eq, iblk2_eq, iblk3_eq, iblk4_eq, iblk5_eq]
  funext y
  change S2x384x384.Idx at y
  have h := out_s_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2)
  have e : ix3 (y 0) (y 1) (y 2) = y := funext fun a => match a with
    | ⟨0, _⟩ => rfl
    | ⟨1, _⟩ => rfl
    | ⟨2, _⟩ => rfl
  have hE := emb7 t y
  generalize out0_7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X at h ⊢
  show X y = Z7 m c (((cfg0.win 7).blk t).view.emb y)
  rw [hE]
  exact (congrArg X e.symm).trans h

theorem covered7 (i : S2x384x384.Idx) : ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

theorem final7 (c : Dev nD) : (dats m 0 c).arrAt 7 cfg0.N = Z7 m c :=
  (dats m 0 c).arrAt_eq_of_cover 7 (Z7 m c) (fun t _ => flushed7_eq m c t) covered7

/-- The specification's array. -/
def Z8 (c : Dev nD) : Vec Ideal S2x384x96x384 .fp8e4m3 := fun y => ProjectSpec.outA (margs m c) (y 0) (y 1) (y 2) (y 3)

theorem flushed8_eq (c : Dev nD) (t : Fin cfg0.N) :
    (dats m 0 c).flushed 8 t = ((cfg0.win 8).blk t).view.read (Elt Ideal) (Z8 m c) := by
  show (cfg0.win 8).cut (grid0.coords t) ((dats m 0 c).after 8 t) = _
  rw [after0_8, iblk0_eq, iblk1_eq, iblk2_eq, iblk3_eq, iblk4_eq, iblk5_eq]
  funext y
  change S2x384x96x384.Idx at y
  have h := out_a_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2) (y 3)
  have e : ix4 (y 0) (y 1) (y 2) (y 3) = y := funext fun a => match a with
    | ⟨0, _⟩ => rfl
    | ⟨1, _⟩ => rfl
    | ⟨2, _⟩ => rfl
    | ⟨3, _⟩ => rfl
  have hE := emb8 t y
  generalize out0_8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X at h ⊢
  show X y = Z8 m c (((cfg0.win 8).blk t).view.emb y)
  rw [hE]
  exact (congrArg X e.symm).trans h

theorem covered8 (i : S2x384x96x384.Idx) : ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

theorem final8 (c : Dev nD) : (dats m 0 c).arrAt 8 cfg0.N = Z8 m c :=
  (dats m 0 c).arrAt_eq_of_cover 8 (Z8 m c) (fun t _ => flushed8_eq m c t) covered8

/-- The specification's array. -/
def Z9 (c : Dev nD) : Vec Ideal S2x384x96x384 .fp8e4m3 := fun y => ProjectSpec.outB (margs m c) (y 0) (y 1) (y 2) (y 3)

theorem flushed9_eq (c : Dev nD) (t : Fin cfg0.N) :
    (dats m 0 c).flushed 9 t = ((cfg0.win 9).blk t).view.read (Elt Ideal) (Z9 m c) := by
  show (cfg0.win 9).cut (grid0.coords t) ((dats m 0 c).after 9 t) = _
  rw [after0_9, iblk0_eq, iblk1_eq, iblk2_eq, iblk3_eq, iblk4_eq, iblk5_eq]
  funext y
  change S2x384x96x384.Idx at y
  have h := out_b_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2) (y 3)
  have e : ix4 (y 0) (y 1) (y 2) (y 3) = y := funext fun a => match a with
    | ⟨0, _⟩ => rfl
    | ⟨1, _⟩ => rfl
    | ⟨2, _⟩ => rfl
    | ⟨3, _⟩ => rfl
  have hE := emb9 t y
  generalize out0_9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X at h ⊢
  show X y = Z9 m c (((cfg0.win 9).blk t).view.emb y)
  rw [hE]
  exact (congrArg X e.symm).trans h

theorem covered9 (i : S2x384x96x384.Idx) : ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

theorem final9 (c : Dev nD) : (dats m 0 c).arrAt 9 cfg0.N = Z9 m c :=
  (dats m 0 c).arrAt_eq_of_cover 9 (Z9 m c) (fun t _ => flushed9_eq m c t) covered9

/-- The reference runs, its results are the specification's arrays and its arguments are unchanged. -/
theorem run : θ_run defs (onTc (τ := τ) (main (F := Ideal))) ⟨m, fun _ => 0, ρ⟩ fun r => ∀ c : Dev nD,
      r.2.mem ((c.tc : Thread nD τ).loc main_v0_0) = Z6 m c
      ∧ r.2.mem ((c.tc : Thread nD τ).loc main_v0_1) = Z7 m c
      ∧ r.2.mem ((c.tc : Thread nD τ).loc main_v0_2) = Z8 m c
      ∧ r.2.mem ((c.tc : Thread nD τ).loc main_v0_3) = Z9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c), ((h.1 c).1 7).trans (final7 m c), ((h.1 c).1 8).trans (final8 m c),
    ((h.1 c).1 9).trans (final9 m c), h.2 c⟩) (θ_run_and (run_main m ρ) (unchanged m ρ))

end Cert.ProjectReferenceIdeal.Hand
end
-- ==== Proof.lean ====
module

public import proofs.«01_k».proof.Defs
public import proofs.«01_k».proof.Proof.Gen.ReferenceIdeal.Value
public import proofs.«01_k».proof.Proof.Kernel.Hand
public import proofs.«01_k».proof.Proof.KernelIdeal.Hand
public import proofs.«01_k».proof.Proof.KernelIdeal.Result
public import proofs.«01_k».proof.Proof.Reference.Result
public import proofs.«01_k».proof.Proof.Gen.Reference.Frame
public import proofs.«01_k».proof.Proof.Gen.ProjectReference.Frame
public import proofs.«01_k».proof.Proof.Gen.ProjectReferenceIdeal.Frame
public import proofs.«01_k».proof.Proof.Project.Hand
public import proofs.«01_k».proof.Proof.ProjectIdeal.Hand
public import proofs.«01_k».proof.Proof.ProjectIdeal.Result
public import proofs.«01_k».proof.Proof.ProjectReference.Result

@[expose] public section

noncomputable section

namespace Cert.Proof

open Idealize.ShloMosaic Idealize.SL.Sem

/-- Equal argument arrays are equal arguments of the specification. -/
theorem margs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) : Cert.ReferenceIdeal.Hand.margs m' c = Cert.KernelIdeal.Hand.args m c := by
  obtain ⟨h0, h1, h2, h3, h4, h5, h6, h7, h8, h9, h10, h11, h12, h13⟩ := h
  unfold Cert.ReferenceIdeal.Hand.margs
  rw [h0, h1, h2, h3, h4, h5, h6, h7, h8, h9, h10, h11, h12, h13]
  rfl

/-- Equal argument arrays are equal arguments of the first call's specification. -/
theorem project_margs_eq (m : (ℓ : Loc Cert.ProjectIdeal.nD Cert.ProjectIdeal.τ Cert.ProjectIdeal.sig) → Buf (Elt Ideal) ℓ)
    (m' : (ℓ : Loc Cert.ProjectReferenceIdeal.nD Cert.ProjectReferenceIdeal.τ Cert.ProjectReferenceIdeal.sig) → Buf (Elt Ideal) ℓ)
    (c : Dev Cert.ProjectIdeal.nD)
    (h : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) : Cert.ProjectReferenceIdeal.Hand.margs m' c = Cert.ProjectIdeal.Hand.args m c := by
  obtain ⟨h0, h1, h2, h3, h4, h5⟩ := h
  unfold Cert.ProjectReferenceIdeal.Hand.margs
  rw [h0, h1, h2, h3, h4, h5]
  rfl

/-- The certificate's claims. -/
theorem claim : Cert.Claim := ⟨Cert.Kernel.Gen.facts, Cert.KernelIdeal.Gen.facts, Cert.Reference.Gen.facts, Cert.ReferenceIdeal.Gen.facts,
  Cert.Project.Gen.facts, Cert.ProjectIdeal.Gen.facts, Cert.ProjectReference.Gen.facts, Cert.ProjectReferenceIdeal.Gen.facts,
  fun m ρ _ => Cert.Kernel.Hand.frame m ρ,
  fun m ρ _ => Cert.KernelIdeal.Hand.frame m ρ,
  fun m ρ _ => Cert.Reference.Gen.frame m ρ,
  fun m ρ _ => Cert.ReferenceIdeal.Gen.frame m ρ,
  fun m ρ _ => Cert.Project.Hand.frame m ρ,
  fun m ρ _ => Cert.ProjectIdeal.Hand.frame m ρ,
  fun m ρ _ => Cert.ProjectReference.Gen.frame m ρ,
  fun m ρ _ => Cert.ProjectReferenceIdeal.Gen.frame m ρ,
  IdealRules.named_const.statement Cert.KernelIdeal.κ "inv_max" .f32 0x3B124925#32 ((1 / 448 : ℝ) : EReal) rfl,
  fun m ρ m' ρ' _ h => ⟨Cert.KernelIdeal.Hand.R11 m, Cert.KernelIdeal.Hand.R12 m, Cert.KernelIdeal.Hand.R13 m,
    Cert.KernelIdeal.Hand.R14 m, Cert.KernelIdeal.Hand.run_value m ρ,
    (θ_run _ _ _).mono (fun r hr c => by
      have e := margs_eq m m' c (h c)
      have hc := hr c
      rw [e] at hc
      exact hc) (Cert.ReferenceIdeal.Hand.run m' ρ')⟩,
  IdealRules.named_const.statement Cert.ProjectIdeal.κ "inv_max" .f32 0x3B124925#32 ((1 / 448 : ℝ) : EReal) rfl,
  fun m ρ m' ρ' _ h => ⟨Cert.ProjectIdeal.Hand.Z7 m, Cert.ProjectIdeal.Hand.Z8 m, Cert.ProjectIdeal.Hand.Z9 m,
    Cert.ProjectIdeal.Hand.Z10 m, Cert.ProjectIdeal.Hand.run_value m ρ,
    (θ_run _ _ _).mono (fun r hr c => by
      have e := project_margs_eq m m' c (h c)
      have hc := hr c
      unfold Cert.ProjectReferenceIdeal.Hand.Z6 Cert.ProjectReferenceIdeal.Hand.Z7 Cert.ProjectReferenceIdeal.Hand.Z8
        Cert.ProjectReferenceIdeal.Hand.Z9 at hc
      rw [e] at hc
      exact hc) (Cert.ProjectReferenceIdeal.Hand.run m' ρ')⟩⟩

end Cert.Proof

end
